-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_v4_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x4096 : Shape := ⟨3, ![3, 512, 4096]⟩
abbrev S4096x14336 : Shape := ⟨2, ![4096, 14336]⟩
abbrev S14336 : Shape := ⟨1, ![14336]⟩
abbrev S256x4096 : Shape := ⟨2, ![256, 4096]⟩
abbrev S256 : Shape := ⟨1, ![256]⟩
abbrev S7x256x256 : Shape := ⟨3, ![7, 256, 256]⟩
abbrev S7x256 : Shape := ⟨2, ![7, 256]⟩
abbrev S256x14336 : Shape := ⟨2, ![256, 14336]⟩
abbrev S7 : Shape := ⟨1, ![7]⟩
abbrev S1536x4096 : Shape := ⟨2, ![1536, 4096]⟩
abbrev S1x14336 : Shape := ⟨2, ![1, 14336]⟩
abbrev S1x256 : Shape := ⟨2, ![1, 256]⟩
abbrev S1536x14336 : Shape := ⟨2, ![1536, 14336]⟩
abbrev S3x512 : Shape := ⟨2, ![3, 512]⟩
abbrev S1536x256 : Shape := ⟨2, ![1536, 256]⟩
abbrev S4096x1024 : Shape := ⟨2, ![4096, 1024]⟩
abbrev S1x1024 : Shape := ⟨2, ![1, 1024]⟩
abbrev S256x1024 : Shape := ⟨2, ![256, 1024]⟩
abbrev S1536x1024 : Shape := ⟨2, ![1536, 1024]⟩
abbrev S2x256x4096 : Shape := ⟨3, ![2, 256, 4096]⟩
abbrev S1536x128 : Shape := ⟨2, ![1536, 128]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x1 : Shape := ⟨2, ![256, 1]⟩
abbrev S256x128 : Shape := ⟨2, ![256, 128]⟩
abbrev S256x256 : Shape := ⟨2, ![256, 256]⟩
abbrev S1x256x256 : Shape := ⟨3, ![1, 256, 256]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S512x4096 : Shape := ⟨2, ![512, 4096]⟩
abbrev S4096x512 : Shape := ⟨2, ![4096, 512]⟩
abbrev S512x512 : Shape := ⟨2, ![512, 512]⟩
abbrev S512x256 : Shape := ⟨2, ![512, 256]⟩
abbrev S256x512 : Shape := ⟨2, ![256, 512]⟩
abbrev S512x128 : Shape := ⟨2, ![512, 128]⟩
abbrev S1x512 : Shape := ⟨2, ![1, 512]⟩

abbrev nBuf : Space → Nat
  | .hbm => 21
  | .vmem => 25
  | .smem => 1
  | _ => 0

abbrev bufTy : (tb : Table) → Fin (tcTables nBuf tb) → BufTy
  | .hbm, ⟨0, _⟩ => ⟨S3x512x4096, .bf16⟩
  | .hbm, ⟨1, _⟩ => ⟨S4096x14336, .fp8e4m3⟩
  | .hbm, ⟨2, _⟩ => ⟨S14336, .f32⟩
  | .hbm, ⟨3, _⟩ => ⟨S256x4096, .fp8e4m3⟩
  | .hbm, ⟨4, _⟩ => ⟨S256, .f32⟩
  | .hbm, ⟨5, _⟩ => ⟨S7x256x256, .i8⟩
  | .hbm, ⟨6, _⟩ => ⟨S7x256, .f32⟩
  | .hbm, ⟨7, _⟩ => ⟨S256x14336, .fp8e4m3⟩
  | .hbm, ⟨8, _⟩ => ⟨S14336, .f32⟩
  | .hbm, ⟨9, _⟩ => ⟨S7, .i32⟩
  | .hbm, ⟨10, _⟩ => ⟨S1536x4096, .bf16⟩
  | .hbm, ⟨11, _⟩ => ⟨S1x14336, .f32⟩
  | .hbm, ⟨12, _⟩ => ⟨S1x256, .f32⟩
  | .hbm, ⟨13, _⟩ => ⟨S1x14336, .f32⟩
  | .hbm, ⟨14, _⟩ => ⟨S1536x14336, .bf16⟩
  | .hbm, ⟨15, _⟩ => ⟨S1536x4096, .fp8e4m3⟩
  | .hbm, ⟨16, _⟩ => ⟨S3x512, .f32⟩
  | .hbm, ⟨17, _⟩ => ⟨S1536x256, .i8⟩
  | .hbm, ⟨18, _⟩ => ⟨S3x512, .f32⟩
  | .hbm, ⟨19, _⟩ => ⟨S1536x256, .fp8e4m3⟩
  | .hbm, ⟨20, _⟩ => ⟨S3x512, .f32⟩
  | .local _ .vmem, ⟨0, _⟩ => ⟨S4096x1024, .fp8e4m3⟩
  | .local _ .vmem, ⟨1, _⟩ => ⟨S4096x1024, .fp8e4m3⟩
  | .local _ .vmem, ⟨2, _⟩ => ⟨S1x1024, .f32⟩
  | .local _ .vmem, ⟨3, _⟩ => ⟨S1x1024, .f32⟩
  | .local _ .vmem, ⟨4, _⟩ => ⟨S256x4096, .fp8e4m3⟩
  | .local _ .vmem, ⟨5, _⟩ => ⟨S1x256, .f32⟩
  | .local _ .vmem, ⟨6, _⟩ => ⟨S7x256x256, .i8⟩
  | .local _ .vmem, ⟨7, _⟩ => ⟨S7x256, .f32⟩
  | .local _ .vmem, ⟨8, _⟩ => ⟨S256x1024, .fp8e4m3⟩
  | .local _ .vmem, ⟨9, _⟩ => ⟨S256x1024, .fp8e4m3⟩
  | .local _ .vmem, ⟨10, _⟩ => ⟨S1x1024, .f32⟩
  | .local _ .vmem, ⟨11, _⟩ => ⟨S1x1024, .f32⟩
  | .local _ .vmem, ⟨12, _⟩ => ⟨S1536x1024, .bf16⟩
  | .local _ .vmem, ⟨13, _⟩ => ⟨S1536x1024, .bf16⟩
  | .local _ .vmem, ⟨14, _⟩ => ⟨S3x512, .f32⟩
  | .local _ .vmem, ⟨15, _⟩ => ⟨S1536x256, .i8⟩
  | .local _ .vmem, ⟨16, _⟩ => ⟨S3x512, .f32⟩
  | .local _ .vmem, ⟨17, _⟩ => ⟨S1536x256, .fp8e4m3⟩
  | .local _ .vmem, ⟨18, _⟩ => ⟨S3x512, .f32⟩
  | .local _ .vmem, ⟨19, _⟩ => ⟨S2x256x4096, .bf16⟩
  | .local _ .vmem, ⟨20, _⟩ => ⟨S1536x4096, .fp8e4m3⟩
  | .local _ .vmem, ⟨21, _⟩ => ⟨S1536x256, .fp8e4m3⟩
  | .local _ .vmem, ⟨22, _⟩ => ⟨S1536x128, .f32⟩
  | .local _ .vmem, ⟨23, _⟩ => ⟨S1536x128, .f32⟩
  | .local _ .vmem, ⟨24, _⟩ => ⟨S7x256x256, .bf16⟩
  | .local _ .smem, ⟨0, _⟩ => ⟨S7, .i32⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x256x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1536x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x256 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536x256 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S3x512x4096 : Shape := ⟨3, ![3, 512, 4096]⟩
abbrev S4096x14336 : Shape := ⟨2, ![4096, 14336]⟩
abbrev S14336 : Shape := ⟨1, ![14336]⟩
abbrev S256x4096 : Shape := ⟨2, ![256, 4096]⟩
abbrev S256 : Shape := ⟨1, ![256]⟩
abbrev S7x256x256 : Shape := ⟨3, ![7, 256, 256]⟩
abbrev S7x256 : Shape := ⟨2, ![7, 256]⟩
abbrev S256x14336 : Shape := ⟨2, ![256, 14336]⟩
abbrev S7 : Shape := ⟨1, ![7]⟩
abbrev S1536x4096 : Shape := ⟨2, ![1536, 4096]⟩
abbrev S1x14336 : Shape := ⟨2, ![1, 14336]⟩
abbrev S1x256 : Shape := ⟨2, ![1, 256]⟩
abbrev S1536x14336 : Shape := ⟨2, ![1536, 14336]⟩
abbrev S3x512 : Shape := ⟨2, ![3, 512]⟩
abbrev S1536x256 : Shape := ⟨2, ![1536, 256]⟩
abbrev S1536 : Shape := ⟨1, ![1536]⟩
abbrev S1536x1 : Shape := ⟨2, ![1536, 1]⟩
abbrev S4096x256 : Shape := ⟨2, ![4096, 256]⟩
abbrev S1 : Shape := ⟨1, ![1]⟩
abbrev S1x256x256 : Shape := ⟨3, ![1, 256, 256]⟩
abbrev S256x256 : Shape := ⟨2, ![256, 256]⟩

abbrev nBuf : Space → Nat
  | .hbm => 21
  | .vmem => 16
  | .smem => 1
  | _ => 0

abbrev bufTy : (tb : Table) → Fin (tcTables nBuf tb) → BufTy
  | .hbm, ⟨0, _⟩ => ⟨S3x512x4096, .bf16⟩
  | .hbm, ⟨1, _⟩ => ⟨S4096x14336, .fp8e4m3⟩
  | .hbm, ⟨2, _⟩ => ⟨S14336, .f32⟩
  | .hbm, ⟨3, _⟩ => ⟨S256x4096, .fp8e4m3⟩
  | .hbm, ⟨4, _⟩ => ⟨S256, .f32⟩
  | .hbm, ⟨5, _⟩ => ⟨S7x256x256, .i8⟩
  | .hbm, ⟨6, _⟩ => ⟨S7x256, .f32⟩
  | .hbm, ⟨7, _⟩ => ⟨S256x14336, .fp8e4m3⟩
  | .hbm, ⟨8, _⟩ => ⟨S14336, .f32⟩
  | .hbm, ⟨9, _⟩ => ⟨S7, .i32⟩
  | .hbm, ⟨10, _⟩ => ⟨S1536x4096, .bf16⟩
  | .hbm, ⟨11, _⟩ => ⟨S1x14336, .f32⟩
  | .hbm, ⟨12, _⟩ => ⟨S1x256, .f32⟩
  | .hbm, ⟨13, _⟩ => ⟨S1x14336, .f32⟩
  | .hbm, ⟨14, _⟩ => ⟨S1536x14336, .bf16⟩
  | .hbm, ⟨15, _⟩ => ⟨S1536x4096, .fp8e4m3⟩
  | .hbm, ⟨16, _⟩ => ⟨S3x512, .f32⟩
  | .hbm, ⟨17, _⟩ => ⟨S1536x256, .i8⟩
  | .hbm, ⟨18, _⟩ => ⟨S3x512, .f32⟩
  | .hbm, ⟨19, _⟩ => ⟨S1536x256, .fp8e4m3⟩
  | .hbm, ⟨20, _⟩ => ⟨S3x512, .f32⟩
  | .local _ .vmem, ⟨0, _⟩ => ⟨S1536x4096, .bf16⟩
  | .local _ .vmem, ⟨1, _⟩ => ⟨S4096x14336, .fp8e4m3⟩
  | .local _ .vmem, ⟨2, _⟩ => ⟨S1x14336, .f32⟩
  | .local _ .vmem, ⟨3, _⟩ => ⟨S256x4096, .fp8e4m3⟩
  | .local _ .vmem, ⟨4, _⟩ => ⟨S1x256, .f32⟩
  | .local _ .vmem, ⟨5, _⟩ => ⟨S7x256x256, .i8⟩
  | .local _ .vmem, ⟨6, _⟩ => ⟨S7x256, .f32⟩
  | .local _ .vmem, ⟨7, _⟩ => ⟨S256x14336, .fp8e4m3⟩
  | .local _ .vmem, ⟨8, _⟩ => ⟨S1x14336, .f32⟩
  | .local _ .vmem, ⟨9, _⟩ => ⟨S1536x14336, .bf16⟩
  | .local _ .vmem, ⟨10, _⟩ => ⟨S1536x4096, .fp8e4m3⟩
  | .local _ .vmem, ⟨11, _⟩ => ⟨S3x512, .f32⟩
  | .local _ .vmem, ⟨12, _⟩ => ⟨S1536x256, .i8⟩
  | .local _ .vmem, ⟨13, _⟩ => ⟨S3x512, .f32⟩
  | .local _ .vmem, ⟨14, _⟩ => ⟨S1536x256, .fp8e4m3⟩
  | .local _ .vmem, ⟨15, _⟩ => ⟨S3x512, .f32⟩
  | .local _ .smem, ⟨0, _⟩ => ⟨S7, .i32⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x256x256 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x14336 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x14336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x14336 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x4096 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x256 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1536x256 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Prologue.lean ====
/- The first grid point's prologue as one run: what it stores in each result's staging buffer and in each scratch, as pieces. -/
module

public import proofs.«01_k».proof.Proof.Gen.KernelIdeal.Skeleton
public import proofs.«01_k».proof.Proof.Gen.KernelIdeal.Frame
public import Idealize.ShloMosaic.Lib.Pipeline.Routed
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ
/-- What the first grid point does before it starts the copy of the fp8 codes to the result: the rows' quantisation, block by block. -/
noncomputable def prologue (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole) : Prog (TpuEff nD τ sig (Elt F) Λ₀ .tc) PUnit := do
  let ⟨v2149, v2344, v2404⟩ : Σ' (v2149 : FVec F S256x1 .f32) (v2344 : FVec F S256x1 .f32), FVec F S128 .f32 ← k0_part56 i arg1 harg1 (Memref.whole main_v0) (Memref.isWhole_whole _) arg3 harg3 arg4 harg4 arg5 harg5 arg6 harg6 arg7 harg7 arg8 harg8 arg9 harg9 arg10 harg10 arg11 harg11 (Memref.whole main_v4_1) (Memref.isWhole_whole _) arg13 harg13 arg14 harg14 arg15 harg15 arg16 harg16 arg17 harg17 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7
  let v2406 : Vec F S1x128 .f32 ← Prog.lift (.load arg13 (Rect.unit (s := S3x512) ![2, 384] S1x128.size inb_S3x512_S1x128_2_384).toLoadRect (View.loadsAt_vmem h_S1x128))
  Prog.lift (.store arg13 (Rect.unit (s := S3x512) ![2, 384] S1x128.size inb_S3x512_S1x128_2_384) (k0_pay283 v2404) Finset.univ (View.stores_vmem_bits_univ h_S1x128 rfl) (.inl rfl))
  let v2417 : Vec F S1x128 .f32 ← Prog.lift (.load arg15 (Rect.unit (s := S3x512) ![2, 384] S1x128.size inb_S3x512_S1x128_2_384).toLoadRect (View.loadsAt_vmem h_S1x128))
  Prog.lift (.store arg15 (Rect.unit (s := S3x512) ![2, 384] S1x128.size inb_S3x512_S1x128_2_384) (k0_pay284 v2149) Finset.univ (View.stores_vmem_bits_univ h_S1x128 rfl) (.inl rfl))
  let v2428 : Vec F S1x128 .f32 ← Prog.lift (.load arg17 (Rect.unit (s := S3x512) ![2, 384] S1x128.size inb_S3x512_S1x128_2_384).toLoadRect (View.loadsAt_vmem h_S1x128))
  Prog.lift (.store arg17 (Rect.unit (s := S3x512) ![2, 384] S1x128.size inb_S3x512_S1x128_2_384) (k0_pay285 v2344) Finset.univ (View.stores_vmem_bits_univ h_S1x128 rfl) (.inl rfl))

/-- Core `c`'s buffer `b`, whole at contents `f`. -/
abbrev sc (c : Dev nD) (b : Ref sig .tc) (f : Buf (Elt F) ((c : Thread nD τ).loc b)) : sProp 𝕄 := (Memref.whole b).view.loc (c : Thread nD τ) ↦{fullShare} f

set_option maxHeartbeats 2000000 in
/-- The prologue, run: each result's staging buffer and each scratch it fills ends with pieces written over what it held; the inputs, the
    activations in HBM and the semaphores are as before. The pieces are what the run finds. -/
noncomputable def prologueRun (c : Dev nD) (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole) (x1 : Vec F S7 .i32) (x5 : Vec F S256x4096 .fp8e4m3) (x6 : Vec F S1x256 .f32) (x7 : Vec F S7x256x256 .i8) (x8 : Vec F S7x256 .f32) (fx : Buf (Elt F) ((c : Thread nD τ).loc main_v0)) (g18 : Buf (Elt F) ((c : Thread nD τ).loc cc0_scratch0)) :
    Σ' (L13 : List (View.Piece (Elt F) S3x512 .f32)), Σ' (L14 : List (View.Piece (Elt F) S1536x256 .i8)), Σ' (L15 : List (View.Piece (Elt F) S3x512 .f32)), Σ' (L16 : List (View.Piece (Elt F) S1536x256 .fp8e4m3)), Σ' (L17 : List (View.Piece (Elt F) S3x512 .f32)), Σ' (L19 : List (View.Piece (Elt F) S1536x4096 .fp8e4m3)), Σ' (L20 : List (View.Piece (Elt F) S1536x256 .fp8e4m3)), Σ' (L21 : List (View.Piece (Elt F) S1536x128 .f32)), { L22 : List (View.Piece (Elt F) S1536x128 .f32) //
      ∀ (W : Waits sig Unit) (K : PUnit → sProp 𝕄),
        iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ sc c cc0_scratch0 g18 ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ sc c main_v0 fx ∗ semVal ((c : Thread nD τ), SemLoc.dma 20) 0 ∗ semVal ((c : Thread nD τ), SemLoc.dma 21) 0 ∗ owes (c : Thread nD τ) 0 W
            ∗ (iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, (Memref.whole cc0_scratch1).view.loc (c : Thread nD τ) ↦[(Memref.whole cc0_scratch1).view.set]{fullShare} (Memref.whole cc0_scratch1).view.writes (Elt F) f L19) ∗ (∃ f, (Memref.whole cc0_scratch2).view.loc (c : Thread nD τ) ↦[(Memref.whole cc0_scratch2).view.set]{fullShare} (Memref.whole cc0_scratch2).view.writes (Elt F) f L20) ∗ (∃ f, (Memref.whole cc0_scratch3).view.loc (c : Thread nD τ) ↦[(Memref.whole cc0_scratch3).view.set]{fullShare} (Memref.whole cc0_scratch3).view.writes (Elt F) f L21) ∗ (∃ f, (Memref.whole cc0_scratch4).view.loc (c : Thread nD τ) ↦[(Memref.whole cc0_scratch4).view.set]{fullShare} (Memref.whole cc0_scratch4).view.writes (Elt F) f L22) ∗ (∃ f, (Memref.whole cc0_scratch5).view.loc (c : Thread nD τ) ↦[(Memref.whole cc0_scratch5).view.set]{fullShare} f) ∗ (∃ f, sc c cc0_scratch0 f) ∗ sc c main_v0 fx ∗ semVal ((c : Thread nD τ), SemLoc.dma 20) 0 ∗ semVal ((c : Thread nD τ), SemLoc.dma 21) 0 ∗ (∃ W, owes (c : Thread nD τ) 0 W)) -∗ K ⟨⟩))
          ⊢ wp frame (wpE (defs₀ (F := F)) Variants.none c none) Set.univ (prologue i arg1 harg1 arg3 harg3 arg4 harg4 arg5 harg5 arg6 harg6 arg7 harg7 arg8 harg8 arg9 harg9 arg10 harg10 arg11 harg11 arg13 harg13 arg14 harg14 arg15 harg15 arg16 harg16 arg17 harg17) K } := by
  refine ⟨?_, ?_, ?_, ?_, ?_, ?_, ?_, ?_, ?_, fun W K => ?run⟩
  case run =>
    unfold prologue
    simp only [k0_part56_eq_skeleton]; unfold k0_part56_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns sc
    iintro ⟨⟨%f1, %hf1, H1⟩, ⟨%f5, %hf5, H5⟩, ⟨%f6, %hf6, H6⟩, ⟨%f7, %hf7, H7⟩, ⟨%f8, %hf8, H8⟩, ⟨%d13, %f13, -, H13⟩, ⟨%d14, %f14, -, H14⟩, ⟨%d15, %f15, -, H15⟩, ⟨%d16, %f16, -, H16⟩, ⟨%d17, %f17, -, H17⟩, H18, ⟨%d19, %f19, -, H19⟩, ⟨%d20, %f20, -, H20⟩, ⟨%d21, %f21, -, H21⟩, ⟨%d22, %f22, -, H22⟩, ⟨%d23, %f23, -, H23⟩, HX, Hs0, Hs1, HW, Hk⟩
    obtain rfl := harg1.eq_unread hf1; obtain rfl := harg5.eq_unread hf5; obtain rfl := harg6.eq_unread hf6; obtain rfl := harg7.eq_unread hf7; obtain rfl := harg8.eq_unread hf8
    clear hf1 hf5 hf6 hf7 hf8
    set_option sl_exec.dmaWindow true in
    sl_exec
    sl_step
    iapply Hk
    isplitl [H1]
    · iexists _; isplitr; · ipureintro; exact harg1.read_unread _
      iexact H1
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H13]; · iexists _; iexact H13
    isplitl [H14]; · iexists _; iexact H14
    isplitl [H15]; · iexists _; iexact H15
    isplitl [H16]; · iexists _; iexact H16
    isplitl [H17]; · iexists _; iexact H17
    isplitl [H19]; · iexists _; iexact H19
    isplitl [H20]; · iexists _; iexact H20
    isplitl [H21]; · iexists _; iexact H21
    isplitl [H22]; · iexists _; iexact H22
    isplitl [H23]; · iexists _; iexact H23
    isplitl [H18]; · iexists _; iexact H18
    isplitl [HX]; · iexact HX
    isplitl [Hs0]; · iexact Hs0
    isplitl [Hs1]; · iexact Hs1
    iexists _; iexact HW

end Cert.KernelIdeal.Hand

end
-- ==== Proof.Chunk.lean ====
/- What the kernel computes for one block of 256 rows, written once as functions of the block. -/
module

public import proofs.«01_k».proof.Proof.Prologue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The power of two above a quotient -/

/-- One rung of the ladder: multiply by the constant when the quotient is at least the product. -/
def rung (q : FVec F S256x1 .f32) (b : BitVec 32) (p : FVec F S256x1 .f32) : FVec F S256x1 .f32 :=
  select (cmpf .oge q (mulf p (broadcast S256x1 (Scalar.ofBits .f32 b)))) (mulf p (broadcast S256x1 (Scalar.ofBits .f32 b))) p

/-- The ladder on the quotient: the greatest power of two at most it, one half out of the normal range. -/
def powOf (q : FVec F S256x1 .f32) : FVec F S256x1 .f32 :=
  select (andi (cmpf .oge q (broadcast S256x1 (Scalar.ofBits .f32 0x00800000#32))) (cmpf .ole q (broadcast S256x1 (Scalar.ofBits .f32 0x7F7FFFFF#32))))
    (rung q 0x40000000#32 <| rung q 0x40800000#32 <| rung q 0x41800000#32 <| rung q 0x43800000#32 <| rung q 0x47800000#32 <|
      rung q 0x4F800000#32 <| rung q 0x5F800000#32 <| rung q 0x5F800000#32 <| rung q 0x5F800000#32 <|
      broadcast S256x1 (Scalar.ofBits .f32 0x00800000#32))
    (broadcast S256x1 (Scalar.ofBits .f32 0x3F000000#32))

/-- The quotient of a row's largest magnitude by the greatest fp8 value, as a product with the inverse. -/
def quot (a : FVec F S256x1 .f32) : FVec F S256x1 .f32 := mulf a (broadcast S256x1 (Scalar.ofBits .f32 0x3B124925#32))

/-- The scale: twice the power of two. -/
def dbl (p : FVec F S256x1 .f32) : FVec F S256x1 .f32 := mulf p (broadcast S256x1 (Scalar.ofBits .f32 0x40000000#32))

/-- The inverse scale: one half over the power of two. -/
def inv (p : FVec F S256x1 .f32) : FVec F S256x1 .f32 := divf (broadcast S256x1 (Scalar.ofBits .f32 0x3F000000#32)) p

/-! ## The activations' block -/

/-- The block as a matrix. -/
def xMat (x : Vec F S1x256x4096 .bf16) : FVec F S256x4096 .bf16 := shapeCast S256x4096 x shapeCasts_S1x256x4096_S256x4096

/-- The largest magnitude of each row. -/
def xMax (x : Vec F S1x256x4096 .bf16) : FVec F S256x1 .f32 :=
  extf .f32 (shapeCast S256x1 (multiReduction .maximumf [1] S256 (absf (xMat x)) 0xFF80#16 reduces_S256x4096_S256 (.inr rfl) rfl) shapeCasts_S256_S256x1) bitsLt_bf16_f32

/-- The power of two of each row. -/
def xPow (x : Vec F S1x256x4096 .bf16) : FVec F S256x1 .f32 := powOf (quot (xMax x))

/-- The activations' scale of each row. -/
def xScale (x : Vec F S1x256x4096 .bf16) : FVec F S256x1 .f32 := dbl (xPow x)

/-- The activations' fp8 codes. -/
def xCode (x : Vec F S1x256x4096 .bf16) : FVec F S256x4096 .fp8e4m3 :=
  truncf .fp8e4m3 (minimumf (broadcast S256x4096 (Scalar.truncf .bf16 bitsLt_bf16_f32 (Scalar.ofBits .f32 0x43E00000#32)))
    (maximumf (broadcast S256x4096 (Scalar.truncf .bf16 bitsLt_bf16_f32 (Scalar.ofBits .f32 0xC3E00000#32)))
      (mulf (xMat x) (broadcastTo S256x4096 (truncf .bf16 (inv (xPow x)) bitsLt_bf16_f32) broadcasts_S256x1_S256x4096)))) bitsLt_fp8e4m3_bf16

/-! ## The down projection and its int8 codes -/

/-- What the block's computation reads besides its rows: the down projection and its scales, the tenants' row counts, cores and
    scales. -/
structure Env (F : FTy → Type) where
  v : Vec F S256x4096 .fp8e4m3
  vs : Vec F S1x256 .f32
  g0 : BitVec 32
  g1 : BitVec 32
  g2 : BitVec 32
  g3 : BitVec 32
  g4 : BitVec 32
  g5 : BitVec 32
  g6 : BitVec 32
  c0 : Vec F S1x256x256 .bf16
  c1 : Vec F S1x256x256 .bf16
  c2 : Vec F S1x256x256 .bf16
  c3 : Vec F S1x256x256 .bf16
  c4 : Vec F S1x256x256 .bf16
  c5 : Vec F S1x256x256 .bf16
  c6 : Vec F S1x256x256 .bf16
  s0 : Vec F S1x256 .f32
  s1 : Vec F S1x256 .f32
  s2 : Vec F S1x256 .f32
  s3 : Vec F S1x256 .f32
  s4 : Vec F S1x256 .f32
  s5 : Vec F S1x256 .f32
  s6 : Vec F S1x256 .f32

/-- The down projection's result. -/
def zVal (E : Env F) (x : Vec F S1x256x4096 .bf16) : FVec F S256x256 .f32 :=
  mulf (mulf (matmul dot_S256x4096_S256x4096_S256x256_1_1_0_0_n_n none (xCode x) E.v (constant S256x256 .f32 0x00000000#32))
    (broadcastTo S256x256 (xScale x) broadcasts_S256x1_S256x256))
    (broadcastTo S256x256 (shapeCast S1x256 E.vs shapeCasts_S1x256_S1x256) broadcasts_S1x256_S256x256)

/-- The largest magnitude of each row of a 256 by 256 matrix. -/
def rowMax (z : FVec F S256x256 .f32) : FVec F S256x1 .f32 :=
  shapeCast S256x1 (multiReduction .maximumf [1] S256 (absf z) 0xFF800000#32 reduces_S256x256_S256 (.inl rfl) rfl) shapeCasts_S256_S256x1

/-- The int8 scale of each row. -/
def zScale (E : Env F) (x : Vec F S1x256x4096 .bf16) : FVec F S256x1 .f32 :=
  select (cmpf .oeq (rowMax (zVal E x)) (broadcast S256x1 (Scalar.ofBits .f32 0x00000000#32)))
    (broadcast S256x1 (Scalar.ofBits .f32 0x3F800000#32))
    (divf (rowMax (zVal E x)) (broadcast S256x1 (Scalar.ofBits .f32 0x42FE0000#32)))

/-- The rounded and clipped quotients. -/
def zQuo (E : Env F) (x : Vec F S1x256x4096 .bf16) : FVec F S256x256 .f32 :=
  minimumf (broadcast S256x256 (Scalar.ofBits .f32 0x42FE0000#32)) (maximumf (broadcast S256x256 (Scalar.ofBits .f32 0xC2FE0000#32))
    (roundeven (divf (zVal E x) (broadcastTo S256x256 (zScale E x) broadcasts_S256x1_S256x256))))

/-- The int8 codes. -/
def zCode (E : Env F) (x : Vec F S1x256x4096 .bf16) : IVec S256x256 8 := fptosi 8 (zQuo E x)

/-- The quotients as the next product's operand. -/
def zOp (E : Env F) (x : Vec F S1x256x4096 .bf16) : FVec F S256x256 .bf16 := truncf .bf16 (zQuo E x) bitsLt_bf16_f32

/-! ## The tenants -/

/-- The row after the first tenant's rows, and after each next one's. -/
def Env.e1 (E : Env F) : BitVec 32 := Scalar.addi (0#32) E.g0
/-- The row after the second tenant's. -/
def Env.e2 (E : Env F) : BitVec 32 := Scalar.addi E.e1 E.g1
/-- The row after the third tenant's. -/
def Env.e3 (E : Env F) : BitVec 32 := Scalar.addi E.e2 E.g2
/-- The row after the fourth tenant's. -/
def Env.e4 (E : Env F) : BitVec 32 := Scalar.addi E.e3 E.g3
/-- The row after the fifth tenant's. -/
def Env.e5 (E : Env F) : BitVec 32 := Scalar.addi E.e4 E.g4
/-- The row after the sixth tenant's. -/
def Env.e6 (E : Env F) : BitVec 32 := Scalar.addi E.e5 E.g5
/-- The row after the last tenant's. -/
def Env.e7 (E : Env F) : BitVec 32 := Scalar.addi E.e6 E.g6

/-- Row numbers of the block starting at `b`. -/
def rowNo (b : BitVec 32) : IVec S256x256 32 := addi (iota .tc S256x256 32 [0] iota_S256x256_d0_w32) (broadcast S256x256 b)

/-- The block's rows from `lo` up to, not including, `hi`. -/
def mine (b lo hi : BitVec 32) : IVec S256x256 1 :=
  andi (cmpi .sge (rowNo b) (broadcast S256x256 lo)) (cmpi .slt (rowNo b) (broadcast S256x256 hi))

/-- One tenant's product with its rows of the operand, the others zero, added on. -/
def hStep (z : FVec F S256x256 .bf16) (b lo hi : BitVec 32) (sg : Vec F S1x256x256 .bf16) (acc : FVec F S256x256 .f32) : FVec F S256x256 .f32 :=
  addf acc (matmul dot_S256x256_S256x256_S256x256_1_0_0_1_n_n none
      (select (mine b lo hi) z (broadcast S256x256 (Scalar.sitofp .bf16 (0#32))))
      (shapeCast S256x256 sg shapeCasts_S1x256x256_S256x256) (constant S256x256 .f32 0x00000000#32))

/-- The products of the tenants, added up. -/
def hAcc (E : Env F) (b : BitVec 32) (z : FVec F S256x256 .bf16) : FVec F S256x256 .f32 :=
  hStep z b E.e6 E.e7 E.c6 <| hStep z b E.e5 E.e6 E.c5 <| hStep z b E.e4 E.e5 E.c4 <| hStep z b E.e3 E.e4 E.c3 <|
    hStep z b E.e2 E.e3 E.c2 <| hStep z b E.e1 E.e2 E.c1 <| hStep z b (0#32) E.e1 E.c0 <| broadcast S256x256 (Scalar.ofBits .f32 0x00000000#32)

/-- One tenant's scales on its rows. -/
def sStep (b lo hi : BitVec 32) (ss : Vec F S1x256 .f32) (acc : FVec F S256x256 .f32) : FVec F S256x256 .f32 :=
  select (mine b lo hi) (broadcastTo S256x256 (shapeCast S1x256 ss shapeCasts_S1x256_S1x256) broadcasts_S1x256_S256x256) acc

/-- The tenants' scales, each on its rows. -/
def hSel (E : Env F) (b : BitVec 32) : FVec F S256x256 .f32 :=
  sStep b E.e6 E.e7 E.s6 <| sStep b E.e5 E.e6 E.s5 <| sStep b E.e4 E.e5 E.s4 <| sStep b E.e3 E.e4 E.s3 <|
    sStep b E.e2 E.e3 E.s2 <| sStep b E.e1 E.e2 E.s1 <| sStep b (0#32) E.e1 E.s0 <| broadcast S256x256 (Scalar.ofBits .f32 0x00000000#32)

/-- The product with the tenants' cores, scaled. -/
def hVal (E : Env F) (b : BitVec 32) (x : Vec F S1x256x4096 .bf16) : FVec F S256x256 .f32 :=
  mulf (mulf (hAcc E b (zOp E x)) (broadcastTo S256x256 (zScale E x) broadcasts_S256x1_S256x256)) (hSel E b)

/-- Its power of two of each row. -/
def hPow (E : Env F) (b : BitVec 32) (x : Vec F S1x256x4096 .bf16) : FVec F S256x1 .f32 := powOf (quot (rowMax (hVal E b x)))

/-- Its scale of each row. -/
def hScale (E : Env F) (b : BitVec 32) (x : Vec F S1x256x4096 .bf16) : FVec F S256x1 .f32 := dbl (hPow E b x)

/-- Its fp8 codes. -/
def hCode (E : Env F) (b : BitVec 32) (x : Vec F S1x256x4096 .bf16) : FVec F S256x256 .fp8e4m3 :=
  truncf .fp8e4m3 (minimumf (broadcast S256x256 (Scalar.ofBits .f32 0x43E00000#32)) (maximumf (broadcast S256x256 (Scalar.ofBits .f32 0xC3E00000#32))
    (mulf (hVal E b x) (broadcastTo S256x256 (inv (hPow E b x)) broadcasts_S256x1_S256x256)))) bitsLt_fp8e4m3_f32

/-! ## The scales as stored -/

/-- A column repeated over 128 lanes. -/
def lanes (p : FVec F S256x1 .f32) : FVec F S256x128 .f32 :=
  shapeCast S256x128 (broadcastTo S256x128 (shapeCast S256x1 p shapeCasts_S256x1_S256x1) broadcasts_S256x1_S256x128) shapeCasts_S256x128_S256x128

/-- A column of 128 as a row: the diagonal of its repetition, summed down the columns. -/
def colRow (p : FVec F S128x1 .f32) : FVec F S1x128 .f32 :=
  shapeCast S1x128 (multiReduction .add [0] S128
    (select (cmpi .eq (iota .tc S128x128 32 [0] iota_S128x128_d0_w32) (iota .tc S128x128 32 [1] iota_S128x128_d1_w32))
      (broadcastTo S128x128 (shapeCast S128x1 p shapeCasts_S128x1_S128x1) broadcasts_S128x1_S128x128)
      (broadcast S128x128 (Scalar.ofBits .f32 0x00000000#32))) 0x00000000#32 reduces_S128x128_S128 (.inl rfl) rfl) shapeCasts_S128_S1x128

/-- The first 128 rows of a column, as a row. -/
def top (p : FVec F S256x1 .f32) : FVec F S1x128 .f32 := colRow (extractStridedSlice S128x1 ![0, 0] p slices_S256x1_o0_0_S128x1)
/-- The last 128 rows of a column, as a row. -/
def bot (p : FVec F S256x1 .f32) : FVec F S1x128 .f32 := colRow (extractStridedSlice S128x1 ![128, 0] p slices_S256x1_o128_0_S128x1)

/-- One tile of the output. -/
def yTile (xc : Vec F S512x4096 .fp8e4m3) (w : Vec F S4096x512 .fp8e4m3) (hc : Vec F S512x256 .fp8e4m3) (u : Vec F S256x512 .fp8e4m3)
    (xs hs : Vec F S512x128 .f32) (ws us : Vec F S1x512 .f32) : FVec F S512x512 .bf16 :=
  k0_pay1 (matmul dot_S512x4096_S4096x512_S512x512_1_0_0_1_n_n none xc w (constant S512x512 .f32 0x00000000#32)) hc u xs hs ws us

end Cert.KernelIdeal.Hand

end
-- ==== Proof.Lists.lean ====
/- The pieces the prologue writes, read as the six blocks' values. -/
module

public import proofs.«01_k».proof.Proof.Prologue
public import proofs.«01_k».proof.Proof.Chunk

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole)
  (x1 : Vec F S7 .i32) (x5 : Vec F S256x4096 .fp8e4m3) (x6 : Vec F S1x256 .f32) (x7 : Vec F S7x256x256 .i8) (x8 : Vec F S7x256 .f32)
  (fx : Buf (Elt F) ((Memref.whole main_v0).view.loc (c : Thread nD τ))) (g18 : Buf (Elt F) ((Memref.whole cc0_scratch0).view.loc (c : Thread nD τ)))

/-- The prologue's run at these operands. -/
abbrev run0 := prologueRun c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18

/-- What the run reads besides the activations. -/
def runEnv : Env F where
  v := View.readAt (Elt F) arg5.view (Rect.unit (s := S256x4096) ![0, 0] S256x4096.size inb_S256x4096_S256x4096_0_0).toLoadRect (harg5.unread x5)
  vs := View.readAt (Elt F) arg6.view (Rect.unit (s := S1x256) ![0, 0] S1x256.size inb_S1x256_S1x256_0_0).toLoadRect (harg6.unread x6)
  g0 := prologueRun.sl.r_6 c arg1 harg1 x1
  g1 := prologueRun.sl.r_7 c arg1 harg1 x1
  g2 := prologueRun.sl.r_13 c arg1 harg1 x1
  g3 := prologueRun.sl.r_14 c arg1 harg1 x1
  g4 := prologueRun.sl.r_18 c arg1 harg1 x1
  g5 := prologueRun.sl.r_19 c arg1 harg1 x1
  g6 := prologueRun.sl.r_20 c arg1 harg1 x1
  c0 := prologueRun.sl.v280 c arg7 harg7 x7
  c1 := prologueRun.sl.v298 c arg7 harg7 x7
  c2 := prologueRun.sl.v316 c arg7 harg7 x7
  c3 := prologueRun.sl.v334 c arg7 harg7 x7
  c4 := prologueRun.sl.v352 c arg7 harg7 x7
  c5 := prologueRun.sl.v370 c arg7 harg7 x7
  c6 := prologueRun.sl.v388 c arg7 harg7 x7
  s0 := View.readAt (Elt F) arg8.view (Rect.unit (s := S7x256) ![0, 0] S1x256.size inb_S7x256_S1x256_0_0).toLoadRect (harg8.unread x8)
  s1 := View.readAt (Elt F) arg8.view (Rect.unit (s := S7x256) ![1, 0] S1x256.size inb_S7x256_S1x256_1_0).toLoadRect (harg8.unread x8)
  s2 := View.readAt (Elt F) arg8.view (Rect.unit (s := S7x256) ![2, 0] S1x256.size inb_S7x256_S1x256_2_0).toLoadRect (harg8.unread x8)
  s3 := View.readAt (Elt F) arg8.view (Rect.unit (s := S7x256) ![3, 0] S1x256.size inb_S7x256_S1x256_3_0).toLoadRect (harg8.unread x8)
  s4 := View.readAt (Elt F) arg8.view (Rect.unit (s := S7x256) ![4, 0] S1x256.size inb_S7x256_S1x256_4_0).toLoadRect (harg8.unread x8)
  s5 := View.readAt (Elt F) arg8.view (Rect.unit (s := S7x256) ![5, 0] S1x256.size inb_S7x256_S1x256_5_0).toLoadRect (harg8.unread x8)
  s6 := View.readAt (Elt F) arg8.view (Rect.unit (s := S7x256) ![6, 0] S1x256.size inb_S7x256_S1x256_6_0).toLoadRect (harg8.unread x8)

set_option maxHeartbeats 1000000 in
/-- The pieces of the activations' scales: one per block. -/
theorem pieces13 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).1 =
      [⟨Rect.unit (s := S3x512) ![2, 384] S1x128.size inb_S3x512_S1x128_2_384, bot (xScale (prologueRun.sl.v2059 c fx g18))⟩,
        ⟨Rect.unit (s := S3x512) ![2, 256] S1x128.size inb_S3x512_S1x128_2_256, top (xScale (prologueRun.sl.v2059 c fx g18))⟩,
        ⟨Rect.unit (s := S3x512) ![2, 128] S1x128.size inb_S3x512_S1x128_2_128, bot (xScale (prologueRun.sl.v1684 c fx g18))⟩,
        ⟨Rect.unit (s := S3x512) ![2, 0] S1x128.size inb_S3x512_S1x128_2_0, top (xScale (prologueRun.sl.v1684 c fx g18))⟩,
        ⟨Rect.unit (s := S3x512) ![1, 384] S1x128.size inb_S3x512_S1x128_1_384, bot (xScale (prologueRun.sl.v1304 c fx g18))⟩,
        ⟨Rect.unit (s := S3x512) ![1, 256] S1x128.size inb_S3x512_S1x128_1_256, top (xScale (prologueRun.sl.v1304 c fx g18))⟩,
        ⟨Rect.unit (s := S3x512) ![1, 128] S1x128.size inb_S3x512_S1x128_1_128, bot (xScale (prologueRun.sl.v924 c fx g18))⟩,
        ⟨Rect.unit (s := S3x512) ![1, 0] S1x128.size inb_S3x512_S1x128_1_0, top (xScale (prologueRun.sl.v924 c fx g18))⟩,
        ⟨Rect.unit (s := S3x512) ![0, 384] S1x128.size inb_S3x512_S1x128_0_384, bot (xScale (prologueRun.sl.v544 c fx g18))⟩,
        ⟨Rect.unit (s := S3x512) ![0, 256] S1x128.size inb_S3x512_S1x128_0_256, top (xScale (prologueRun.sl.v544 c fx g18))⟩,
        ⟨Rect.unit (s := S3x512) ![0, 128] S1x128.size inb_S3x512_S1x128_0_128, bot (xScale (prologueRun.sl.v164 c fx g18))⟩,
        ⟨Rect.unit (s := S3x512) ![0, 0] S1x128.size inb_S3x512_S1x128_0_0, top (xScale (prologueRun.sl.v164 c fx g18))⟩] := by sl_kernel_rfl

set_option maxHeartbeats 1000000 in
/-- The pieces of the int8 codes: one per block. -/
theorem pieces14 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.1 =
      [⟨Rect.unit (s := S1536x256) ![1280, 0] S256x256.size inb_S1536x256_S256x256_1280_0, zCode (runEnv c arg1 harg1 arg5 harg5 arg6 harg6 arg7 harg7 arg8 harg8 x1 x5 x6 x7 x8) (prologueRun.sl.v2059 c fx g18)⟩,
        ⟨Rect.unit (s := S1536x256) ![1024, 0] S256x256.size inb_S1536x256_S256x256_1024_0, zCode (runEnv c arg1 harg1 arg5 harg5 arg6 harg6 arg7 harg7 arg8 harg8 x1 x5 x6 x7 x8) (prologueRun.sl.v1684 c fx g18)⟩,
        ⟨Rect.unit (s := S1536x256) ![768, 0] S256x256.size inb_S1536x256_S256x256_768_0, zCode (runEnv c arg1 harg1 arg5 harg5 arg6 harg6 arg7 harg7 arg8 harg8 x1 x5 x6 x7 x8) (prologueRun.sl.v1304 c fx g18)⟩,
        ⟨Rect.unit (s := S1536x256) ![512, 0] S256x256.size inb_S1536x256_S256x256_512_0, zCode (runEnv c arg1 harg1 arg5 harg5 arg6 harg6 arg7 harg7 arg8 harg8 x1 x5 x6 x7 x8) (prologueRun.sl.v924 c fx g18)⟩,
        ⟨Rect.unit (s := S1536x256) ![256, 0] S256x256.size inb_S1536x256_S256x256_256_0, zCode (runEnv c arg1 harg1 arg5 harg5 arg6 harg6 arg7 harg7 arg8 harg8 x1 x5 x6 x7 x8) (prologueRun.sl.v544 c fx g18)⟩,
        ⟨Rect.unit (s := S1536x256) ![0, 0] S256x256.size inb_S1536x256_S256x256_0_0, zCode (runEnv c arg1 harg1 arg5 harg5 arg6 harg6 arg7 harg7 arg8 harg8 x1 x5 x6 x7 x8) (prologueRun.sl.v164 c fx g18)⟩] := by sl_kernel_rfl

set_option maxHeartbeats 1000000 in
/-- The pieces of the int8 scales: one per block. -/
theorem pieces15 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.1 =
      [⟨Rect.unit (s := S3x512) ![2, 384] S1x128.size inb_S3x512_S1x128_2_384, bot (zScale (runEnv c arg1 harg1 arg5 harg5 arg6 harg6 arg7 harg7 arg8 harg8 x1 x5 x6 x7 x8) (prologueRun.sl.v2059 c fx g18))⟩,
        ⟨Rect.unit (s := S3x512) ![2, 256] S1x128.size inb_S3x512_S1x128_2_256, top (zScale (runEnv c arg1 harg1 arg5 harg5 arg6 harg6 arg7 harg7 arg8 harg8 x1 x5 x6 x7 x8) (prologueRun.sl.v2059 c fx g18))⟩,
        ⟨Rect.unit (s := S3x512) ![2, 128] S1x128.size inb_S3x512_S1x128_2_128, bot (zScale (runEnv c arg1 harg1 arg5 harg5 arg6 harg6 arg7 harg7 arg8 harg8 x1 x5 x6 x7 x8) (prologueRun.sl.v1684 c fx g18))⟩,
        ⟨Rect.unit (s := S3x512) ![2, 0] S1x128.size inb_S3x512_S1x128_2_0, top (zScale (runEnv c arg1 harg1 arg5 harg5 arg6 harg6 arg7 harg7 arg8 harg8 x1 x5 x6 x7 x8) (prologueRun.sl.v1684 c fx g18))⟩,
        ⟨Rect.unit (s := S3x512) ![1, 384] S1x128.size inb_S3x512_S1x128_1_384, bot (zScale (runEnv c arg1 harg1 arg5 harg5 arg6 harg6 arg7 harg7 arg8 harg8 x1 x5 x6 x7 x8) (prologueRun.sl.v1304 c fx g18))⟩,
        ⟨Rect.unit (s := S3x512) ![1, 256] S1x128.size inb_S3x512_S1x128_1_256, top (zScale (runEnv c arg1 harg1 arg5 harg5 arg6 harg6 arg7 harg7 arg8 harg8 x1 x5 x6 x7 x8) (prologueRun.sl.v1304 c fx g18))⟩,
        ⟨Rect.unit (s := S3x512) ![1, 128] S1x128.size inb_S3x512_S1x128_1_128, bot (zScale (runEnv c arg1 harg1 arg5 harg5 arg6 harg6 arg7 harg7 arg8 harg8 x1 x5 x6 x7 x8) (prologueRun.sl.v924 c fx g18))⟩,
        ⟨Rect.unit (s := S3x512) ![1, 0] S1x128.size inb_S3x512_S1x128_1_0, top (zScale (runEnv c arg1 harg1 arg5 harg5 arg6 harg6 arg7 harg7 arg8 harg8 x1 x5 x6 x7 x8) (prologueRun.sl.v924 c fx g18))⟩,
        ⟨Rect.unit (s := S3x512) ![0, 384] S1x128.size inb_S3x512_S1x128_0_384, bot (zScale (runEnv c arg1 harg1 arg5 harg5 arg6 harg6 arg7 harg7 arg8 harg8 x1 x5 x6 x7 x8) (prologueRun.sl.v544 c fx g18))⟩,
        ⟨Rect.unit (s := S3x512) ![0, 256] S1x128.size inb_S3x512_S1x128_0_256, top (zScale (runEnv c arg1 harg1 arg5 harg5 arg6 harg6 arg7 harg7 arg8 harg8 x1 x5 x6 x7 x8) (prologueRun.sl.v544 c fx g18))⟩,
        ⟨Rect.unit (s := S3x512) ![0, 128] S1x128.size inb_S3x512_S1x128_0_128, bot (zScale (runEnv c arg1 harg1 arg5 harg5 arg6 harg6 arg7 harg7 arg8 harg8 x1 x5 x6 x7 x8) (prologueRun.sl.v164 c fx g18))⟩,
        ⟨Rect.unit (s := S3x512) ![0, 0] S1x128.size inb_S3x512_S1x128_0_0, top (zScale (runEnv c arg1 harg1 arg5 harg5 arg6 harg6 arg7 harg7 arg8 harg8 x1 x5 x6 x7 x8) (prologueRun.sl.v164 c fx g18))⟩] := by sl_kernel_rfl

set_option maxHeartbeats 1000000 in
/-- The pieces of the second fp8 codes: one per block. -/
theorem pieces16 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.1 =
      [⟨Rect.unit (s := S1536x256) ![1280, 0] S256x256.size inb_S1536x256_S256x256_1280_0, hCode (runEnv c arg1 harg1 arg5 harg5 arg6 harg6 arg7 harg7 arg8 harg8 x1 x5 x6 x7 x8) 1280#32 (prologueRun.sl.v2059 c fx g18)⟩,
        ⟨Rect.unit (s := S1536x256) ![1024, 0] S256x256.size inb_S1536x256_S256x256_1024_0, hCode (runEnv c arg1 harg1 arg5 harg5 arg6 harg6 arg7 harg7 arg8 harg8 x1 x5 x6 x7 x8) 1024#32 (prologueRun.sl.v1684 c fx g18)⟩,
        ⟨Rect.unit (s := S1536x256) ![768, 0] S256x256.size inb_S1536x256_S256x256_768_0, hCode (runEnv c arg1 harg1 arg5 harg5 arg6 harg6 arg7 harg7 arg8 harg8 x1 x5 x6 x7 x8) 768#32 (prologueRun.sl.v1304 c fx g18)⟩,
        ⟨Rect.unit (s := S1536x256) ![512, 0] S256x256.size inb_S1536x256_S256x256_512_0, hCode (runEnv c arg1 harg1 arg5 harg5 arg6 harg6 arg7 harg7 arg8 harg8 x1 x5 x6 x7 x8) 512#32 (prologueRun.sl.v924 c fx g18)⟩,
        ⟨Rect.unit (s := S1536x256) ![256, 0] S256x256.size inb_S1536x256_S256x256_256_0, hCode (runEnv c arg1 harg1 arg5 harg5 arg6 harg6 arg7 harg7 arg8 harg8 x1 x5 x6 x7 x8) 256#32 (prologueRun.sl.v544 c fx g18)⟩,
        ⟨Rect.unit (s := S1536x256) ![0, 0] S256x256.size inb_S1536x256_S256x256_0_0, hCode (runEnv c arg1 harg1 arg5 harg5 arg6 harg6 arg7 harg7 arg8 harg8 x1 x5 x6 x7 x8) 0#32 (prologueRun.sl.v164 c fx g18)⟩] := by sl_kernel_rfl

set_option maxHeartbeats 1000000 in
/-- The pieces of the second scales: one per block. -/
theorem pieces17 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.1 =
      [⟨Rect.unit (s := S3x512) ![2, 384] S1x128.size inb_S3x512_S1x128_2_384, bot (hScale (runEnv c arg1 harg1 arg5 harg5 arg6 harg6 arg7 harg7 arg8 harg8 x1 x5 x6 x7 x8) 1280#32 (prologueRun.sl.v2059 c fx g18))⟩,
        ⟨Rect.unit (s := S3x512) ![2, 256] S1x128.size inb_S3x512_S1x128_2_256, top (hScale (runEnv c arg1 harg1 arg5 harg5 arg6 harg6 arg7 harg7 arg8 harg8 x1 x5 x6 x7 x8) 1280#32 (prologueRun.sl.v2059 c fx g18))⟩,
        ⟨Rect.unit (s := S3x512) ![2, 128] S1x128.size inb_S3x512_S1x128_2_128, bot (hScale (runEnv c arg1 harg1 arg5 harg5 arg6 harg6 arg7 harg7 arg8 harg8 x1 x5 x6 x7 x8) 1024#32 (prologueRun.sl.v1684 c fx g18))⟩,
        ⟨Rect.unit (s := S3x512) ![2, 0] S1x128.size inb_S3x512_S1x128_2_0, top (hScale (runEnv c arg1 harg1 arg5 harg5 arg6 harg6 arg7 harg7 arg8 harg8 x1 x5 x6 x7 x8) 1024#32 (prologueRun.sl.v1684 c fx g18))⟩,
        ⟨Rect.unit (s := S3x512) ![1, 384] S1x128.size inb_S3x512_S1x128_1_384, bot (hScale (runEnv c arg1 harg1 arg5 harg5 arg6 harg6 arg7 harg7 arg8 harg8 x1 x5 x6 x7 x8) 768#32 (prologueRun.sl.v1304 c fx g18))⟩,
        ⟨Rect.unit (s := S3x512) ![1, 256] S1x128.size inb_S3x512_S1x128_1_256, top (hScale (runEnv c arg1 harg1 arg5 harg5 arg6 harg6 arg7 harg7 arg8 harg8 x1 x5 x6 x7 x8) 768#32 (prologueRun.sl.v1304 c fx g18))⟩,
        ⟨Rect.unit (s := S3x512) ![1, 128] S1x128.size inb_S3x512_S1x128_1_128, bot (hScale (runEnv c arg1 harg1 arg5 harg5 arg6 harg6 arg7 harg7 arg8 harg8 x1 x5 x6 x7 x8) 512#32 (prologueRun.sl.v924 c fx g18))⟩,
        ⟨Rect.unit (s := S3x512) ![1, 0] S1x128.size inb_S3x512_S1x128_1_0, top (hScale (runEnv c arg1 harg1 arg5 harg5 arg6 harg6 arg7 harg7 arg8 harg8 x1 x5 x6 x7 x8) 512#32 (prologueRun.sl.v924 c fx g18))⟩,
        ⟨Rect.unit (s := S3x512) ![0, 384] S1x128.size inb_S3x512_S1x128_0_384, bot (hScale (runEnv c arg1 harg1 arg5 harg5 arg6 harg6 arg7 harg7 arg8 harg8 x1 x5 x6 x7 x8) 256#32 (prologueRun.sl.v544 c fx g18))⟩,
        ⟨Rect.unit (s := S3x512) ![0, 256] S1x128.size inb_S3x512_S1x128_0_256, top (hScale (runEnv c arg1 harg1 arg5 harg5 arg6 harg6 arg7 harg7 arg8 harg8 x1 x5 x6 x7 x8) 256#32 (prologueRun.sl.v544 c fx g18))⟩,
        ⟨Rect.unit (s := S3x512) ![0, 128] S1x128.size inb_S3x512_S1x128_0_128, bot (hScale (runEnv c arg1 harg1 arg5 harg5 arg6 harg6 arg7 harg7 arg8 harg8 x1 x5 x6 x7 x8) 0#32 (prologueRun.sl.v164 c fx g18))⟩,
        ⟨Rect.unit (s := S3x512) ![0, 0] S1x128.size inb_S3x512_S1x128_0_0, top (hScale (runEnv c arg1 harg1 arg5 harg5 arg6 harg6 arg7 harg7 arg8 harg8 x1 x5 x6 x7 x8) 0#32 (prologueRun.sl.v164 c fx g18))⟩] := by sl_kernel_rfl

set_option maxHeartbeats 1000000 in
/-- The pieces of the activations' codes: one per block. -/
theorem pieces19 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.2.1 =
      [⟨Rect.unit (s := S1536x4096) ![1280, 0] S256x4096.size inb_S1536x4096_S256x4096_1280_0, shapeCast S256x4096 (xCode (prologueRun.sl.v2059 c fx g18)) shapeCasts_S256x4096_S256x4096⟩,
        ⟨Rect.unit (s := S1536x4096) ![1024, 0] S256x4096.size inb_S1536x4096_S256x4096_1024_0, shapeCast S256x4096 (xCode (prologueRun.sl.v1684 c fx g18)) shapeCasts_S256x4096_S256x4096⟩,
        ⟨Rect.unit (s := S1536x4096) ![768, 0] S256x4096.size inb_S1536x4096_S256x4096_768_0, shapeCast S256x4096 (xCode (prologueRun.sl.v1304 c fx g18)) shapeCasts_S256x4096_S256x4096⟩,
        ⟨Rect.unit (s := S1536x4096) ![512, 0] S256x4096.size inb_S1536x4096_S256x4096_512_0, shapeCast S256x4096 (xCode (prologueRun.sl.v924 c fx g18)) shapeCasts_S256x4096_S256x4096⟩,
        ⟨Rect.unit (s := S1536x4096) ![256, 0] S256x4096.size inb_S1536x4096_S256x4096_256_0, shapeCast S256x4096 (xCode (prologueRun.sl.v544 c fx g18)) shapeCasts_S256x4096_S256x4096⟩,
        ⟨Rect.unit (s := S1536x4096) ![0, 0] S256x4096.size inb_S1536x4096_S256x4096_0_0, shapeCast S256x4096 (xCode (prologueRun.sl.v164 c fx g18)) shapeCasts_S256x4096_S256x4096⟩] := by sl_kernel_rfl

set_option maxHeartbeats 1000000 in
/-- The pieces of the second fp8 codes, as kept: one per block. -/
theorem pieces20 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.2.2.1 =
      [⟨Rect.unit (s := S1536x256) ![1280, 0] S256x256.size inb_S1536x256_S256x256_1280_0, shapeCast S256x256 (hCode (runEnv c arg1 harg1 arg5 harg5 arg6 harg6 arg7 harg7 arg8 harg8 x1 x5 x6 x7 x8) 1280#32 (prologueRun.sl.v2059 c fx g18)) shapeCasts_S256x256_S256x256⟩,
        ⟨Rect.unit (s := S1536x256) ![1024, 0] S256x256.size inb_S1536x256_S256x256_1024_0, shapeCast S256x256 (hCode (runEnv c arg1 harg1 arg5 harg5 arg6 harg6 arg7 harg7 arg8 harg8 x1 x5 x6 x7 x8) 1024#32 (prologueRun.sl.v1684 c fx g18)) shapeCasts_S256x256_S256x256⟩,
        ⟨Rect.unit (s := S1536x256) ![768, 0] S256x256.size inb_S1536x256_S256x256_768_0, shapeCast S256x256 (hCode (runEnv c arg1 harg1 arg5 harg5 arg6 harg6 arg7 harg7 arg8 harg8 x1 x5 x6 x7 x8) 768#32 (prologueRun.sl.v1304 c fx g18)) shapeCasts_S256x256_S256x256⟩,
        ⟨Rect.unit (s := S1536x256) ![512, 0] S256x256.size inb_S1536x256_S256x256_512_0, shapeCast S256x256 (hCode (runEnv c arg1 harg1 arg5 harg5 arg6 harg6 arg7 harg7 arg8 harg8 x1 x5 x6 x7 x8) 512#32 (prologueRun.sl.v924 c fx g18)) shapeCasts_S256x256_S256x256⟩,
        ⟨Rect.unit (s := S1536x256) ![256, 0] S256x256.size inb_S1536x256_S256x256_256_0, shapeCast S256x256 (hCode (runEnv c arg1 harg1 arg5 harg5 arg6 harg6 arg7 harg7 arg8 harg8 x1 x5 x6 x7 x8) 256#32 (prologueRun.sl.v544 c fx g18)) shapeCasts_S256x256_S256x256⟩,
        ⟨Rect.unit (s := S1536x256) ![0, 0] S256x256.size inb_S1536x256_S256x256_0_0, shapeCast S256x256 (hCode (runEnv c arg1 harg1 arg5 harg5 arg6 harg6 arg7 harg7 arg8 harg8 x1 x5 x6 x7 x8) 0#32 (prologueRun.sl.v164 c fx g18)) shapeCasts_S256x256_S256x256⟩] := by sl_kernel_rfl

set_option maxHeartbeats 1000000 in
/-- The pieces of the activations' scales, as kept: one per block. -/
theorem pieces21 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.2.2.2.1 =
      [⟨Rect.unit (s := S1536x128) ![1280, 0] S256x128.size inb_S1536x128_S256x128_1280_0, lanes (xScale (prologueRun.sl.v2059 c fx g18))⟩,
        ⟨Rect.unit (s := S1536x128) ![1024, 0] S256x128.size inb_S1536x128_S256x128_1024_0, lanes (xScale (prologueRun.sl.v1684 c fx g18))⟩,
        ⟨Rect.unit (s := S1536x128) ![768, 0] S256x128.size inb_S1536x128_S256x128_768_0, lanes (xScale (prologueRun.sl.v1304 c fx g18))⟩,
        ⟨Rect.unit (s := S1536x128) ![512, 0] S256x128.size inb_S1536x128_S256x128_512_0, lanes (xScale (prologueRun.sl.v924 c fx g18))⟩,
        ⟨Rect.unit (s := S1536x128) ![256, 0] S256x128.size inb_S1536x128_S256x128_256_0, lanes (xScale (prologueRun.sl.v544 c fx g18))⟩,
        ⟨Rect.unit (s := S1536x128) ![0, 0] S256x128.size inb_S1536x128_S256x128_0_0, lanes (xScale (prologueRun.sl.v164 c fx g18))⟩] := by sl_kernel_rfl

set_option maxHeartbeats 1000000 in
/-- The pieces of the second scales, as kept: one per block. -/
theorem pieces22 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.2.2.2.2.1 =
      [⟨Rect.unit (s := S1536x128) ![1280, 0] S256x128.size inb_S1536x128_S256x128_1280_0, lanes (hScale (runEnv c arg1 harg1 arg5 harg5 arg6 harg6 arg7 harg7 arg8 harg8 x1 x5 x6 x7 x8) 1280#32 (prologueRun.sl.v2059 c fx g18))⟩,
        ⟨Rect.unit (s := S1536x128) ![1024, 0] S256x128.size inb_S1536x128_S256x128_1024_0, lanes (hScale (runEnv c arg1 harg1 arg5 harg5 arg6 harg6 arg7 harg7 arg8 harg8 x1 x5 x6 x7 x8) 1024#32 (prologueRun.sl.v1684 c fx g18))⟩,
        ⟨Rect.unit (s := S1536x128) ![768, 0] S256x128.size inb_S1536x128_S256x128_768_0, lanes (hScale (runEnv c arg1 harg1 arg5 harg5 arg6 harg6 arg7 harg7 arg8 harg8 x1 x5 x6 x7 x8) 768#32 (prologueRun.sl.v1304 c fx g18))⟩,
        ⟨Rect.unit (s := S1536x128) ![512, 0] S256x128.size inb_S1536x128_S256x128_512_0, lanes (hScale (runEnv c arg1 harg1 arg5 harg5 arg6 harg6 arg7 harg7 arg8 harg8 x1 x5 x6 x7 x8) 512#32 (prologueRun.sl.v924 c fx g18))⟩,
        ⟨Rect.unit (s := S1536x128) ![256, 0] S256x128.size inb_S1536x128_S256x128_256_0, lanes (hScale (runEnv c arg1 harg1 arg5 harg5 arg6 harg6 arg7 harg7 arg8 harg8 x1 x5 x6 x7 x8) 256#32 (prologueRun.sl.v544 c fx g18))⟩,
        ⟨Rect.unit (s := S1536x128) ![0, 0] S256x128.size inb_S1536x128_S256x128_0_0, lanes (hScale (runEnv c arg1 harg1 arg5 harg5 arg6 harg6 arg7 harg7 arg8 harg8 x1 x5 x6 x7 x8) 0#32 (prologueRun.sl.v164 c fx g18))⟩] := by sl_kernel_rfl

end Cert.KernelIdeal.Hand

end
-- ==== Proof.Reads.lean ====
/- The six blocks of the activations as the two buffers hand them over, and the prologue's results in terms of them. -/
module

public import proofs.«01_k».proof.Proof.Lists
public import Idealize.ShloMosaic.Lib.Pipeline.CanonAppend

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole)
  (x1 : Vec F S7 .i32) (x5 : Vec F S256x4096 .fp8e4m3) (x6 : Vec F S1x256 .f32) (x7 : Vec F S7x256x256 .i8) (x8 : Vec F S7x256 .f32)
  (fx : Buf (Elt F) ((Memref.whole main_v0).view.loc (c : Thread nD τ))) (g18 : Buf (Elt F) ((Memref.whole cc0_scratch0).view.loc (c : Thread nD τ)))

/-- A 256-row matrix with a leading unit axis. -/
def lift3 (d : Vec F S256x4096 .bf16) : Vec F S1x256x4096 .bf16 := fun y => d ((Shape.reshapeEquiv squeezes_S1x256x4096_S256x4096.numel_eq).symm y)

/-- Rows `o … o + 255` of the activations. -/
def rowsAt (fx : Vec F S1536x4096 .bf16) (o : ℕ) (h : ∀ a, (![o, 0] : Fin 2 → ℕ) a + S256x4096.size a ≤ S1536x4096.size a) : Vec F S256x4096 .bf16 := fun x => fx ((Rect.unit (s := S1536x4096) ![o, 0] S256x4096.size h).emb x)

/-- Block number `o / 256` of the activations, with a leading unit axis. -/
def xBlk (fx : Vec F S1536x4096 .bf16) (o : ℕ) (h : ∀ a, (![o, 0] : Fin 2 → ℕ) a + S256x4096.size a ≤ S1536x4096.size a) : Vec F S1x256x4096 .bf16 := lift3 (rowsAt fx o h)

/-- A slot of the double buffer, as the copies write it. -/
abbrev slot (k : ℕ) (h : ∀ a, (![k, 0, 0] : Fin 3 → ℕ) a + S1x256x4096.size a ≤ S2x256x4096.size a) : Memref sig .tc .vmem S256x4096 .bf16 := (((Memref.whole cc0_scratch0).slice (Rect.unit (s := S2x256x4096) ![k, 0, 0] S1x256x4096.size h) (fun _ => rfl)).squeeze S256x4096 squeezes_S1x256x4096_S256x4096)

/-- A slot just written reads back what was written. -/
theorem slot_hit (k : ℕ) (h) (f : Buf (Elt F) ((Memref.whole cc0_scratch0).view.loc (c : Thread nD τ))) (d : Vec F S256x4096 .bf16) :
    View.readAt (Elt F) (Memref.whole cc0_scratch0).view (Rect.unit (s := S2x256x4096) ![k, 0, 0] S1x256x4096.size h).toLoadRect (View.write (Elt F) (slot k h).view f d Finset.univ) = lift3 d := by
  funext y
  have e := congrFun (View.read_write_univ (v := (slot k h).view) (Val := Elt F) f d) ((Shape.reshapeEquiv squeezes_S1x256x4096_S256x4096.numel_eq).symm y)
  refine Eq.trans ?_ e
  rw [View.readAt_rect, View.read_apply, View.read_apply]
  have e2 : (slot k h).view.emb ((Shape.reshapeEquiv squeezes_S1x256x4096_S256x4096.numel_eq).symm y) = ((Memref.whole cc0_scratch0).view.slice (Rect.unit (s := S2x256x4096) ![k, 0, 0] S1x256x4096.size h)).emb y := by
    change ((Memref.whole cc0_scratch0).view.slice (Rect.unit (s := S2x256x4096) ![k, 0, 0] S1x256x4096.size h)).emb ((Shape.reshapeEquiv squeezes_S1x256x4096_S256x4096.numel_eq) ((Shape.reshapeEquiv squeezes_S1x256x4096_S256x4096.numel_eq).symm y)) = _
    rw [Equiv.apply_symm_apply]
  rw [e2]

/-- Writing one slot leaves the other. -/
theorem slot_miss (k k' : ℕ) (hk : k < k' ∨ k' < k) (h h') (f : Buf (Elt F) ((Memref.whole cc0_scratch0).view.loc (c : Thread nD τ))) (d : Vec F S256x4096 .bf16) :
    View.readAt (Elt F) (Memref.whole cc0_scratch0).view (Rect.unit (s := S2x256x4096) ![k, 0, 0] S1x256x4096.size h).toLoadRect (View.write (Elt F) (slot k' h').view f d Finset.univ)
      = View.readAt (Elt F) (Memref.whole cc0_scratch0).view (Rect.unit (s := S2x256x4096) ![k, 0, 0] S1x256x4096.size h).toLoadRect f := by
  have key : ∀ y x, ((Memref.whole cc0_scratch0).view.slice (Rect.unit (s := S2x256x4096) ![k, 0, 0] S1x256x4096.size h)).emb y ≠ (slot k' h').view.emb x := by
    intro y x e
    have e0 : (Rect.unit (s := S2x256x4096) ![k, 0, 0] S1x256x4096.size h).emb y = (Rect.unit (s := S2x256x4096) ![k', 0, 0] S1x256x4096.size h').emb (Shape.reshapeEquiv squeezes_S1x256x4096_S256x4096.numel_eq x) := e
    have hd := Rect.unit_disjoint (s := S2x256x4096) (inb := h) (inb' := h') (0 : Fin 3) (by
      change k + 1 ≤ k' ∨ k' + 1 ≤ k
      omega)
    exact Finset.disjoint_left.mp hd (LoadRect.idx_mem _ y) (by rw [show (Rect.unit (s := S2x256x4096) ![k, 0, 0] S1x256x4096.size h).toLoadRect.idx y = _ from e0]; exact LoadRect.idx_mem _ _)
  funext y
  rw [View.readAt_rect, View.readAt_rect, View.read_apply, View.read_apply, View.write_of_not_mem]
  intro hy
  obtain ⟨x, -, hx⟩ := Finset.mem_map.mp hy
  exact key y x hx.symm

/-- Block 0 is read as the copy brought it. -/
theorem read0 : prologueRun.sl.v164 c fx g18 = xBlk fx 0 inb_S1536x4096_S256x4096_0_0 := (slot_miss c 0 1 (by omega) _ _ _ _).trans <| (slot_hit c 0 _ _ _).trans rfl

/-- Block 1 is read as the copy brought it. -/
theorem read1 : prologueRun.sl.v544 c fx g18 = xBlk fx 256 inb_S1536x4096_S256x4096_256_0 := (slot_miss c 1 0 (by omega) _ _ _ _).trans <| (slot_hit c 1 _ _ _).trans rfl

/-- Block 2 is read as the copy brought it. -/
theorem read2 : prologueRun.sl.v924 c fx g18 = xBlk fx 512 inb_S1536x4096_S256x4096_512_0 := (slot_miss c 0 1 (by omega) _ _ _ _).trans <| (slot_hit c 0 _ _ _).trans rfl

/-- Block 3 is read as the copy brought it. -/
theorem read3 : prologueRun.sl.v1304 c fx g18 = xBlk fx 768 inb_S1536x4096_S256x4096_768_0 := (slot_miss c 1 0 (by omega) _ _ _ _).trans <| (slot_hit c 1 _ _ _).trans rfl

/-- Block 4 is read as the copy brought it. -/
theorem read4 : prologueRun.sl.v1684 c fx g18 = xBlk fx 1024 inb_S1536x4096_S256x4096_1024_0 := (slot_miss c 0 1 (by omega) _ _ _ _).trans <| (slot_hit c 0 _ _ _).trans rfl

/-- Block 5 is read as the copy brought it. -/
theorem read5 : prologueRun.sl.v2059 c fx g18 = xBlk fx 1280 inb_S1536x4096_S256x4096_1280_0 := (slot_hit c 1 _ _ _).trans rfl

/-- The pieces of the activations' scales. -/
def list13 (fx : Vec F S1536x4096 .bf16) : List (View.Piece (Elt F) S3x512 .f32) :=
  [⟨Rect.unit (s := S3x512) ![2, 384] S1x128.size inb_S3x512_S1x128_2_384, bot (xScale (xBlk fx 1280 inb_S1536x4096_S256x4096_1280_0))⟩,
    ⟨Rect.unit (s := S3x512) ![2, 256] S1x128.size inb_S3x512_S1x128_2_256, top (xScale (xBlk fx 1280 inb_S1536x4096_S256x4096_1280_0))⟩,
    ⟨Rect.unit (s := S3x512) ![2, 128] S1x128.size inb_S3x512_S1x128_2_128, bot (xScale (xBlk fx 1024 inb_S1536x4096_S256x4096_1024_0))⟩,
    ⟨Rect.unit (s := S3x512) ![2, 0] S1x128.size inb_S3x512_S1x128_2_0, top (xScale (xBlk fx 1024 inb_S1536x4096_S256x4096_1024_0))⟩,
    ⟨Rect.unit (s := S3x512) ![1, 384] S1x128.size inb_S3x512_S1x128_1_384, bot (xScale (xBlk fx 768 inb_S1536x4096_S256x4096_768_0))⟩,
    ⟨Rect.unit (s := S3x512) ![1, 256] S1x128.size inb_S3x512_S1x128_1_256, top (xScale (xBlk fx 768 inb_S1536x4096_S256x4096_768_0))⟩,
    ⟨Rect.unit (s := S3x512) ![1, 128] S1x128.size inb_S3x512_S1x128_1_128, bot (xScale (xBlk fx 512 inb_S1536x4096_S256x4096_512_0))⟩,
    ⟨Rect.unit (s := S3x512) ![1, 0] S1x128.size inb_S3x512_S1x128_1_0, top (xScale (xBlk fx 512 inb_S1536x4096_S256x4096_512_0))⟩,
    ⟨Rect.unit (s := S3x512) ![0, 384] S1x128.size inb_S3x512_S1x128_0_384, bot (xScale (xBlk fx 256 inb_S1536x4096_S256x4096_256_0))⟩,
    ⟨Rect.unit (s := S3x512) ![0, 256] S1x128.size inb_S3x512_S1x128_0_256, top (xScale (xBlk fx 256 inb_S1536x4096_S256x4096_256_0))⟩,
    ⟨Rect.unit (s := S3x512) ![0, 128] S1x128.size inb_S3x512_S1x128_0_128, bot (xScale (xBlk fx 0 inb_S1536x4096_S256x4096_0_0))⟩,
    ⟨Rect.unit (s := S3x512) ![0, 0] S1x128.size inb_S3x512_S1x128_0_0, top (xScale (xBlk fx 0 inb_S1536x4096_S256x4096_0_0))⟩]

/-- They cover their array. -/
theorem cover13 (fx : Vec F S1536x4096 .bf16) (y : S3x512.Idx) : ∃ p ∈ list13 fx, y ∈ p.1.set :=
  View.cover_of_tiledL (list13 fx) S1x128.size (by sl_kernel_rfl) y

/-- The prologue writes them. -/
theorem run13 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).1 = list13 fx := by
  rw [pieces13, read0, read1, read2, read3, read4, read5]; rfl

/-- The pieces of the int8 codes. -/
def list14 (E : Env F) (fx : Vec F S1536x4096 .bf16) : List (View.Piece (Elt F) S1536x256 .i8) :=
  [⟨Rect.unit (s := S1536x256) ![1280, 0] S256x256.size inb_S1536x256_S256x256_1280_0, zCode E (xBlk fx 1280 inb_S1536x4096_S256x4096_1280_0)⟩,
    ⟨Rect.unit (s := S1536x256) ![1024, 0] S256x256.size inb_S1536x256_S256x256_1024_0, zCode E (xBlk fx 1024 inb_S1536x4096_S256x4096_1024_0)⟩,
    ⟨Rect.unit (s := S1536x256) ![768, 0] S256x256.size inb_S1536x256_S256x256_768_0, zCode E (xBlk fx 768 inb_S1536x4096_S256x4096_768_0)⟩,
    ⟨Rect.unit (s := S1536x256) ![512, 0] S256x256.size inb_S1536x256_S256x256_512_0, zCode E (xBlk fx 512 inb_S1536x4096_S256x4096_512_0)⟩,
    ⟨Rect.unit (s := S1536x256) ![256, 0] S256x256.size inb_S1536x256_S256x256_256_0, zCode E (xBlk fx 256 inb_S1536x4096_S256x4096_256_0)⟩,
    ⟨Rect.unit (s := S1536x256) ![0, 0] S256x256.size inb_S1536x256_S256x256_0_0, zCode E (xBlk fx 0 inb_S1536x4096_S256x4096_0_0)⟩]

/-- They cover their array. -/
theorem cover14 (E : Env F) (fx : Vec F S1536x4096 .bf16) (y : S1536x256.Idx) : ∃ p ∈ list14 E fx, y ∈ p.1.set :=
  View.cover_of_tiledL (list14 E fx) S256x256.size (by sl_kernel_rfl) y

/-- The prologue writes them. -/
theorem run14 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.1 = list14 (runEnv c arg1 harg1 arg5 harg5 arg6 harg6 arg7 harg7 arg8 harg8 x1 x5 x6 x7 x8) fx := by
  rw [pieces14, read0, read1, read2, read3, read4, read5]; rfl

/-- The pieces of the int8 scales. -/
def list15 (E : Env F) (fx : Vec F S1536x4096 .bf16) : List (View.Piece (Elt F) S3x512 .f32) :=
  [⟨Rect.unit (s := S3x512) ![2, 384] S1x128.size inb_S3x512_S1x128_2_384, bot (zScale E (xBlk fx 1280 inb_S1536x4096_S256x4096_1280_0))⟩,
    ⟨Rect.unit (s := S3x512) ![2, 256] S1x128.size inb_S3x512_S1x128_2_256, top (zScale E (xBlk fx 1280 inb_S1536x4096_S256x4096_1280_0))⟩,
    ⟨Rect.unit (s := S3x512) ![2, 128] S1x128.size inb_S3x512_S1x128_2_128, bot (zScale E (xBlk fx 1024 inb_S1536x4096_S256x4096_1024_0))⟩,
    ⟨Rect.unit (s := S3x512) ![2, 0] S1x128.size inb_S3x512_S1x128_2_0, top (zScale E (xBlk fx 1024 inb_S1536x4096_S256x4096_1024_0))⟩,
    ⟨Rect.unit (s := S3x512) ![1, 384] S1x128.size inb_S3x512_S1x128_1_384, bot (zScale E (xBlk fx 768 inb_S1536x4096_S256x4096_768_0))⟩,
    ⟨Rect.unit (s := S3x512) ![1, 256] S1x128.size inb_S3x512_S1x128_1_256, top (zScale E (xBlk fx 768 inb_S1536x4096_S256x4096_768_0))⟩,
    ⟨Rect.unit (s := S3x512) ![1, 128] S1x128.size inb_S3x512_S1x128_1_128, bot (zScale E (xBlk fx 512 inb_S1536x4096_S256x4096_512_0))⟩,
    ⟨Rect.unit (s := S3x512) ![1, 0] S1x128.size inb_S3x512_S1x128_1_0, top (zScale E (xBlk fx 512 inb_S1536x4096_S256x4096_512_0))⟩,
    ⟨Rect.unit (s := S3x512) ![0, 384] S1x128.size inb_S3x512_S1x128_0_384, bot (zScale E (xBlk fx 256 inb_S1536x4096_S256x4096_256_0))⟩,
    ⟨Rect.unit (s := S3x512) ![0, 256] S1x128.size inb_S3x512_S1x128_0_256, top (zScale E (xBlk fx 256 inb_S1536x4096_S256x4096_256_0))⟩,
    ⟨Rect.unit (s := S3x512) ![0, 128] S1x128.size inb_S3x512_S1x128_0_128, bot (zScale E (xBlk fx 0 inb_S1536x4096_S256x4096_0_0))⟩,
    ⟨Rect.unit (s := S3x512) ![0, 0] S1x128.size inb_S3x512_S1x128_0_0, top (zScale E (xBlk fx 0 inb_S1536x4096_S256x4096_0_0))⟩]

/-- They cover their array. -/
theorem cover15 (E : Env F) (fx : Vec F S1536x4096 .bf16) (y : S3x512.Idx) : ∃ p ∈ list15 E fx, y ∈ p.1.set :=
  View.cover_of_tiledL (list15 E fx) S1x128.size (by sl_kernel_rfl) y

/-- The prologue writes them. -/
theorem run15 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.1 = list15 (runEnv c arg1 harg1 arg5 harg5 arg6 harg6 arg7 harg7 arg8 harg8 x1 x5 x6 x7 x8) fx := by
  rw [pieces15, read0, read1, read2, read3, read4, read5]; rfl

/-- The pieces of the second fp8 codes. -/
def list16 (E : Env F) (fx : Vec F S1536x4096 .bf16) : List (View.Piece (Elt F) S1536x256 .fp8e4m3) :=
  [⟨Rect.unit (s := S1536x256) ![1280, 0] S256x256.size inb_S1536x256_S256x256_1280_0, hCode E 1280#32 (xBlk fx 1280 inb_S1536x4096_S256x4096_1280_0)⟩,
    ⟨Rect.unit (s := S1536x256) ![1024, 0] S256x256.size inb_S1536x256_S256x256_1024_0, hCode E 1024#32 (xBlk fx 1024 inb_S1536x4096_S256x4096_1024_0)⟩,
    ⟨Rect.unit (s := S1536x256) ![768, 0] S256x256.size inb_S1536x256_S256x256_768_0, hCode E 768#32 (xBlk fx 768 inb_S1536x4096_S256x4096_768_0)⟩,
    ⟨Rect.unit (s := S1536x256) ![512, 0] S256x256.size inb_S1536x256_S256x256_512_0, hCode E 512#32 (xBlk fx 512 inb_S1536x4096_S256x4096_512_0)⟩,
    ⟨Rect.unit (s := S1536x256) ![256, 0] S256x256.size inb_S1536x256_S256x256_256_0, hCode E 256#32 (xBlk fx 256 inb_S1536x4096_S256x4096_256_0)⟩,
    ⟨Rect.unit (s := S1536x256) ![0, 0] S256x256.size inb_S1536x256_S256x256_0_0, hCode E 0#32 (xBlk fx 0 inb_S1536x4096_S256x4096_0_0)⟩]

/-- They cover their array. -/
theorem cover16 (E : Env F) (fx : Vec F S1536x4096 .bf16) (y : S1536x256.Idx) : ∃ p ∈ list16 E fx, y ∈ p.1.set :=
  View.cover_of_tiledL (list16 E fx) S256x256.size (by sl_kernel_rfl) y

/-- The prologue writes them. -/
theorem run16 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.1 = list16 (runEnv c arg1 harg1 arg5 harg5 arg6 harg6 arg7 harg7 arg8 harg8 x1 x5 x6 x7 x8) fx := by
  rw [pieces16, read0, read1, read2, read3, read4, read5]; rfl

/-- The pieces of the second scales. -/
def list17 (E : Env F) (fx : Vec F S1536x4096 .bf16) : List (View.Piece (Elt F) S3x512 .f32) :=
  [⟨Rect.unit (s := S3x512) ![2, 384] S1x128.size inb_S3x512_S1x128_2_384, bot (hScale E 1280#32 (xBlk fx 1280 inb_S1536x4096_S256x4096_1280_0))⟩,
    ⟨Rect.unit (s := S3x512) ![2, 256] S1x128.size inb_S3x512_S1x128_2_256, top (hScale E 1280#32 (xBlk fx 1280 inb_S1536x4096_S256x4096_1280_0))⟩,
    ⟨Rect.unit (s := S3x512) ![2, 128] S1x128.size inb_S3x512_S1x128_2_128, bot (hScale E 1024#32 (xBlk fx 1024 inb_S1536x4096_S256x4096_1024_0))⟩,
    ⟨Rect.unit (s := S3x512) ![2, 0] S1x128.size inb_S3x512_S1x128_2_0, top (hScale E 1024#32 (xBlk fx 1024 inb_S1536x4096_S256x4096_1024_0))⟩,
    ⟨Rect.unit (s := S3x512) ![1, 384] S1x128.size inb_S3x512_S1x128_1_384, bot (hScale E 768#32 (xBlk fx 768 inb_S1536x4096_S256x4096_768_0))⟩,
    ⟨Rect.unit (s := S3x512) ![1, 256] S1x128.size inb_S3x512_S1x128_1_256, top (hScale E 768#32 (xBlk fx 768 inb_S1536x4096_S256x4096_768_0))⟩,
    ⟨Rect.unit (s := S3x512) ![1, 128] S1x128.size inb_S3x512_S1x128_1_128, bot (hScale E 512#32 (xBlk fx 512 inb_S1536x4096_S256x4096_512_0))⟩,
    ⟨Rect.unit (s := S3x512) ![1, 0] S1x128.size inb_S3x512_S1x128_1_0, top (hScale E 512#32 (xBlk fx 512 inb_S1536x4096_S256x4096_512_0))⟩,
    ⟨Rect.unit (s := S3x512) ![0, 384] S1x128.size inb_S3x512_S1x128_0_384, bot (hScale E 256#32 (xBlk fx 256 inb_S1536x4096_S256x4096_256_0))⟩,
    ⟨Rect.unit (s := S3x512) ![0, 256] S1x128.size inb_S3x512_S1x128_0_256, top (hScale E 256#32 (xBlk fx 256 inb_S1536x4096_S256x4096_256_0))⟩,
    ⟨Rect.unit (s := S3x512) ![0, 128] S1x128.size inb_S3x512_S1x128_0_128, bot (hScale E 0#32 (xBlk fx 0 inb_S1536x4096_S256x4096_0_0))⟩,
    ⟨Rect.unit (s := S3x512) ![0, 0] S1x128.size inb_S3x512_S1x128_0_0, top (hScale E 0#32 (xBlk fx 0 inb_S1536x4096_S256x4096_0_0))⟩]

/-- They cover their array. -/
theorem cover17 (E : Env F) (fx : Vec F S1536x4096 .bf16) (y : S3x512.Idx) : ∃ p ∈ list17 E fx, y ∈ p.1.set :=
  View.cover_of_tiledL (list17 E fx) S1x128.size (by sl_kernel_rfl) y

/-- The prologue writes them. -/
theorem run17 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.1 = list17 (runEnv c arg1 harg1 arg5 harg5 arg6 harg6 arg7 harg7 arg8 harg8 x1 x5 x6 x7 x8) fx := by
  rw [pieces17, read0, read1, read2, read3, read4, read5]; rfl

/-- The pieces of the activations' codes. -/
def list19 (fx : Vec F S1536x4096 .bf16) : List (View.Piece (Elt F) S1536x4096 .fp8e4m3) :=
  [⟨Rect.unit (s := S1536x4096) ![1280, 0] S256x4096.size inb_S1536x4096_S256x4096_1280_0, shapeCast S256x4096 (xCode (xBlk fx 1280 inb_S1536x4096_S256x4096_1280_0)) shapeCasts_S256x4096_S256x4096⟩,
    ⟨Rect.unit (s := S1536x4096) ![1024, 0] S256x4096.size inb_S1536x4096_S256x4096_1024_0, shapeCast S256x4096 (xCode (xBlk fx 1024 inb_S1536x4096_S256x4096_1024_0)) shapeCasts_S256x4096_S256x4096⟩,
    ⟨Rect.unit (s := S1536x4096) ![768, 0] S256x4096.size inb_S1536x4096_S256x4096_768_0, shapeCast S256x4096 (xCode (xBlk fx 768 inb_S1536x4096_S256x4096_768_0)) shapeCasts_S256x4096_S256x4096⟩,
    ⟨Rect.unit (s := S1536x4096) ![512, 0] S256x4096.size inb_S1536x4096_S256x4096_512_0, shapeCast S256x4096 (xCode (xBlk fx 512 inb_S1536x4096_S256x4096_512_0)) shapeCasts_S256x4096_S256x4096⟩,
    ⟨Rect.unit (s := S1536x4096) ![256, 0] S256x4096.size inb_S1536x4096_S256x4096_256_0, shapeCast S256x4096 (xCode (xBlk fx 256 inb_S1536x4096_S256x4096_256_0)) shapeCasts_S256x4096_S256x4096⟩,
    ⟨Rect.unit (s := S1536x4096) ![0, 0] S256x4096.size inb_S1536x4096_S256x4096_0_0, shapeCast S256x4096 (xCode (xBlk fx 0 inb_S1536x4096_S256x4096_0_0)) shapeCasts_S256x4096_S256x4096⟩]

/-- They cover their array. -/
theorem cover19 (fx : Vec F S1536x4096 .bf16) (y : S1536x4096.Idx) : ∃ p ∈ list19 fx, y ∈ p.1.set :=
  View.cover_of_tiledL (list19 fx) S256x4096.size (by sl_kernel_rfl) y

/-- The prologue writes them. -/
theorem run19 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.2.1 = list19 fx := by
  rw [pieces19, read0, read1, read2, read3, read4, read5]; rfl

/-- The pieces of the second fp8 codes, as kept. -/
def list20 (E : Env F) (fx : Vec F S1536x4096 .bf16) : List (View.Piece (Elt F) S1536x256 .fp8e4m3) :=
  [⟨Rect.unit (s := S1536x256) ![1280, 0] S256x256.size inb_S1536x256_S256x256_1280_0, shapeCast S256x256 (hCode E 1280#32 (xBlk fx 1280 inb_S1536x4096_S256x4096_1280_0)) shapeCasts_S256x256_S256x256⟩,
    ⟨Rect.unit (s := S1536x256) ![1024, 0] S256x256.size inb_S1536x256_S256x256_1024_0, shapeCast S256x256 (hCode E 1024#32 (xBlk fx 1024 inb_S1536x4096_S256x4096_1024_0)) shapeCasts_S256x256_S256x256⟩,
    ⟨Rect.unit (s := S1536x256) ![768, 0] S256x256.size inb_S1536x256_S256x256_768_0, shapeCast S256x256 (hCode E 768#32 (xBlk fx 768 inb_S1536x4096_S256x4096_768_0)) shapeCasts_S256x256_S256x256⟩,
    ⟨Rect.unit (s := S1536x256) ![512, 0] S256x256.size inb_S1536x256_S256x256_512_0, shapeCast S256x256 (hCode E 512#32 (xBlk fx 512 inb_S1536x4096_S256x4096_512_0)) shapeCasts_S256x256_S256x256⟩,
    ⟨Rect.unit (s := S1536x256) ![256, 0] S256x256.size inb_S1536x256_S256x256_256_0, shapeCast S256x256 (hCode E 256#32 (xBlk fx 256 inb_S1536x4096_S256x4096_256_0)) shapeCasts_S256x256_S256x256⟩,
    ⟨Rect.unit (s := S1536x256) ![0, 0] S256x256.size inb_S1536x256_S256x256_0_0, shapeCast S256x256 (hCode E 0#32 (xBlk fx 0 inb_S1536x4096_S256x4096_0_0)) shapeCasts_S256x256_S256x256⟩]

/-- They cover their array. -/
theorem cover20 (E : Env F) (fx : Vec F S1536x4096 .bf16) (y : S1536x256.Idx) : ∃ p ∈ list20 E fx, y ∈ p.1.set :=
  View.cover_of_tiledL (list20 E fx) S256x256.size (by sl_kernel_rfl) y

/-- The prologue writes them. -/
theorem run20 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.2.2.1 = list20 (runEnv c arg1 harg1 arg5 harg5 arg6 harg6 arg7 harg7 arg8 harg8 x1 x5 x6 x7 x8) fx := by
  rw [pieces20, read0, read1, read2, read3, read4, read5]; rfl

/-- The pieces of the activations' scales, as kept. -/
def list21 (fx : Vec F S1536x4096 .bf16) : List (View.Piece (Elt F) S1536x128 .f32) :=
  [⟨Rect.unit (s := S1536x128) ![1280, 0] S256x128.size inb_S1536x128_S256x128_1280_0, lanes (xScale (xBlk fx 1280 inb_S1536x4096_S256x4096_1280_0))⟩,
    ⟨Rect.unit (s := S1536x128) ![1024, 0] S256x128.size inb_S1536x128_S256x128_1024_0, lanes (xScale (xBlk fx 1024 inb_S1536x4096_S256x4096_1024_0))⟩,
    ⟨Rect.unit (s := S1536x128) ![768, 0] S256x128.size inb_S1536x128_S256x128_768_0, lanes (xScale (xBlk fx 768 inb_S1536x4096_S256x4096_768_0))⟩,
    ⟨Rect.unit (s := S1536x128) ![512, 0] S256x128.size inb_S1536x128_S256x128_512_0, lanes (xScale (xBlk fx 512 inb_S1536x4096_S256x4096_512_0))⟩,
    ⟨Rect.unit (s := S1536x128) ![256, 0] S256x128.size inb_S1536x128_S256x128_256_0, lanes (xScale (xBlk fx 256 inb_S1536x4096_S256x4096_256_0))⟩,
    ⟨Rect.unit (s := S1536x128) ![0, 0] S256x128.size inb_S1536x128_S256x128_0_0, lanes (xScale (xBlk fx 0 inb_S1536x4096_S256x4096_0_0))⟩]

/-- They cover their array. -/
theorem cover21 (fx : Vec F S1536x4096 .bf16) (y : S1536x128.Idx) : ∃ p ∈ list21 fx, y ∈ p.1.set :=
  View.cover_of_tiledL (list21 fx) S256x128.size (by sl_kernel_rfl) y

/-- The prologue writes them. -/
theorem run21 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.2.2.2.1 = list21 fx := by
  rw [pieces21, read0, read1, read2, read3, read4, read5]; rfl

/-- The pieces of the second scales, as kept. -/
def list22 (E : Env F) (fx : Vec F S1536x4096 .bf16) : List (View.Piece (Elt F) S1536x128 .f32) :=
  [⟨Rect.unit (s := S1536x128) ![1280, 0] S256x128.size inb_S1536x128_S256x128_1280_0, lanes (hScale E 1280#32 (xBlk fx 1280 inb_S1536x4096_S256x4096_1280_0))⟩,
    ⟨Rect.unit (s := S1536x128) ![1024, 0] S256x128.size inb_S1536x128_S256x128_1024_0, lanes (hScale E 1024#32 (xBlk fx 1024 inb_S1536x4096_S256x4096_1024_0))⟩,
    ⟨Rect.unit (s := S1536x128) ![768, 0] S256x128.size inb_S1536x128_S256x128_768_0, lanes (hScale E 768#32 (xBlk fx 768 inb_S1536x4096_S256x4096_768_0))⟩,
    ⟨Rect.unit (s := S1536x128) ![512, 0] S256x128.size inb_S1536x128_S256x128_512_0, lanes (hScale E 512#32 (xBlk fx 512 inb_S1536x4096_S256x4096_512_0))⟩,
    ⟨Rect.unit (s := S1536x128) ![256, 0] S256x128.size inb_S1536x128_S256x128_256_0, lanes (hScale E 256#32 (xBlk fx 256 inb_S1536x4096_S256x4096_256_0))⟩,
    ⟨Rect.unit (s := S1536x128) ![0, 0] S256x128.size inb_S1536x128_S256x128_0_0, lanes (hScale E 0#32 (xBlk fx 0 inb_S1536x4096_S256x4096_0_0))⟩]

/-- They cover their array. -/
theorem cover22 (E : Env F) (fx : Vec F S1536x4096 .bf16) (y : S1536x128.Idx) : ∃ p ∈ list22 E fx, y ∈ p.1.set :=
  View.cover_of_tiledL (list22 E fx) S256x128.size (by sl_kernel_rfl) y

/-- The prologue writes them. -/
theorem run22 : (run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.2.2.2.2.1 = list22 (runEnv c arg1 harg1 arg5 harg5 arg6 harg6 arg7 harg7 arg8 harg8 x1 x5 x6 x7 x8) fx := by
  rw [pieces22, read0, read1, read2, read3, read4, read5]; rfl

end Cert.KernelIdeal.Hand

end
-- ==== Proof.Tiles.lean ====
/- One grid point's tiles of the product and the copy of the fp8 codes to the result: the kernel body cut into the prologue, the start of the copy, the tiles and the wait for the copy. -/
module

public import proofs.«01_k».proof.Proof.Prologue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ
/-- The memref `M` of core `c`, its own elements at share `q` and contents `f`. -/
def rawAt (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦[M.view.set]{q} f

/-- The tiles one grid point computes: six 512 × 512 blocks of the combined product. -/
noncomputable def tiles (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole) : Prog (TpuEff nD τ sig (Elt F) Λ₀ .tc) PUnit := do
  let v3 : Vec F S512x4096 .fp8e4m3 ← Prog.lift (.load (Memref.whole cc0_scratch1) (Rect.unit (s := S1536x4096) ![0, 0] S512x4096.size inb_S1536x4096_S512x4096_0_0).toLoadRect (View.loadsAt_vmem h_S512x4096))
  let v4 : Vec F S4096x512 .fp8e4m3 ← Prog.lift (.load arg3 (Rect.unit (s := S4096x1024) ![0, 0] S4096x512.size inb_S4096x1024_S4096x512_0_0).toLoadRect (View.loadsAt_vmem h_S4096x512))
  let v6 : Vec F S512x256 .fp8e4m3 ← Prog.lift (.load (Memref.whole cc0_scratch2) (Rect.unit (s := S1536x256) ![0, 0] S512x256.size inb_S1536x256_S512x256_0_0).toLoadRect (View.loadsAt_vmem h_S512x256))
  let v7 : Vec F S256x512 .fp8e4m3 ← Prog.lift (.load arg9 (Rect.unit (s := S256x1024) ![0, 0] S256x512.size inb_S256x1024_S256x512_0_0).toLoadRect (View.loadsAt_vmem h_S256x512))
  let v9 : Vec F S512x128 .f32 ← Prog.lift (.load (Memref.whole cc0_scratch3) (Rect.unit (s := S1536x128) ![0, 0] S512x128.size inb_S1536x128_S512x128_0_0).toLoadRect (View.loadsAt_vmem h_S512x128))
  let v11 : Vec F S512x128 .f32 ← Prog.lift (.load (Memref.whole cc0_scratch4) (Rect.unit (s := S1536x128) ![0, 0] S512x128.size inb_S1536x128_S512x128_0_0).toLoadRect (View.loadsAt_vmem h_S512x128))
  let v14 : Vec F S1x512 .f32 ← Prog.lift (.load arg4 (Rect.unit (s := S1x1024) ![0, 0] S1x512.size inb_S1x1024_S1x512_0_0).toLoadRect (View.loadsAt_vmem h_S1x512))
  let v19 : Vec F S1x512 .f32 ← Prog.lift (.load arg10 (Rect.unit (s := S1x1024) ![0, 0] S1x512.size inb_S1x1024_S1x512_0_0).toLoadRect (View.loadsAt_vmem h_S1x512))
  let v25 : Vec F S512x512 .bf16 ← Prog.lift (.load arg11 (Rect.unit (s := S1536x1024) ![0, 0] S512x512.size inb_S1536x1024_S512x512_0_0).toLoadRect (View.loadsAt_vmem h_S512x512))
  Prog.lift (.store arg11 (Rect.unit (s := S1536x1024) ![0, 0] S512x512.size inb_S1536x1024_S512x512_0_0) (k0_pay286 v3 v4 v6 v7 v9 v11 v14 v19) Finset.univ (View.stores_vmem h_S512x512 (harg11.storeExact_slice rfl _ packedbf16_S1536x1024_S512x512_0_0) (fun _ => rfl)) (.inl rfl))
  let v26 : Vec F S512x4096 .fp8e4m3 ← Prog.lift (.load (Memref.whole cc0_scratch1) (Rect.unit (s := S1536x4096) ![512, 0] S512x4096.size inb_S1536x4096_S512x4096_512_0).toLoadRect (View.loadsAt_vmem h_S512x4096))
  let v27 : Vec F S4096x512 .fp8e4m3 ← Prog.lift (.load arg3 (Rect.unit (s := S4096x1024) ![0, 0] S4096x512.size inb_S4096x1024_S4096x512_0_0).toLoadRect (View.loadsAt_vmem h_S4096x512))
  let ⟨v54, v58, v59⟩ : Σ' (v54 : FVec F S512x512 .f32) (v58 : FVec F S512x512 .f32), FVec F S512x512 .f32 ← k0_part58 i arg1 harg1 (Memref.whole main_v0) (Memref.isWhole_whole _) arg3 harg3 arg4 harg4 arg5 harg5 arg6 harg6 arg7 harg7 arg8 harg8 arg9 harg9 arg10 harg10 arg11 harg11 (Memref.whole main_v4_1) (Memref.isWhole_whole _) arg13 harg13 arg14 harg14 arg15 harg15 arg16 harg16 arg17 harg17 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 (k0_pay287 v26 v27)
  let v93 : FVec F S512x512 .bf16 ← k0_part59 i arg1 harg1 (Memref.whole main_v0) (Memref.isWhole_whole _) arg3 harg3 arg4 harg4 arg5 harg5 arg6 harg6 arg7 harg7 arg8 harg8 arg9 harg9 arg10 harg10 arg11 harg11 (Memref.whole main_v4_1) (Memref.isWhole_whole _) arg13 harg13 arg14 harg14 arg15 harg15 arg16 harg16 arg17 harg17 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v54 v58 v59
  let ⟨v120, v121⟩ : Σ' (v120 : FVec F S512x512 .f32), Vec F S512x256 .fp8e4m3 ← k0_part60 i arg1 harg1 (Memref.whole main_v0) (Memref.isWhole_whole _) arg3 harg3 arg4 harg4 arg5 harg5 arg6 harg6 arg7 harg7 arg8 harg8 arg9 harg9 arg10 harg10 arg11 harg11 (Memref.whole main_v4_1) (Memref.isWhole_whole _) arg13 harg13 arg14 harg14 arg15 harg15 arg16 harg16 arg17 harg17 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v93
  let v122 : Vec F S256x512 .fp8e4m3 ← Prog.lift (.load arg9 (Rect.unit (s := S256x1024) ![0, 512] S256x512.size inb_S256x1024_S256x512_0_512).toLoadRect (View.loadsAt_vmem h_S256x512))
  let v124 : Vec F S512x128 .f32 ← Prog.lift (.load (Memref.whole cc0_scratch3) (Rect.unit (s := S1536x128) ![1024, 0] S512x128.size inb_S1536x128_S512x128_1024_0).toLoadRect (View.loadsAt_vmem h_S512x128))
  let v126 : Vec F S512x128 .f32 ← Prog.lift (.load (Memref.whole cc0_scratch4) (Rect.unit (s := S1536x128) ![1024, 0] S512x128.size inb_S1536x128_S512x128_1024_0).toLoadRect (View.loadsAt_vmem h_S512x128))
  let v129 : Vec F S1x512 .f32 ← Prog.lift (.load arg4 (Rect.unit (s := S1x1024) ![0, 512] S1x512.size inb_S1x1024_S1x512_0_512).toLoadRect (View.loadsAt_vmem h_S1x512))
  let v134 : Vec F S1x512 .f32 ← Prog.lift (.load arg10 (Rect.unit (s := S1x1024) ![0, 512] S1x512.size inb_S1x1024_S1x512_0_512).toLoadRect (View.loadsAt_vmem h_S1x512))
  let v140 : Vec F S512x512 .bf16 ← Prog.lift (.load arg11 (Rect.unit (s := S1536x1024) ![1024, 512] S512x512.size inb_S1536x1024_S512x512_1024_512).toLoadRect (View.loadsAt_vmem h_S512x512))
  Prog.lift (.store arg11 (Rect.unit (s := S1536x1024) ![1024, 512] S512x512.size inb_S1536x1024_S512x512_1024_512) (k0_pay1 v120 v121 v122 v124 v126 v129 v134) Finset.univ (View.stores_vmem h_S512x512 (harg11.storeExact_slice rfl _ packedbf16_S1536x1024_S512x512_1024_512) (fun _ => rfl)) (.inl rfl))

/-- The start of the copy of the fp8 codes from their scratch to the result. -/
noncomputable def startCopy : Prog (TpuEff nD τ sig (Elt F) Λ₀ .tc) PUnit :=
  Prog.lift (.enqueueDma (Memref.whole cc0_scratch1) (.here (Memref.whole main_v4_1)) (.dma cc0_scratch7.sem) (Memref.isWhole_whole cc0_scratch1).wordExact (Memref.isWhole_whole main_v4_1).wordExact ⟨Or.inl rfl, trivial⟩)

/-- The wait for that copy. -/
noncomputable def finishCopy : Prog (TpuEff nD τ sig (Elt F) Λ₀ .tc) PUnit :=
  Prog.lift (.waitDma2 cc0_scratch7.sem (Memref.whole cc0_scratch1) (Memref.whole main_v4_1) (Memref.isWhole_whole cc0_scratch1).wordExact (Memref.isWhole_whole main_v4_1).wordExact)

/-- The test for the last grid point. -/
abbrev lastCond (i : grid0.Coords) : BitVec 1 := Scalar.cmpi .ne (Scalar.extui (Scalar.cmpi .eq (BitVec.ofNat 32 (i 0).val) 13#32) : BitVec 32) 0#32

set_option maxHeartbeats 2000000 in
/-- The kernel body is: at the first point the prologue and the start of the copy, then the tiles, and at the last point the wait. -/
theorem body_eq (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole) :
    cc0_lora_fp8 (F := F) i arg1 harg1 (Memref.whole main_v0) (Memref.isWhole_whole _) arg3 harg3 arg4 harg4 arg5 harg5 arg6 harg6 arg7 harg7 arg8 harg8 arg9 harg9 arg10 harg10 arg11 harg11 (Memref.whole main_v4_1) (Memref.isWhole_whole _) arg13 harg13 arg14 harg14 arg15 harg15 arg16 harg16 arg17 harg17 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7
      = (if k0_cond1 i = 1#1 then prologue i arg1 harg1 arg3 harg3 arg4 harg4 arg5 harg5 arg6 harg6 arg7 harg7 arg8 harg8 arg9 harg9 arg10 harg10 arg11 harg11 arg13 harg13 arg14 harg14 arg15 harg15 arg16 harg16 arg17 harg17 >>= fun _ => startCopy else pure ⟨⟩) >>= fun _ =>
          tiles i arg1 harg1 arg3 harg3 arg4 harg4 arg5 harg5 arg6 harg6 arg7 harg7 arg8 harg8 arg9 harg9 arg10 harg10 arg11 harg11 arg13 harg13 arg14 harg14 arg15 harg15 arg16 harg16 arg17 harg17 >>= fun _ => if lastCond i = 1#1 then finishCopy else pure ⟨⟩ := by
  simp only [cc0_lora_fp8_eq_skeleton]; unfold cc0_lora_fp8_skel
  simp only [k0_part57_eq_skeleton]; unfold k0_part57_skel tiles prologue startCopy finishCopy
  by_cases h1 : k0_cond1 i = 1#1 <;> by_cases h2 : lastCond i = 1#1 <;>
    simp only [h1, h2, dif_pos, dif_neg, if_pos, if_neg, not_false_eq_true, bind_assoc, pure_bind, bind_pure, lastCond] <;> rfl

set_option maxHeartbeats 2000000 in
/-- The tiles, run: the output block ends with the six tiles' pieces written over what it held, everything read is as before. -/
noncomputable def tilesRun (c : Dev nD) (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole) (x3 : Vec F S4096x1024 .fp8e4m3) (x4 : Vec F S1x1024 .f32) (x9 : Vec F S256x1024 .fp8e4m3) (x10 : Vec F S1x1024 .f32) (g19 : Buf (Elt F) ((Memref.whole cc0_scratch1).view.loc (c : Thread nD τ))) (g20 : Buf (Elt F) ((Memref.whole cc0_scratch2).view.loc (c : Thread nD τ))) (g21 : Buf (Elt F) ((Memref.whole cc0_scratch3).view.loc (c : Thread nD τ))) (g22 : Buf (Elt F) ((Memref.whole cc0_scratch4).view.loc (c : Thread nD τ))) :
    { L11 : List (View.Piece (Elt F) S1536x1024 .bf16) //
      ∀ (K : PUnit → sProp 𝕄),
        iprop(owns (c : Thread nD τ) arg3 fullShare x3 ∗ owns (c : Thread nD τ) arg4 fullShare x4 ∗ owns (c : Thread nD τ) arg9 fullShare x9 ∗ owns (c : Thread nD τ) arg10 fullShare x10 ∗ (∃ d, owns (c : Thread nD τ) arg11 fullShare d) ∗ rawAt c (Memref.whole cc0_scratch1) fullShare.left g19 ∗ rawAt c (Memref.whole cc0_scratch2) fullShare g20 ∗ rawAt c (Memref.whole cc0_scratch3) fullShare g21 ∗ rawAt c (Memref.whole cc0_scratch4) fullShare g22
            ∗ (iprop(owns (c : Thread nD τ) arg3 fullShare x3 ∗ owns (c : Thread nD τ) arg4 fullShare x4 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ rawAt c (Memref.whole cc0_scratch1) fullShare.left g19 ∗ rawAt c (Memref.whole cc0_scratch2) fullShare g20 ∗ rawAt c (Memref.whole cc0_scratch3) fullShare g21 ∗ rawAt c (Memref.whole cc0_scratch4) fullShare g22) -∗ K ⟨⟩))
          ⊢ wp frame (wpE (defs₀ (F := F)) Variants.none c none) Set.univ (tiles i arg1 harg1 arg3 harg3 arg4 harg4 arg5 harg5 arg6 harg6 arg7 harg7 arg8 harg8 arg9 harg9 arg10 harg10 arg11 harg11 arg13 harg13 arg14 harg14 arg15 harg15 arg16 harg16 arg17 harg17) K } := by
  refine ⟨?_, fun K => ?run⟩
  case run =>
    unfold tiles
    simp only [k0_part58_eq_skeleton, k0_part59_eq_skeleton, k0_part60_eq_skeleton]
    unfold owns rawAt
    iintro ⟨⟨%f3, %hf3, H3⟩, ⟨%f4, %hf4, H4⟩, ⟨%f9, %hf9, H9⟩, ⟨%f10, %hf10, H10⟩, ⟨%d11, %f11, -, H11⟩, H19, H20, H21, H22, Hk⟩
    obtain rfl := harg3.eq_unread hf3; obtain rfl := harg4.eq_unread hf4; obtain rfl := harg9.eq_unread hf9; obtain rfl := harg10.eq_unread hf10
    clear hf3 hf4 hf9 hf10
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H19]; · iexact H19
    isplitl [H20]; · iexact H20
    isplitl [H21]; · iexact H21
    iexact H22

end Cert.KernelIdeal.Hand

end
-- ==== Proof.Out.lean ====
/- The six tiles of an output block. -/
module

public import proofs.«01_k».proof.Proof.Tiles
public import proofs.«01_k».proof.Proof.Chunk

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A box of an array. -/
def cut {s : Shape} {e : EltTy} (x : Vec F s e) (r : Rect s) : Vec F r.shape e := fun y => x (r.emb y)

/-- A load through a whole buffer reads the box. -/
theorem readAt_unread {sp : Space} {s : Shape} {e : EltTy} (M : Memref sig .tc sp s e) (h : M.IsWhole) (x : Vec F s e) (r : Rect s) :
    View.readAt (Elt F) M.view r.toLoadRect (h.unread x) = cut x r := by
  funext y
  exact congrFun (h.read_unread x) (r.emb y)

/-- The six tiles, as pieces of the block. -/
def list11 (x3 : Vec F S4096x1024 .fp8e4m3) (x4 : Vec F S1x1024 .f32) (x9 : Vec F S256x1024 .fp8e4m3) (x10 : Vec F S1x1024 .f32) (g19 : Vec F S1536x4096 .fp8e4m3) (g20 : Vec F S1536x256 .fp8e4m3) (g21 : Vec F S1536x128 .f32) (g22 : Vec F S1536x128 .f32) : List (View.Piece (Elt F) S1536x1024 .bf16) :=
  [⟨Rect.unit (s := S1536x1024) ![1024, 512] S512x512.size inb_S1536x1024_S512x512_1024_512, yTile (cut g19 (Rect.unit (s := S1536x4096) ![1024, 0] S512x4096.size inb_S1536x4096_S512x4096_1024_0)) (cut x3 (Rect.unit (s := S4096x1024) ![0, 512] S4096x512.size inb_S4096x1024_S4096x512_0_512)) (cut g20 (Rect.unit (s := S1536x256) ![1024, 0] S512x256.size inb_S1536x256_S512x256_1024_0)) (cut x9 (Rect.unit (s := S256x1024) ![0, 512] S256x512.size inb_S256x1024_S256x512_0_512)) (cut g21 (Rect.unit (s := S1536x128) ![1024, 0] S512x128.size inb_S1536x128_S512x128_1024_0)) (cut g22 (Rect.unit (s := S1536x128) ![1024, 0] S512x128.size inb_S1536x128_S512x128_1024_0)) (cut x4 (Rect.unit (s := S1x1024) ![0, 512] S1x512.size inb_S1x1024_S1x512_0_512)) (cut x10 (Rect.unit (s := S1x1024) ![0, 512] S1x512.size inb_S1x1024_S1x512_0_512))⟩,
    ⟨Rect.unit (s := S1536x1024) ![512, 512] S512x512.size inb_S1536x1024_S512x512_512_512, yTile (cut g19 (Rect.unit (s := S1536x4096) ![512, 0] S512x4096.size inb_S1536x4096_S512x4096_512_0)) (cut x3 (Rect.unit (s := S4096x1024) ![0, 512] S4096x512.size inb_S4096x1024_S4096x512_0_512)) (cut g20 (Rect.unit (s := S1536x256) ![512, 0] S512x256.size inb_S1536x256_S512x256_512_0)) (cut x9 (Rect.unit (s := S256x1024) ![0, 512] S256x512.size inb_S256x1024_S256x512_0_512)) (cut g21 (Rect.unit (s := S1536x128) ![512, 0] S512x128.size inb_S1536x128_S512x128_512_0)) (cut g22 (Rect.unit (s := S1536x128) ![512, 0] S512x128.size inb_S1536x128_S512x128_512_0)) (cut x4 (Rect.unit (s := S1x1024) ![0, 512] S1x512.size inb_S1x1024_S1x512_0_512)) (cut x10 (Rect.unit (s := S1x1024) ![0, 512] S1x512.size inb_S1x1024_S1x512_0_512))⟩,
    ⟨Rect.unit (s := S1536x1024) ![0, 512] S512x512.size inb_S1536x1024_S512x512_0_512, yTile (cut g19 (Rect.unit (s := S1536x4096) ![0, 0] S512x4096.size inb_S1536x4096_S512x4096_0_0)) (cut x3 (Rect.unit (s := S4096x1024) ![0, 512] S4096x512.size inb_S4096x1024_S4096x512_0_512)) (cut g20 (Rect.unit (s := S1536x256) ![0, 0] S512x256.size inb_S1536x256_S512x256_0_0)) (cut x9 (Rect.unit (s := S256x1024) ![0, 512] S256x512.size inb_S256x1024_S256x512_0_512)) (cut g21 (Rect.unit (s := S1536x128) ![0, 0] S512x128.size inb_S1536x128_S512x128_0_0)) (cut g22 (Rect.unit (s := S1536x128) ![0, 0] S512x128.size inb_S1536x128_S512x128_0_0)) (cut x4 (Rect.unit (s := S1x1024) ![0, 512] S1x512.size inb_S1x1024_S1x512_0_512)) (cut x10 (Rect.unit (s := S1x1024) ![0, 512] S1x512.size inb_S1x1024_S1x512_0_512))⟩,
    ⟨Rect.unit (s := S1536x1024) ![1024, 0] S512x512.size inb_S1536x1024_S512x512_1024_0, yTile (cut g19 (Rect.unit (s := S1536x4096) ![1024, 0] S512x4096.size inb_S1536x4096_S512x4096_1024_0)) (cut x3 (Rect.unit (s := S4096x1024) ![0, 0] S4096x512.size inb_S4096x1024_S4096x512_0_0)) (cut g20 (Rect.unit (s := S1536x256) ![1024, 0] S512x256.size inb_S1536x256_S512x256_1024_0)) (cut x9 (Rect.unit (s := S256x1024) ![0, 0] S256x512.size inb_S256x1024_S256x512_0_0)) (cut g21 (Rect.unit (s := S1536x128) ![1024, 0] S512x128.size inb_S1536x128_S512x128_1024_0)) (cut g22 (Rect.unit (s := S1536x128) ![1024, 0] S512x128.size inb_S1536x128_S512x128_1024_0)) (cut x4 (Rect.unit (s := S1x1024) ![0, 0] S1x512.size inb_S1x1024_S1x512_0_0)) (cut x10 (Rect.unit (s := S1x1024) ![0, 0] S1x512.size inb_S1x1024_S1x512_0_0))⟩,
    ⟨Rect.unit (s := S1536x1024) ![512, 0] S512x512.size inb_S1536x1024_S512x512_512_0, yTile (cut g19 (Rect.unit (s := S1536x4096) ![512, 0] S512x4096.size inb_S1536x4096_S512x4096_512_0)) (cut x3 (Rect.unit (s := S4096x1024) ![0, 0] S4096x512.size inb_S4096x1024_S4096x512_0_0)) (cut g20 (Rect.unit (s := S1536x256) ![512, 0] S512x256.size inb_S1536x256_S512x256_512_0)) (cut x9 (Rect.unit (s := S256x1024) ![0, 0] S256x512.size inb_S256x1024_S256x512_0_0)) (cut g21 (Rect.unit (s := S1536x128) ![512, 0] S512x128.size inb_S1536x128_S512x128_512_0)) (cut g22 (Rect.unit (s := S1536x128) ![512, 0] S512x128.size inb_S1536x128_S512x128_512_0)) (cut x4 (Rect.unit (s := S1x1024) ![0, 0] S1x512.size inb_S1x1024_S1x512_0_0)) (cut x10 (Rect.unit (s := S1x1024) ![0, 0] S1x512.size inb_S1x1024_S1x512_0_0))⟩,
    ⟨Rect.unit (s := S1536x1024) ![0, 0] S512x512.size inb_S1536x1024_S512x512_0_0, yTile (cut g19 (Rect.unit (s := S1536x4096) ![0, 0] S512x4096.size inb_S1536x4096_S512x4096_0_0)) (cut x3 (Rect.unit (s := S4096x1024) ![0, 0] S4096x512.size inb_S4096x1024_S4096x512_0_0)) (cut g20 (Rect.unit (s := S1536x256) ![0, 0] S512x256.size inb_S1536x256_S512x256_0_0)) (cut x9 (Rect.unit (s := S256x1024) ![0, 0] S256x512.size inb_S256x1024_S256x512_0_0)) (cut g21 (Rect.unit (s := S1536x128) ![0, 0] S512x128.size inb_S1536x128_S512x128_0_0)) (cut g22 (Rect.unit (s := S1536x128) ![0, 0] S512x128.size inb_S1536x128_S512x128_0_0)) (cut x4 (Rect.unit (s := S1x1024) ![0, 0] S1x512.size inb_S1x1024_S1x512_0_0)) (cut x10 (Rect.unit (s := S1x1024) ![0, 0] S1x512.size inb_S1x1024_S1x512_0_0))⟩]

/-- They cover the block. -/
theorem cover11 (x3 : Vec F S4096x1024 .fp8e4m3) (x4 : Vec F S1x1024 .f32) (x9 : Vec F S256x1024 .fp8e4m3) (x10 : Vec F S1x1024 .f32) (g19 : Vec F S1536x4096 .fp8e4m3) (g20 : Vec F S1536x256 .fp8e4m3) (g21 : Vec F S1536x128 .f32) (g22 : Vec F S1536x128 .f32) (y : S1536x1024.Idx) : ∃ p ∈ list11 x3 x4 x9 x10 g19 g20 g21 g22, y ∈ p.1.set :=
  View.cover_of_tiledL (list11 x3 x4 x9 x10 g19 g20 g21 g22) S512x512.size (by sl_kernel_rfl) y

set_option maxHeartbeats 1000000 in
/-- The tiles' run writes them, as read through the staging buffers. -/
theorem pieces11 (c : Dev nD) (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole) (x3 : Vec F S4096x1024 .fp8e4m3) (x4 : Vec F S1x1024 .f32) (x9 : Vec F S256x1024 .fp8e4m3) (x10 : Vec F S1x1024 .f32) (g19 : Vec F S1536x4096 .fp8e4m3) (g20 : Vec F S1536x256 .fp8e4m3) (g21 : Vec F S1536x128 .f32) (g22 : Vec F S1536x128 .f32) :
    (tilesRun c i arg1 harg1 arg3 harg3 arg4 harg4 arg5 harg5 arg6 harg6 arg7 harg7 arg8 harg8 arg9 harg9 arg10 harg10 arg11 harg11 arg13 harg13 arg14 harg14 arg15 harg15 arg16 harg16 arg17 harg17 x3 x4 x9 x10 g19 g20 g21 g22).1 =
      [⟨Rect.unit (s := S1536x1024) ![1024, 512] S512x512.size inb_S1536x1024_S512x512_1024_512, yTile (cut g19 (Rect.unit (s := S1536x4096) ![1024, 0] S512x4096.size inb_S1536x4096_S512x4096_1024_0)) (View.readAt (Elt F) arg3.view (Rect.unit (s := S4096x1024) ![0, 512] S4096x512.size inb_S4096x1024_S4096x512_0_512).toLoadRect (harg3.unread x3)) (cut g20 (Rect.unit (s := S1536x256) ![1024, 0] S512x256.size inb_S1536x256_S512x256_1024_0)) (View.readAt (Elt F) arg9.view (Rect.unit (s := S256x1024) ![0, 512] S256x512.size inb_S256x1024_S256x512_0_512).toLoadRect (harg9.unread x9)) (cut g21 (Rect.unit (s := S1536x128) ![1024, 0] S512x128.size inb_S1536x128_S512x128_1024_0)) (cut g22 (Rect.unit (s := S1536x128) ![1024, 0] S512x128.size inb_S1536x128_S512x128_1024_0)) (View.readAt (Elt F) arg4.view (Rect.unit (s := S1x1024) ![0, 512] S1x512.size inb_S1x1024_S1x512_0_512).toLoadRect (harg4.unread x4)) (View.readAt (Elt F) arg10.view (Rect.unit (s := S1x1024) ![0, 512] S1x512.size inb_S1x1024_S1x512_0_512).toLoadRect (harg10.unread x10))⟩,
    ⟨Rect.unit (s := S1536x1024) ![512, 512] S512x512.size inb_S1536x1024_S512x512_512_512, yTile (cut g19 (Rect.unit (s := S1536x4096) ![512, 0] S512x4096.size inb_S1536x4096_S512x4096_512_0)) (View.readAt (Elt F) arg3.view (Rect.unit (s := S4096x1024) ![0, 512] S4096x512.size inb_S4096x1024_S4096x512_0_512).toLoadRect (harg3.unread x3)) (cut g20 (Rect.unit (s := S1536x256) ![512, 0] S512x256.size inb_S1536x256_S512x256_512_0)) (View.readAt (Elt F) arg9.view (Rect.unit (s := S256x1024) ![0, 512] S256x512.size inb_S256x1024_S256x512_0_512).toLoadRect (harg9.unread x9)) (cut g21 (Rect.unit (s := S1536x128) ![512, 0] S512x128.size inb_S1536x128_S512x128_512_0)) (cut g22 (Rect.unit (s := S1536x128) ![512, 0] S512x128.size inb_S1536x128_S512x128_512_0)) (View.readAt (Elt F) arg4.view (Rect.unit (s := S1x1024) ![0, 512] S1x512.size inb_S1x1024_S1x512_0_512).toLoadRect (harg4.unread x4)) (View.readAt (Elt F) arg10.view (Rect.unit (s := S1x1024) ![0, 512] S1x512.size inb_S1x1024_S1x512_0_512).toLoadRect (harg10.unread x10))⟩,
    ⟨Rect.unit (s := S1536x1024) ![0, 512] S512x512.size inb_S1536x1024_S512x512_0_512, yTile (cut g19 (Rect.unit (s := S1536x4096) ![0, 0] S512x4096.size inb_S1536x4096_S512x4096_0_0)) (View.readAt (Elt F) arg3.view (Rect.unit (s := S4096x1024) ![0, 512] S4096x512.size inb_S4096x1024_S4096x512_0_512).toLoadRect (harg3.unread x3)) (cut g20 (Rect.unit (s := S1536x256) ![0, 0] S512x256.size inb_S1536x256_S512x256_0_0)) (View.readAt (Elt F) arg9.view (Rect.unit (s := S256x1024) ![0, 512] S256x512.size inb_S256x1024_S256x512_0_512).toLoadRect (harg9.unread x9)) (cut g21 (Rect.unit (s := S1536x128) ![0, 0] S512x128.size inb_S1536x128_S512x128_0_0)) (cut g22 (Rect.unit (s := S1536x128) ![0, 0] S512x128.size inb_S1536x128_S512x128_0_0)) (View.readAt (Elt F) arg4.view (Rect.unit (s := S1x1024) ![0, 512] S1x512.size inb_S1x1024_S1x512_0_512).toLoadRect (harg4.unread x4)) (View.readAt (Elt F) arg10.view (Rect.unit (s := S1x1024) ![0, 512] S1x512.size inb_S1x1024_S1x512_0_512).toLoadRect (harg10.unread x10))⟩,
    ⟨Rect.unit (s := S1536x1024) ![1024, 0] S512x512.size inb_S1536x1024_S512x512_1024_0, yTile (cut g19 (Rect.unit (s := S1536x4096) ![1024, 0] S512x4096.size inb_S1536x4096_S512x4096_1024_0)) (View.readAt (Elt F) arg3.view (Rect.unit (s := S4096x1024) ![0, 0] S4096x512.size inb_S4096x1024_S4096x512_0_0).toLoadRect (harg3.unread x3)) (cut g20 (Rect.unit (s := S1536x256) ![1024, 0] S512x256.size inb_S1536x256_S512x256_1024_0)) (View.readAt (Elt F) arg9.view (Rect.unit (s := S256x1024) ![0, 0] S256x512.size inb_S256x1024_S256x512_0_0).toLoadRect (harg9.unread x9)) (cut g21 (Rect.unit (s := S1536x128) ![1024, 0] S512x128.size inb_S1536x128_S512x128_1024_0)) (cut g22 (Rect.unit (s := S1536x128) ![1024, 0] S512x128.size inb_S1536x128_S512x128_1024_0)) (View.readAt (Elt F) arg4.view (Rect.unit (s := S1x1024) ![0, 0] S1x512.size inb_S1x1024_S1x512_0_0).toLoadRect (harg4.unread x4)) (View.readAt (Elt F) arg10.view (Rect.unit (s := S1x1024) ![0, 0] S1x512.size inb_S1x1024_S1x512_0_0).toLoadRect (harg10.unread x10))⟩,
    ⟨Rect.unit (s := S1536x1024) ![512, 0] S512x512.size inb_S1536x1024_S512x512_512_0, yTile (cut g19 (Rect.unit (s := S1536x4096) ![512, 0] S512x4096.size inb_S1536x4096_S512x4096_512_0)) (View.readAt (Elt F) arg3.view (Rect.unit (s := S4096x1024) ![0, 0] S4096x512.size inb_S4096x1024_S4096x512_0_0).toLoadRect (harg3.unread x3)) (cut g20 (Rect.unit (s := S1536x256) ![512, 0] S512x256.size inb_S1536x256_S512x256_512_0)) (View.readAt (Elt F) arg9.view (Rect.unit (s := S256x1024) ![0, 0] S256x512.size inb_S256x1024_S256x512_0_0).toLoadRect (harg9.unread x9)) (cut g21 (Rect.unit (s := S1536x128) ![512, 0] S512x128.size inb_S1536x128_S512x128_512_0)) (cut g22 (Rect.unit (s := S1536x128) ![512, 0] S512x128.size inb_S1536x128_S512x128_512_0)) (View.readAt (Elt F) arg4.view (Rect.unit (s := S1x1024) ![0, 0] S1x512.size inb_S1x1024_S1x512_0_0).toLoadRect (harg4.unread x4)) (View.readAt (Elt F) arg10.view (Rect.unit (s := S1x1024) ![0, 0] S1x512.size inb_S1x1024_S1x512_0_0).toLoadRect (harg10.unread x10))⟩,
    ⟨Rect.unit (s := S1536x1024) ![0, 0] S512x512.size inb_S1536x1024_S512x512_0_0, yTile (cut g19 (Rect.unit (s := S1536x4096) ![0, 0] S512x4096.size inb_S1536x4096_S512x4096_0_0)) (View.readAt (Elt F) arg3.view (Rect.unit (s := S4096x1024) ![0, 0] S4096x512.size inb_S4096x1024_S4096x512_0_0).toLoadRect (harg3.unread x3)) (cut g20 (Rect.unit (s := S1536x256) ![0, 0] S512x256.size inb_S1536x256_S512x256_0_0)) (View.readAt (Elt F) arg9.view (Rect.unit (s := S256x1024) ![0, 0] S256x512.size inb_S256x1024_S256x512_0_0).toLoadRect (harg9.unread x9)) (cut g21 (Rect.unit (s := S1536x128) ![0, 0] S512x128.size inb_S1536x128_S512x128_0_0)) (cut g22 (Rect.unit (s := S1536x128) ![0, 0] S512x128.size inb_S1536x128_S512x128_0_0)) (View.readAt (Elt F) arg4.view (Rect.unit (s := S1x1024) ![0, 0] S1x512.size inb_S1x1024_S1x512_0_0).toLoadRect (harg4.unread x4)) (View.readAt (Elt F) arg10.view (Rect.unit (s := S1x1024) ![0, 0] S1x512.size inb_S1x1024_S1x512_0_0).toLoadRect (harg10.unread x10))⟩] := by sl_kernel_rfl

/-- The tiles' run writes them. -/
theorem run11 (c : Dev nD) (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole) (x3 : Vec F S4096x1024 .fp8e4m3) (x4 : Vec F S1x1024 .f32) (x9 : Vec F S256x1024 .fp8e4m3) (x10 : Vec F S1x1024 .f32) (g19 : Vec F S1536x4096 .fp8e4m3) (g20 : Vec F S1536x256 .fp8e4m3) (g21 : Vec F S1536x128 .f32) (g22 : Vec F S1536x128 .f32) :
    (tilesRun c i arg1 harg1 arg3 harg3 arg4 harg4 arg5 harg5 arg6 harg6 arg7 harg7 arg8 harg8 arg9 harg9 arg10 harg10 arg11 harg11 arg13 harg13 arg14 harg14 arg15 harg15 arg16 harg16 arg17 harg17 x3 x4 x9 x10 g19 g20 g21 g22).1 = list11 x3 x4 x9 x10 g19 g20 g21 g22 := by
  rw [pieces11]; simp only [readAt_unread]; rfl

end Cert.KernelIdeal.Hand

end
-- ==== Proof.Copy.lean ====
/- The copy of the fp8 codes out of their scratch: its start at the first grid point and its wait at the last. -/
module

public import proofs.«01_k».proof.Proof.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- The copy in flight: it will hand over the result at `fy` and the lent half of the scratch at `fk`. -/
def flying (c : Dev nD) (fy : Buf (Elt F) ((Memref.whole main_v4_1).view.loc (c : Thread nD τ))) (fk : Buf (Elt F) ((Memref.whole cc0_scratch1).view.loc (c : Thread nD τ))) : sProp 𝕄 :=
  Transfers.Flight (countersEmb (U := Pipeline.UC sig nD τ)) (c : Thread nD τ) (.dma cc0_scratch7.sem) default
    196608
    iprop(((Memref.whole main_v4_1).view.loc (c : Thread nD τ) ↦[(Memref.whole main_v4_1).view.set]{fullShare} fy) ∗ ((Memref.whole cc0_scratch1).view.loc (c : Thread nD τ) ↦[(Memref.whole cc0_scratch1).view.set]{fullShare.right} fk))

set_option maxHeartbeats 300000 in
/-- Starting the copy lends half of the scratch to it. -/
def startRun (c : Dev nD) (fy : Buf (Elt F) ((Memref.whole main_v4_1).view.loc (c : Thread nD τ))) (fk : Buf (Elt F) ((Memref.whole cc0_scratch1).view.loc (c : Thread nD τ))) :
    { D : sProp 𝕄 //
      ∀ (K : PUnit → sProp 𝕄),
        iprop(rawAt c (Memref.whole main_v4_1) fullShare fy ∗ rawAt c (Memref.whole cc0_scratch1) fullShare fk ∗ semVal ((c : Thread nD τ), SemLoc.dma 22) 0
            ∗ (iprop(rawAt c (Memref.whole cc0_scratch1) fullShare.left fk ∗ D) -∗ K ⟨⟩))
          ⊢ wp frame (wpE (defs₀ (F := F)) Variants.none c none) Set.univ startCopy K } := by
  refine ⟨?_, fun K => ?run⟩
  case run =>
    unfold startCopy rawAt
    iintro ⟨HY, HK, Hd, Hk⟩
    set_option sl_exec.lendShare "HK" in sl_exec
    sl_step
    iapply Hk
    isplitr [Hd]
    · iexact HK
    iexact Hd

/-- What is then in flight: the result with the scratch's contents written over it. -/
theorem startRun_eq (c : Dev nD) (fy : Buf (Elt F) ((Memref.whole main_v4_1).view.loc (c : Thread nD τ))) (fk : Buf (Elt F) ((Memref.whole cc0_scratch1).view.loc (c : Thread nD τ))) :
    (startRun c fy fk).1 = flying c ((Memref.whole main_v4_1).view.writes (Elt F) fy [⟨Rect.whole S1536x4096, (fk : Vec F S1536x4096 .fp8e4m3)⟩]) fk := by sl_kernel_rfl

/-- That is, the scratch's contents. -/
theorem carried (c : Dev nD) (fy : Buf (Elt F) ((Memref.whole main_v4_1).view.loc (c : Thread nD τ))) (x : Vec F S1536x4096 .fp8e4m3) :
    (Memref.whole main_v4_1).view.writes (Elt F) fy [⟨Rect.whole S1536x4096, x⟩] = x :=
  Eq.trans (b := (Memref.whole main_v4_1).view.read (Elt F) ((Memref.whole main_v4_1).view.writes (Elt F) fy [⟨Rect.whole S1536x4096, x⟩])) (by sl_kernel_rfl) (View.read_writes_whole (Memref.whole main_v4_1).view fy x)

set_option maxHeartbeats 300000 in
/-- Waiting for the copy gives back both. -/
theorem finishRun (c : Dev nD) (fy : Buf (Elt F) ((Memref.whole main_v4_1).view.loc (c : Thread nD τ))) (fk : Buf (Elt F) ((Memref.whole cc0_scratch1).view.loc (c : Thread nD τ))) (W : Waits sig Unit) (K : PUnit → sProp 𝕄) :
    iprop(flying c fy fk ∗ rawAt c (Memref.whole cc0_scratch1) fullShare.left fk ∗ owes (c : Thread nD τ) 0 W
        ∗ (iprop(rawAt c (Memref.whole main_v4_1) fullShare fy ∗ rawAt c (Memref.whole cc0_scratch1) fullShare fk ∗ semVal ((c : Thread nD τ), SemLoc.dma 22) 0 ∗ (∃ W, owes (c : Thread nD τ) 0 W)) -∗ K ⟨⟩))
      ⊢ wp frame (wpE (defs₀ (F := F)) Variants.none c none) Set.univ finishCopy K := by
  unfold finishCopy rawAt flying
  iintro ⟨HF, HK, HO, Hk⟩
  set_option sl_exec.lendShare "HK" in sl_exec
  sl_step
  iapply Hk
  isplitl [HF_dst]; · iexact HF_dst
  isplitl [HK]; · iexact HK
  isplitl [HF]; · iexact HF
  iexists _; iexact HO

end Cert.KernelIdeal.Hand

end
-- ==== Proof.Body.lean ====
/- The kernel body at the first grid point, at a middle one and at the last. -/
module

public import proofs.«01_k».proof.Proof.Reads
public import proofs.«01_k».proof.Proof.Out
public import proofs.«01_k».proof.Proof.Copy

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- The activations' scales. -/
def arr13 (fx : Vec F S1536x4096 .bf16) : Vec F S3x512 .f32 := View.canon (list13 fx)

/-- The int8 codes. -/
def arr14 (E : Env F) (fx : Vec F S1536x4096 .bf16) : Vec F S1536x256 .i8 := View.canon (list14 E fx)

/-- The int8 scales. -/
def arr15 (E : Env F) (fx : Vec F S1536x4096 .bf16) : Vec F S3x512 .f32 := View.canon (list15 E fx)

/-- The second fp8 codes. -/
def arr16 (E : Env F) (fx : Vec F S1536x4096 .bf16) : Vec F S1536x256 .fp8e4m3 := View.canon (list16 E fx)

/-- The second scales. -/
def arr17 (E : Env F) (fx : Vec F S1536x4096 .bf16) : Vec F S3x512 .f32 := View.canon (list17 E fx)

/-- The activations' fp8 codes. -/
def arr19 (fx : Vec F S1536x4096 .bf16) : Vec F S1536x4096 .fp8e4m3 := View.canon (list19 fx)

/-- The second fp8 codes, as kept. -/
def arr20 (E : Env F) (fx : Vec F S1536x4096 .bf16) : Vec F S1536x256 .fp8e4m3 := View.canon (list20 E fx)

/-- The activations' scales, as kept, one row of equal lanes each. -/
def arr21 (fx : Vec F S1536x4096 .bf16) : Vec F S1536x128 .f32 := View.canon (list21 fx)

/-- The second scales, as kept, one row of equal lanes each. -/
def arr22 (E : Env F) (fx : Vec F S1536x4096 .bf16) : Vec F S1536x128 .f32 := View.canon (list22 E fx)

/-- An output block: the six tiles put together. -/
def arr11 (x3 : Vec F S4096x1024 .fp8e4m3) (x4 : Vec F S1x1024 .f32) (x9 : Vec F S256x1024 .fp8e4m3) (x10 : Vec F S1x1024 .f32) (g19 : Vec F S1536x4096 .fp8e4m3) (g20 : Vec F S1536x256 .fp8e4m3) (g21 : Vec F S1536x128 .f32) (g22 : Vec F S1536x128 .f32) : Vec F S1536x1024 .bf16 := View.canon (list11 x3 x4 x9 x10 g19 g20 g21 g22)

/-- A memref whose elements were all written holds the pieces put together. -/
theorem owns_canon (c : Dev nD) {sp : Space} {S : Shape} {e : EltTy} (M : Memref sig .tc sp S e) (f : Buf (Elt F) (M.view.loc (c : Thread nD τ)))
    (L L' : List (View.Piece (Elt F) S e)) (hL : L = L') (h : ∀ y, ∃ p ∈ L', y ∈ p.1.set) :
    iprop(M.view.loc (c : Thread nD τ) ↦[M.view.set]{fullShare} M.view.writes (Elt F) f L) ⊢ (owns (c : Thread nD τ) M fullShare (View.canon L') : sProp 𝕄) := by
  subst hL
  unfold owns
  iintro H
  iexists _; isplitr
  swap; · iexact H
  ipureintro; exact View.read_writes_eq_canon _ _ _ h

/-- A whole buffer's elements, either way. -/
theorem raw_whole (c : Dev nD) (b : Ref sig .tc) (q : PosShare TreeShare) (g : b.ty.Contents (Elt F)) :
    (rawAt c (Memref.whole b) q g : sProp 𝕄) = owns (c : Thread nD τ) (Memref.whole b) q g := by
  rw [owns_whole]; unfold rawAt; simp only [Memref.view_whole, View.set_whole]

variable (c : Dev nD) (i : grid0.Coords) (arg1 : Memref sig .tc .smem S7 .i32) (harg1 : arg1.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S1x256 .f32) (harg6 : arg6.IsWhole) (arg7 : Memref sig .tc .vmem S7x256x256 .i8) (harg7 : arg7.IsWhole) (arg8 : Memref sig .tc .vmem S7x256 .f32) (harg8 : arg8.IsWhole) (arg9 : Memref sig .tc .vmem S256x1024 .fp8e4m3) (harg9 : arg9.IsWhole) (arg10 : Memref sig .tc .vmem S1x1024 .f32) (harg10 : arg10.IsWhole) (arg11 : Memref sig .tc .vmem S1536x1024 .bf16) (harg11 : arg11.IsWhole) (arg13 : Memref sig .tc .vmem S3x512 .f32) (harg13 : arg13.IsWhole) (arg14 : Memref sig .tc .vmem S1536x256 .i8) (harg14 : arg14.IsWhole) (arg15 : Memref sig .tc .vmem S3x512 .f32) (harg15 : arg15.IsWhole) (arg16 : Memref sig .tc .vmem S1536x256 .fp8e4m3) (harg16 : arg16.IsWhole) (arg17 : Memref sig .tc .vmem S3x512 .f32) (harg17 : arg17.IsWhole)
  (x1 : Vec F S7 .i32) (x3 : Vec F S4096x1024 .fp8e4m3) (x4 : Vec F S1x1024 .f32) (x5 : Vec F S256x4096 .fp8e4m3) (x6 : Vec F S1x256 .f32) (x7 : Vec F S7x256x256 .i8) (x8 : Vec F S7x256 .f32) (x9 : Vec F S256x1024 .fp8e4m3) (x10 : Vec F S1x1024 .f32)
  (fx : Vec F S1536x4096 .bf16)

set_option maxHeartbeats 1000000 in
/-- The prologue leaves the five small results and the four kept arrays. -/
theorem prologue_wp (W : Waits sig Unit) (K : PUnit → sProp 𝕄) :
    iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ owns (c : Thread nD τ) (Memref.whole main_v0) fullShare fx ∗ semVal ((c : Thread nD τ), SemLoc.dma 20) 0 ∗ semVal ((c : Thread nD τ), SemLoc.dma 21) 0 ∗ owes (c : Thread nD τ) 0 W ∗ (iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg13 fullShare (arr13 fx) ∗ owns (c : Thread nD τ) arg14 fullShare (arr14 (runEnv c arg1 harg1 arg5 harg5 arg6 harg6 arg7 harg7 arg8 harg8 x1 x5 x6 x7 x8) fx) ∗ owns (c : Thread nD τ) arg15 fullShare (arr15 (runEnv c arg1 harg1 arg5 harg5 arg6 harg6 arg7 harg7 arg8 harg8 x1 x5 x6 x7 x8) fx) ∗ owns (c : Thread nD τ) arg16 fullShare (arr16 (runEnv c arg1 harg1 arg5 harg5 arg6 harg6 arg7 harg7 arg8 harg8 x1 x5 x6 x7 x8) fx) ∗ owns (c : Thread nD τ) arg17 fullShare (arr17 (runEnv c arg1 harg1 arg5 harg5 arg6 harg6 arg7 harg7 arg8 harg8 x1 x5 x6 x7 x8) fx) ∗ (∃ d, owns (c : Thread nD τ) (Memref.whole cc0_scratch0) fullShare d) ∗ owns (c : Thread nD τ) (Memref.whole cc0_scratch1) fullShare (arr19 fx) ∗ owns (c : Thread nD τ) (Memref.whole cc0_scratch2) fullShare (arr20 (runEnv c arg1 harg1 arg5 harg5 arg6 harg6 arg7 harg7 arg8 harg8 x1 x5 x6 x7 x8) fx) ∗ owns (c : Thread nD τ) (Memref.whole cc0_scratch3) fullShare (arr21 fx) ∗ owns (c : Thread nD τ) (Memref.whole cc0_scratch4) fullShare (arr22 (runEnv c arg1 harg1 arg5 harg5 arg6 harg6 arg7 harg7 arg8 harg8 x1 x5 x6 x7 x8) fx) ∗ (∃ d, owns (c : Thread nD τ) (Memref.whole cc0_scratch5) fullShare d) ∗ owns (c : Thread nD τ) (Memref.whole main_v0) fullShare fx ∗ semVal ((c : Thread nD τ), SemLoc.dma 20) 0 ∗ semVal ((c : Thread nD τ), SemLoc.dma 21) 0 ∗ (∃ W, owes (c : Thread nD τ) 0 W)) -∗ K ⟨⟩))
      ⊢ wp frame (wpE (defs₀ (F := F)) Variants.none c none) Set.univ (prologue i arg1 harg1 arg3 harg3 arg4 harg4 arg5 harg5 arg6 harg6 arg7 harg7 arg8 harg8 arg9 harg9 arg10 harg10 arg11 harg11 arg13 harg13 arg14 harg14 arg15 harg15 arg16 harg16 arg17 harg17) K := by
  have e0 : ∀ f, (owns (c : Thread nD τ) (Memref.whole cc0_scratch0) fullShare f : sProp 𝕄) = sc c cc0_scratch0 f := fun f => owns_whole _ _ _ _
  have e1 : ∀ f, (owns (c : Thread nD τ) (Memref.whole main_v0) fullShare f : sProp 𝕄) = sc c main_v0 f := fun f => owns_whole _ _ _ _
  simp only [e0, e1]
  iintro ⟨H1, H5, H6, H7, H8, H13, H14, H15, H16, H17, ⟨%g18, H18⟩, H19, H20, H21, H22, H23, HX, Hs0, Hs1, HW, Hk⟩
  iapply ((run0 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18).2.2.2.2.2.2.2.2.2 W _)
  isplitl [H1]; · iexact H1
  isplitl [H5]; · iexact H5
  isplitl [H6]; · iexact H6
  isplitl [H7]; · iexact H7
  isplitl [H8]; · iexact H8
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HX]; · iexact HX
  isplitl [Hs0]; · iexact Hs0
  isplitl [Hs1]; · iexact Hs1
  isplitl [HW]; · iexact HW
  iintro ⟨H1, H5, H6, H7, H8, ⟨%f13, H13⟩, ⟨%f14, H14⟩, ⟨%f15, H15⟩, ⟨%f16, H16⟩, ⟨%f17, H17⟩, ⟨%f19, H19⟩, ⟨%f20, H20⟩, ⟨%f21, H21⟩, ⟨%f22, H22⟩, ⟨%f23, H23⟩, H18, HX, Hs0, Hs1, HW⟩
  iapply Hk
  isplitl [H1]; · iexact H1
  isplitl [H5]; · iexact H5
  isplitl [H6]; · iexact H6
  isplitl [H7]; · iexact H7
  isplitl [H8]; · iexact H8
  isplitl [H13]; · iapply (owns_canon c _ _ _ _ (run13 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18) (cover13 _)) $$ H13
  isplitl [H14]; · iapply (owns_canon c _ _ _ _ (run14 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18) (cover14 _ _)) $$ H14
  isplitl [H15]; · iapply (owns_canon c _ _ _ _ (run15 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18) (cover15 _ _)) $$ H15
  isplitl [H16]; · iapply (owns_canon c _ _ _ _ (run16 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18) (cover16 _ _)) $$ H16
  isplitl [H17]; · iapply (owns_canon c _ _ _ _ (run17 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18) (cover17 _ _)) $$ H17
  isplitl [H18]; · iexact H18
  isplitl [H19]; · iapply (owns_canon c _ _ _ _ (run19 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18) (cover19 _)) $$ H19
  isplitl [H20]; · iapply (owns_canon c _ _ _ _ (run20 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18) (cover20 _ _)) $$ H20
  isplitl [H21]; · iapply (owns_canon c _ _ _ _ (run21 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18) (cover21 _)) $$ H21
  isplitl [H22]; · iapply (owns_canon c _ _ _ _ (run22 c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx g18) (cover22 _ _)) $$ H22
  isplitl [H23]
  · iexists _; unfold owns; iexists _; isplitr
    swap; · iexact H23
    ipureintro; rfl
  isplitl [HX]; · iexact HX
  isplitl [Hs0]; · iexact Hs0
  isplitl [Hs1]; · iexact Hs1
  iexact HW

set_option maxHeartbeats 1000000 in
/-- The tiles leave the output block. -/
theorem tiles_wp (g19 : Vec F S1536x4096 .fp8e4m3) (g20 : Vec F S1536x256 .fp8e4m3) (g21 : Vec F S1536x128 .f32) (g22 : Vec F S1536x128 .f32) (K : PUnit → sProp 𝕄) :
    iprop(owns (c : Thread nD τ) arg3 fullShare x3 ∗ owns (c : Thread nD τ) arg4 fullShare x4 ∗ owns (c : Thread nD τ) arg9 fullShare x9 ∗ owns (c : Thread nD τ) arg10 fullShare x10 ∗ (∃ d, owns (c : Thread nD τ) arg11 fullShare d) ∗ owns (c : Thread nD τ) (Memref.whole cc0_scratch1) fullShare.left g19 ∗ owns (c : Thread nD τ) (Memref.whole cc0_scratch2) fullShare g20 ∗ owns (c : Thread nD τ) (Memref.whole cc0_scratch3) fullShare g21 ∗ owns (c : Thread nD τ) (Memref.whole cc0_scratch4) fullShare g22 ∗ (iprop(owns (c : Thread nD τ) arg3 fullShare x3 ∗ owns (c : Thread nD τ) arg4 fullShare x4 ∗ owns (c : Thread nD τ) arg9 fullShare x9 ∗ owns (c : Thread nD τ) arg10 fullShare x10 ∗ owns (c : Thread nD τ) arg11 fullShare (arr11 x3 x4 x9 x10 g19 g20 g21 g22) ∗ owns (c : Thread nD τ) (Memref.whole cc0_scratch1) fullShare.left g19 ∗ owns (c : Thread nD τ) (Memref.whole cc0_scratch2) fullShare g20 ∗ owns (c : Thread nD τ) (Memref.whole cc0_scratch3) fullShare g21 ∗ owns (c : Thread nD τ) (Memref.whole cc0_scratch4) fullShare g22) -∗ K ⟨⟩))
      ⊢ wp frame (wpE (defs₀ (F := F)) Variants.none c none) Set.univ (tiles i arg1 harg1 arg3 harg3 arg4 harg4 arg5 harg5 arg6 harg6 arg7 harg7 arg8 harg8 arg9 harg9 arg10 harg10 arg11 harg11 arg13 harg13 arg14 harg14 arg15 harg15 arg16 harg16 arg17 harg17) K := by
  have e1 : ∀ q g, (owns (c : Thread nD τ) (Memref.whole cc0_scratch1) q g : sProp 𝕄) = rawAt c (Memref.whole cc0_scratch1) q g := fun q g => (raw_whole c _ q g).symm
  have e2 : ∀ q g, (owns (c : Thread nD τ) (Memref.whole cc0_scratch2) q g : sProp 𝕄) = rawAt c (Memref.whole cc0_scratch2) q g := fun q g => (raw_whole c _ q g).symm
  have e3 : ∀ q g, (owns (c : Thread nD τ) (Memref.whole cc0_scratch3) q g : sProp 𝕄) = rawAt c (Memref.whole cc0_scratch3) q g := fun q g => (raw_whole c _ q g).symm
  have e4 : ∀ q g, (owns (c : Thread nD τ) (Memref.whole cc0_scratch4) q g : sProp 𝕄) = rawAt c (Memref.whole cc0_scratch4) q g := fun q g => (raw_whole c _ q g).symm
  simp only [e1, e2, e3, e4]
  iintro ⟨H3, H4, H9, H10, H11, H19, H20, H21, H22, Hk⟩
  iapply ((tilesRun c i arg1 harg1 arg3 harg3 arg4 harg4 arg5 harg5 arg6 harg6 arg7 harg7 arg8 harg8 arg9 harg9 arg10 harg10 arg11 harg11 arg13 harg13 arg14 harg14 arg15 harg15 arg16 harg16 arg17 harg17 x3 x4 x9 x10 g19 g20 g21 g22).2 _)
  isplitl [H3]; · iexact H3
  isplitl [H4]; · iexact H4
  isplitl [H9]; · iexact H9
  isplitl [H10]; · iexact H10
  isplitl [H11]; · iexact H11
  isplitl [H19]; · iexact H19
  isplitl [H20]; · iexact H20
  isplitl [H21]; · iexact H21
  isplitl [H22]; · iexact H22
  iintro ⟨H3, H4, H9, H10, ⟨%f11, H11⟩, H19, H20, H21, H22⟩
  iapply Hk
  isplitl [H3]; · iexact H3
  isplitl [H4]; · iexact H4
  isplitl [H9]; · iexact H9
  isplitl [H10]; · iexact H10
  isplitl [H11]; · iapply (owns_canon c _ _ _ _ (run11 c i arg1 harg1 arg3 harg3 arg4 harg4 arg5 harg5 arg6 harg6 arg7 harg7 arg8 harg8 arg9 harg9 arg10 harg10 arg11 harg11 arg13 harg13 arg14 harg14 arg15 harg15 arg16 harg16 arg17 harg17 x3 x4 x9 x10 g19 g20 g21 g22) (cover11 _ _ _ _ _ _ _ _)) $$ H11
  isplitl [H19]; · iexact H19
  isplitl [H20]; · iexact H20
  isplitl [H21]; · iexact H21
  iexact H22

/-- The copy's start, on buffers held whole. -/
theorem start_wp (x : Vec F S1536x4096 .fp8e4m3) (K : PUnit → sProp 𝕄) :
    iprop((∃ d, owns (c : Thread nD τ) (Memref.whole main_v4_1) fullShare d) ∗ owns (c : Thread nD τ) (Memref.whole cc0_scratch1) fullShare x ∗ semVal ((c : Thread nD τ), SemLoc.dma 22) 0
        ∗ (iprop(owns (c : Thread nD τ) (Memref.whole cc0_scratch1) fullShare.left x ∗ flying c x x) -∗ K ⟨⟩))
      ⊢ wp frame (wpE (defs₀ (F := F)) Variants.none c none) Set.univ (startCopy) K := by
  have e1 : ∀ q g, (owns (c : Thread nD τ) (Memref.whole cc0_scratch1) q g : sProp 𝕄) = rawAt c (Memref.whole cc0_scratch1) q g := fun q g => (raw_whole c _ q g).symm
  have e2 : ∀ q g, (owns (c : Thread nD τ) (Memref.whole main_v4_1) q g : sProp 𝕄) = rawAt c (Memref.whole main_v4_1) q g := fun q g => (raw_whole c _ q g).symm
  simp only [e1, e2]
  iintro ⟨⟨%d, HY⟩, HS, Hs, Hk⟩
  have hD := startRun_eq c d x
  rw [carried c d x] at hD
  iapply ((startRun c d x).2 _)
  isplitl [HY]; · iexact HY
  isplitl [HS]; · iexact HS
  isplitl [Hs]; · iexact Hs
  iintro ⟨HS, HD⟩
  iapply Hk
  isplitl [HS]; · iexact HS
  iapply (show (startRun c d x).1 ⊢ flying c x x from by rw [hD]) $$ HD

/-- The copy's wait, on buffers held whole. -/
theorem finish_wp (x : Vec F S1536x4096 .fp8e4m3) (W : Waits sig Unit) (K : PUnit → sProp 𝕄) :
    iprop(flying c x x ∗ owns (c : Thread nD τ) (Memref.whole cc0_scratch1) fullShare.left x ∗ owes (c : Thread nD τ) 0 W
        ∗ (iprop(owns (c : Thread nD τ) (Memref.whole main_v4_1) fullShare x ∗ owns (c : Thread nD τ) (Memref.whole cc0_scratch1) fullShare x ∗ semVal ((c : Thread nD τ), SemLoc.dma 22) 0 ∗ (∃ W, owes (c : Thread nD τ) 0 W)) -∗ K ⟨⟩))
      ⊢ wp frame (wpE (defs₀ (F := F)) Variants.none c none) Set.univ (finishCopy) K := by
  have e1 : ∀ q g, (owns (c : Thread nD τ) (Memref.whole cc0_scratch1) q g : sProp 𝕄) = rawAt c (Memref.whole cc0_scratch1) q g := fun q g => (raw_whole c _ q g).symm
  have e2 : ∀ q g, (owns (c : Thread nD τ) (Memref.whole main_v4_1) q g : sProp 𝕄) = rawAt c (Memref.whole main_v4_1) q g := fun q g => (raw_whole c _ q g).symm
  simp only [e1, e2]
  exact finishRun c x x W K

/-- What the body keeps across the launch, before the first point and after the last: the activations `fx`, the codes' result at `x`, its semaphores at zero, its scratch buffers at anything. -/
def atEnds (fx : Vec F S1536x4096 .bf16) (x : Vec F S1536x4096 .fp8e4m3) : sProp 𝕄 :=
  iprop((owns (c : Thread nD τ) (Memref.whole main_v0) fullShare fx ∗ owns (c : Thread nD τ) (Memref.whole main_v4_1) fullShare x)
    ∗ (semVal ((c : Thread nD τ), SemLoc.dma 20) 0 ∗ semVal ((c : Thread nD τ), SemLoc.dma 21) 0 ∗ semVal ((c : Thread nD τ), SemLoc.dma 22) 0) ∗ ((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r)

/-- What it keeps between two points: the copy in flight, the other half of the codes, the other kept arrays. -/
def between (fx : Vec F S1536x4096 .bf16) (g19 : Vec F S1536x4096 .fp8e4m3) (g20 : Vec F S1536x256 .fp8e4m3) (g21 : Vec F S1536x128 .f32) (g22 : Vec F S1536x128 .f32) : sProp 𝕄 :=
  iprop(owns (c : Thread nD τ) (Memref.whole main_v0) fullShare fx ∗ flying c g19 g19 ∗ (owns (c : Thread nD τ) (Memref.whole cc0_scratch1) fullShare.left g19 ∗ owns (c : Thread nD τ) (Memref.whole cc0_scratch2) fullShare g20 ∗ owns (c : Thread nD τ) (Memref.whole cc0_scratch3) fullShare g21 ∗ owns (c : Thread nD τ) (Memref.whole cc0_scratch4) fullShare g22) ∗ ((∃ d, owns (c : Thread nD τ) (Memref.whole cc0_scratch0) fullShare d) ∗ (∃ d, owns (c : Thread nD τ) (Memref.whole cc0_scratch5) fullShare d)) ∗ (semVal ((c : Thread nD τ), SemLoc.dma 20) 0 ∗ semVal ((c : Thread nD τ), SemLoc.dma 21) 0) ∗ ∃ r, prngReg c r)

set_option maxHeartbeats 1000000 in
/-- The first point. -/
theorem first_wp (h1 : k0_cond1 i = 1#1) (h2 : ¬ lastCond i = 1#1) (x : Vec F S1536x4096 .fp8e4m3) (W : Waits sig Unit) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ atEnds c fx x ∗ owes (c : Thread nD τ) 0 W
        ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (arr11 x3 x4 x9 x10 (arr19 fx) (arr20 (runEnv c arg1 harg1 arg5 harg5 arg6 harg6 arg7 harg7 arg8 harg8 x1 x5 x6 x7 x8) fx) (arr21 fx) (arr22 (runEnv c arg1 harg1 arg5 harg5 arg6 harg6 arg7 harg7 arg8 harg8 x1 x5 x6 x7 x8) fx)) ∗ owns (c : Thread nD τ) arg13 fullShare (arr13 fx) ∗ owns (c : Thread nD τ) arg14 fullShare (arr14 (runEnv c arg1 harg1 arg5 harg5 arg6 harg6 arg7 harg7 arg8 harg8 x1 x5 x6 x7 x8) fx) ∗ owns (c : Thread nD τ) arg15 fullShare (arr15 (runEnv c arg1 harg1 arg5 harg5 arg6 harg6 arg7 harg7 arg8 harg8 x1 x5 x6 x7 x8) fx) ∗ owns (c : Thread nD τ) arg16 fullShare (arr16 (runEnv c arg1 harg1 arg5 harg5 arg6 harg6 arg7 harg7 arg8 harg8 x1 x5 x6 x7 x8) fx) ∗ owns (c : Thread nD τ) arg17 fullShare (arr17 (runEnv c arg1 harg1 arg5 harg5 arg6 harg6 arg7 harg7 arg8 harg8 x1 x5 x6 x7 x8) fx) ∗ between c fx (arr19 fx) (arr20 (runEnv c arg1 harg1 arg5 harg5 arg6 harg6 arg7 harg7 arg8 harg8 x1 x5 x6 x7 x8) fx) (arr21 fx) (arr22 (runEnv c arg1 harg1 arg5 harg5 arg6 harg6 arg7 harg7 arg8 harg8 x1 x5 x6 x7 x8) fx) ∗ (∃ W, owes (c : Thread nD τ) 0 W)) -∗ K ⟨⟩))
      ⊢ wp frame (wpE (defs₀ (F := F)) Variants.none c none) Set.univ (cc0_lora_fp8 (F := F) i arg1 harg1 (Memref.whole main_v0) (Memref.isWhole_whole _) arg3 harg3 arg4 harg4 arg5 harg5 arg6 harg6 arg7 harg7 arg8 harg8 arg9 harg9 arg10 harg10 arg11 harg11 (Memref.whole main_v4_1) (Memref.isWhole_whole _) arg13 harg13 arg14 harg14 arg15 harg15 arg16 harg16 arg17 harg17 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) K := by
  rw [body_eq, if_pos h1, if_neg h2]
  simp only [wp_bind]
  unfold atEnds between
  iintro ⟨H1, H3, H4, H5, H6, H7, H8, H9, H10, H11, H13, H14, H15, H16, H17, ⟨⟨HX, HC⟩, ⟨Hs0, Hs1, Hs2⟩, ⟨H18, H19, H20, H21, H22, H23⟩, Hp⟩, HW, Hk⟩
  iapply (prologue_wp c i arg1 harg1 arg3 harg3 arg4 harg4 arg5 harg5 arg6 harg6 arg7 harg7 arg8 harg8 arg9 harg9 arg10 harg10 arg11 harg11 arg13 harg13 arg14 harg14 arg15 harg15 arg16 harg16 arg17 harg17 x1 x5 x6 x7 x8 fx W _)
  isplitl [H1]; · iexact H1
  isplitl [H5]; · iexact H5
  isplitl [H6]; · iexact H6
  isplitl [H7]; · iexact H7
  isplitl [H8]; · iexact H8
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HX]; · iexact HX
  isplitl [Hs0]; · iexact Hs0
  isplitl [Hs1]; · iexact Hs1
  isplitl [HW]; · iexact HW
  iintro ⟨H1, H5, H6, H7, H8, H13, H14, H15, H16, H17, H18, H19, H20, H21, H22, H23, HX, Hs0, Hs1, HW⟩
  iapply (start_wp c (arr19 fx) _)
  isplitl [HC]; · iexists _; iexact HC
  isplitl [H19]; · iexact H19
  isplitl [Hs2]; · iexact Hs2
  iintro ⟨H19, HF⟩
  iapply (tiles_wp c i arg1 harg1 arg3 harg3 arg4 harg4 arg5 harg5 arg6 harg6 arg7 harg7 arg8 harg8 arg9 harg9 arg10 harg10 arg11 harg11 arg13 harg13 arg14 harg14 arg15 harg15 arg16 harg16 arg17 harg17 x3 x4 x9 x10 (arr19 fx) (arr20 (runEnv c arg1 harg1 arg5 harg5 arg6 harg6 arg7 harg7 arg8 harg8 x1 x5 x6 x7 x8) fx) (arr21 fx) (arr22 (runEnv c arg1 harg1 arg5 harg5 arg6 harg6 arg7 harg7 arg8 harg8 x1 x5 x6 x7 x8) fx) _)
  isplitl [H3]; · iexact H3
  isplitl [H4]; · iexact H4
  isplitl [H9]; · iexact H9
  isplitl [H10]; · iexact H10
  isplitl [H11]; · iexact H11
  isplitl [H19]; · iexact H19
  isplitl [H20]; · iexact H20
  isplitl [H21]; · iexact H21
  isplitl [H22]; · iexact H22
  iintro ⟨H3, H4, H9, H10, H11, H19, H20, H21, H22⟩
  sl_step
  iapply Hk
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H14]; · iexact H14
  isplitl [H15]; · iexact H15
  isplitl [H16]; · iexact H16
  isplitl [H17]; · iexact H17
  isplitr [HW]
  · isplitl [HX]; · iexact HX
    isplitl [HF]; · iexact HF
    isplitl [H19 H20 H21 H22]
    · isplitl [H19]; · iexact H19
      isplitl [H20]; · iexact H20
      isplitl [H21]; · iexact H21
      iexact H22
    isplitl [H18 H23]
    · isplitl [H18]; · iexact H18
      iexact H23
    isplitl [Hs0 Hs1]
    · isplitl [Hs0]; · iexact Hs0
      iexact Hs1
    iexact Hp
  iexact HW

set_option maxHeartbeats 1000000 in
/-- A point between: only the tiles. -/
theorem middle_wp (h1 : ¬ k0_cond1 i = 1#1) (h2 : ¬ lastCond i = 1#1) (g19 : Vec F S1536x4096 .fp8e4m3) (g20 : Vec F S1536x256 .fp8e4m3) (g21 : Vec F S1536x128 .f32) (g22 : Vec F S1536x128 .f32) (K : PUnit → sProp 𝕄) :
    iprop(owns (c : Thread nD τ) arg3 fullShare x3 ∗ owns (c : Thread nD τ) arg4 fullShare x4 ∗ owns (c : Thread nD τ) arg9 fullShare x9 ∗ owns (c : Thread nD τ) arg10 fullShare x10 ∗ (∃ d, owns (c : Thread nD τ) arg11 fullShare d) ∗ between c fx g19 g20 g21 g22 ∗ (iprop(owns (c : Thread nD τ) arg3 fullShare x3 ∗ owns (c : Thread nD τ) arg4 fullShare x4 ∗ owns (c : Thread nD τ) arg9 fullShare x9 ∗ owns (c : Thread nD τ) arg10 fullShare x10 ∗ owns (c : Thread nD τ) arg11 fullShare (arr11 x3 x4 x9 x10 g19 g20 g21 g22) ∗ between c fx g19 g20 g21 g22) -∗ K ⟨⟩))
      ⊢ wp frame (wpE (defs₀ (F := F)) Variants.none c none) Set.univ (cc0_lora_fp8 (F := F) i arg1 harg1 (Memref.whole main_v0) (Memref.isWhole_whole _) arg3 harg3 arg4 harg4 arg5 harg5 arg6 harg6 arg7 harg7 arg8 harg8 arg9 harg9 arg10 harg10 arg11 harg11 (Memref.whole main_v4_1) (Memref.isWhole_whole _) arg13 harg13 arg14 harg14 arg15 harg15 arg16 harg16 arg17 harg17 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) K := by
  rw [body_eq, if_neg h1, if_neg h2]
  simp only [pure_bind, wp_bind]
  unfold between
  iintro ⟨H3, H4, H9, H10, H11, ⟨HX, HF, ⟨H19, H20, H21, H22⟩, Hr⟩, Hk⟩
  iapply (tiles_wp c i arg1 harg1 arg3 harg3 arg4 harg4 arg5 harg5 arg6 harg6 arg7 harg7 arg8 harg8 arg9 harg9 arg10 harg10 arg11 harg11 arg13 harg13 arg14 harg14 arg15 harg15 arg16 harg16 arg17 harg17 x3 x4 x9 x10 g19 g20 g21 g22 _)
  isplitl [H3]; · iexact H3
  isplitl [H4]; · iexact H4
  isplitl [H9]; · iexact H9
  isplitl [H10]; · iexact H10
  isplitl [H11]; · iexact H11
  isplitl [H19]; · iexact H19
  isplitl [H20]; · iexact H20
  isplitl [H21]; · iexact H21
  isplitl [H22]; · iexact H22
  iintro ⟨H3, H4, H9, H10, H11, H19, H20, H21, H22⟩
  sl_step
  iapply Hk
  isplitl [H3]; · iexact H3
  isplitl [H4]; · iexact H4
  isplitl [H9]; · iexact H9
  isplitl [H10]; · iexact H10
  isplitl [H11]; · iexact H11
  isplitl [HX]; · iexact HX
  isplitl [HF]; · iexact HF
  isplitr [Hr]
  · isplitl [H19]; · iexact H19
    isplitl [H20]; · iexact H20
    isplitl [H21]; · iexact H21
    iexact H22
  iexact Hr

set_option maxHeartbeats 1000000 in
/-- The last point: the tiles, then the wait for the copy. -/
theorem last_wp (h1 : ¬ k0_cond1 i = 1#1) (h2 : lastCond i = 1#1) (g19 : Vec F S1536x4096 .fp8e4m3) (g20 : Vec F S1536x256 .fp8e4m3) (g21 : Vec F S1536x128 .f32) (g22 : Vec F S1536x128 .f32) (W : Waits sig Unit) (K : PUnit → sProp 𝕄) :
    iprop(owns (c : Thread nD τ) arg3 fullShare x3 ∗ owns (c : Thread nD τ) arg4 fullShare x4 ∗ owns (c : Thread nD τ) arg9 fullShare x9 ∗ owns (c : Thread nD τ) arg10 fullShare x10 ∗ (∃ d, owns (c : Thread nD τ) arg11 fullShare d) ∗ between c fx g19 g20 g21 g22 ∗ owes (c : Thread nD τ) 0 W ∗ (iprop(owns (c : Thread nD τ) arg3 fullShare x3 ∗ owns (c : Thread nD τ) arg4 fullShare x4 ∗ owns (c : Thread nD τ) arg9 fullShare x9 ∗ owns (c : Thread nD τ) arg10 fullShare x10 ∗ owns (c : Thread nD τ) arg11 fullShare (arr11 x3 x4 x9 x10 g19 g20 g21 g22) ∗ atEnds c fx g19 ∗ (∃ W, owes (c : Thread nD τ) 0 W)) -∗ K ⟨⟩))
      ⊢ wp frame (wpE (defs₀ (F := F)) Variants.none c none) Set.univ (cc0_lora_fp8 (F := F) i arg1 harg1 (Memref.whole main_v0) (Memref.isWhole_whole _) arg3 harg3 arg4 harg4 arg5 harg5 arg6 harg6 arg7 harg7 arg8 harg8 arg9 harg9 arg10 harg10 arg11 harg11 (Memref.whole main_v4_1) (Memref.isWhole_whole _) arg13 harg13 arg14 harg14 arg15 harg15 arg16 harg16 arg17 harg17 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) K := by
  rw [body_eq, if_neg h1, if_pos h2]
  simp only [pure_bind, wp_bind]
  unfold between atEnds
  iintro ⟨H3, H4, H9, H10, H11, ⟨HX, HF, ⟨H19, H20, H21, H22⟩, ⟨H18, H23⟩, ⟨Hs0, Hs1⟩, Hp⟩, HW, Hk⟩
  iapply (tiles_wp c i arg1 harg1 arg3 harg3 arg4 harg4 arg5 harg5 arg6 harg6 arg7 harg7 arg8 harg8 arg9 harg9 arg10 harg10 arg11 harg11 arg13 harg13 arg14 harg14 arg15 harg15 arg16 harg16 arg17 harg17 x3 x4 x9 x10 g19 g20 g21 g22 _)
  isplitl [H3]; · iexact H3
  isplitl [H4]; · iexact H4
  isplitl [H9]; · iexact H9
  isplitl [H10]; · iexact H10
  isplitl [H11]; · iexact H11
  isplitl [H19]; · iexact H19
  isplitl [H20]; · iexact H20
  isplitl [H21]; · iexact H21
  isplitl [H22]; · iexact H22
  iintro ⟨H3, H4, H9, H10, H11, H19, H20, H21, H22⟩
  iapply (finish_wp c g19 W _)
  isplitl [HF]; · iexact HF
  isplitl [H19]; · iexact H19
  isplitl [HW]; · iexact HW
  iintro ⟨HC, H19, Hs2, HW⟩
  iapply Hk
  isplitl [H3]; · iexact H3
  isplitl [H4]; · iexact H4
  isplitl [H9]; · iexact H9
  isplitl [H10]; · iexact H10
  isplitl [H11]; · iexact H11
  isplitr [HW]
  · isplitl [HX HC]
    · isplitl [HX]; · iexact HX
      iexact HC
    isplitl [Hs0 Hs1 Hs2]
    · isplitl [Hs0]; · iexact Hs0
      isplitl [Hs1]; · iexact Hs1
      iexact Hs2
    isplitr [Hp]
    · isplitl [H18]; · iexact H18
      isplitl [H19]; · iexists _; iexact H19
      isplitl [H20]; · iexists _; iexact H20
      isplitl [H21]; · iexists _; iexact H21
      isplitl [H22]; · iexists _; iexact H22
      iexact H23
    iexact Hp
  iexact HW

end Cert.KernelIdeal.Hand

end
-- ==== Proof.Run.lean ====
/- The launch: the body at every grid point, the run of the whole program, and what it leaves in memory. -/
module

public import proofs.«01_k».proof.Proof.Body
public import proofs.«01_k».proof.Proof.Gen.KernelIdeal.Frame
public import Idealize.ShloMosaic.Lib.Pipeline.Routed

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- The kernel's own semaphores. -/
abbrev osem0 : Fin 3 → SemLoc sig := fun j => (![SemLoc.dma 20, SemLoc.dma 21, SemLoc.dma 22] : Fin 3 → SemLoc sig) j

/-- The semaphores the body owns are its own. -/
theorem ownSemFacts0 : Pipeline.OwnSemFacts spec0 osem0 := by decide

/-- The body's own semaphores, one by one. -/
theorem ownSems00_eq (c : Dev nD) :
    (Pipeline.ownSems0 (Ix := Unit) (Name := ℕ) (U := Pipeline.UC sig nD τ) (Lvl := ℕ) (Val := Elt F) (τ := τ) osem0 c : sProp 𝕄)
      = iprop(semVal ((c : Thread nD τ), SemLoc.dma 20) 0 ∗ semVal ((c : Thread nD τ), SemLoc.dma 21) 0 ∗ semVal ((c : Thread nD τ), SemLoc.dma 22) 0) := by
  rw [Pipeline.ownSems0_eq_of_list c osem0 [0, 1, 2] (by decide) (by decide)]; rfl

/-- The two arrays the body moves by its own copies. -/
def R0 : Finset (Ref sig .tc) := {main_v0, main_v4_1}

/-- The two routed arrays are no window's. -/
theorem R0_sub : R0 ⊆ Pipeline.restRefs sig spec0 := by decide

/-- What is routed to the body, array by array. -/
theorem routed0_eq (c : Dev nD) (W : (b : Ref sig .tc) → Buf (Elt F) ((c : Thread nD τ).loc b)) :
    (Pipeline.routed R0 c W : sProp 𝕄)
      = iprop((((c : Thread nD τ).loc main_v0) ↦{fullShare} W main_v0) ∗ (((c : Thread nD τ).loc main_v4_1) ↦{fullShare} W main_v4_1)) := by
  unfold Pipeline.routed
  rw [BI.bigSep_eq_bigSepL_of_eq [main_v0, main_v4_1] (by decide) (by decide)]; rfl

/-- The two ends of the launch, as the body's triples state them. -/
theorem ends_eq (c : Dev nD) (W : (b : Ref sig .tc) → Buf (Elt F) ((c : Thread nD τ).loc b)) :
    (Pipeline.Ends spec0 osem0 R0 c W : sProp 𝕄) = atEnds c (W main_v0) (W main_v4_1) := by
  unfold Pipeline.Ends atEnds
  rw [routed0_eq, ownSems00_eq, scopedRest0_eq]
  simp only [owns_whole]

/-- The first branch is taken at the first point only. -/
theorem first_iff : ∀ t : Fin cfg0.N, k0_cond1 (grid0.coords t) = 1#1 ↔ t.val = 0 := by decide

/-- The last branch is taken at the last point only. -/
theorem last_iff : ∀ t : Fin cfg0.N, lastCond (grid0.coords t) = 1#1 ↔ t.val = 13 := by decide

variable (m : (ℓ : Loc nD τ sig) → Buf (Elt F) ℓ) (ρ : Dev nD → PrngReg)

/-- The first point. -/
abbrev p0 : Fin cfg0.N := ⟨0, by decide⟩

/-- The activations, all three chunks' rows one under the other. -/
abbrev X (c : Dev nD) : Vec F S1536x4096 .bf16 := V m c main_v0

/-- What the first point computes from its blocks, other than the activations. -/
abbrev E (c : Dev nD) : Env F :=
  runEnv c (st0_0 p0) (hstage0_0 ((cfg0.slots p0 0).cast nbuf0_0)) (st0_3 p0) (hstage0_3 ((cfg0.slots p0 3).cast nbuf0_3))
    (st0_4 p0) (hstage0_4 ((cfg0.slots p0 4).cast nbuf0_4)) (st0_5 p0) (hstage0_5 ((cfg0.slots p0 5).cast nbuf0_5))
    (st0_6 p0) (hstage0_6 ((cfg0.slots p0 6).cast nbuf0_6)) (iblk m c 0 p0) (iblk m c 3 p0) (iblk m c 4 p0) (iblk m c 5 p0) (iblk m c 6 p0)

/-- What the body holds beside the staged blocks before point `k`. -/
def keep (c : Dev nD) (k : ℕ) : sProp 𝕄 :=
  if k = 0 then atEnds c (X m c) (V m c main_v4_1)
  else if k = 14 then atEnds c (X m c) (arr19 (X m c))
  else between c (X m c) (arr19 (X m c)) (arr20 (E m c) (X m c)) (arr21 (X m c)) (arr22 (E m c) (X m c))

/-- The output block of point `t`. -/
def yAt (c : Dev nD) (t : Fin cfg0.N) : Vec F S1536x1024 .bf16 :=
  arr11 (iblk m c 1 t) (iblk m c 2 t) (iblk m c 7 t) (iblk m c 8 t) (arr19 (X m c)) (arr20 (E m c) (X m c)) (arr21 (X m c)) (arr22 (E m c) (X m c))

/-- The pipeline's proof data: each array as the region finds it, each staged block after the body. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yAt m c t
    | ⟨10, _⟩ => arr13 (X m c)
    | ⟨11, _⟩ => arr14 (E m c) (X m c)
    | ⟨12, _⟩ => arr15 (E m c) (X m c)
    | ⟨13, _⟩ => arr16 (E m c) (X m c)
    | ⟨14, _⟩ => arr17 (E m c) (X m c)
  Φ k := keep m c k.val
  q _ := fullShare
  owed _ := 0

/-- Each window's array starts as the region finds it. -/
theorem A_eq (c : Dev nD) (w : Fin cfg0.W) : (dats m 0 c).A w = V m c (Pipeline.arrRef spec0 w) := by
  dsimp only [dats]

/-- Input window 0 is staged before every point. -/
theorem before_in0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl

/-- Input window 1 is staged before every point. -/
theorem before_in1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- Input window 2 is staged before every point. -/
theorem before_in2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

/-- Input window 3 is staged before every point. -/
theorem before_in3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

/-- Input window 4 is staged before every point. -/
theorem before_in4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl

/-- Input window 5 is staged before every point. -/
theorem before_in5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl

/-- Input window 6 is staged before every point. -/
theorem before_in6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl

/-- Input window 7 is staged before every point. -/
theorem before_in7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl

/-- Input window 8 is staged before every point. -/
theorem before_in8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl

/-- A result written at the first point only, and written back only after the last: at every later point it is what the first left. -/
theorem before_once {c : Dev nD} (dat : Dat τ (Elt F) Unit ℕ (Pipeline.UC sig nD τ) ℕ cfg0 c) (w : Fin cfg0.W) (hw : (cfg0.win w).isOut = true)
    (hi0 : cfg0.idle w (cfg0.grid.coords p0) = false) (hi : ∀ j : Fin cfg0.N, j.val ≠ 0 → cfg0.idle w (cfg0.grid.coords j) = true)
    (hf : ∀ j : Fin cfg0.N, j.val < 13 → (cfg0.win w).flush j = false) (hclip : ∀ (i : cfg0.grid.Coords) a, (cfg0.win w).clip i a = none) :
    ∀ (n : ℕ) (hn : n + 1 < cfg0.N) (d), dat.before w ⟨n + 1, hn⟩ d = dat.after w p0
  | 0, hn, d => by
    rw [dat.before_of_pos w _ (Nat.succ_ne_zero _) ((cfg0.win w).fetch_out hw _), hf _ (by show 0 < 13; omega), if_neg Bool.false_ne_true]
    unfold Dat.left
    rw [show (⟨(⟨0 + 1, hn⟩ : Fin cfg0.N).val - 1, Nat.lt_of_le_of_lt (Nat.sub_le _ _) hn⟩ : Fin cfg0.N) = p0 from rfl, hi0]
    unfold Dat.kept
    dsimp only
    rw [Pipeline.fill_of_clip_none w _ (hclip _) d (dat.after w _), Window.fill_cut]
  | n + 1, hn, d => by
    have h14 : n + 1 + 1 < 14 := hn.trans_eq N_0
    rw [dat.before_of_pos w _ (Nat.succ_ne_zero _) ((cfg0.win w).fetch_out hw _), hf _ (by show n + 1 < 13; omega), if_neg Bool.false_ne_true]
    unfold Dat.left
    rw [hi _ (Nat.succ_ne_zero n)]
    exact before_once dat w hw hi0 hi hf hclip n _ d

/-- No window is idle at the first point. -/
theorem idle_first : ∀ w : Fin 15, cfg0.idle w (cfg0.grid.coords p0) = false := by decide

/-- The results written once are idle at every later point. -/
theorem idle_later : ∀ (w : Fin 15), 9 < w.val → ∀ j : Fin cfg0.N, j.val ≠ 0 → cfg0.idle w (cfg0.grid.coords j) = true := by decide

/-- The result of window 10, written once, is still staged at every later point. -/
theorem before_kept10 (c : Dev nD) (t : Fin cfg0.N) (ht : t.val ≠ 0) (d) : (dats m 0 c).before 10 t d = (dats m 0 c).after 10 t := by
  obtain ⟨_ | n, hn⟩ := t
  · exact absurd rfl ht
  · exact (before_once (dats m 0 c) 10 rfl (idle_first _) (idle_later 10 (by decide)) (fun j hj => by
      rw [Bool.eq_false_iff]; intro h
      have h' := (flush0_10 _).mp h
      omega) (fun _ _ => rfl) n hn d).trans rfl

/-- The result of window 11, written once, is still staged at every later point. -/
theorem before_kept11 (c : Dev nD) (t : Fin cfg0.N) (ht : t.val ≠ 0) (d) : (dats m 0 c).before 11 t d = (dats m 0 c).after 11 t := by
  obtain ⟨_ | n, hn⟩ := t
  · exact absurd rfl ht
  · exact (before_once (dats m 0 c) 11 rfl (idle_first _) (idle_later 11 (by decide)) (fun j hj => by
      rw [Bool.eq_false_iff]; intro h
      have h' := (flush0_11 _).mp h
      omega) (fun _ _ => rfl) n hn d).trans rfl

/-- The result of window 12, written once, is still staged at every later point. -/
theorem before_kept12 (c : Dev nD) (t : Fin cfg0.N) (ht : t.val ≠ 0) (d) : (dats m 0 c).before 12 t d = (dats m 0 c).after 12 t := by
  obtain ⟨_ | n, hn⟩ := t
  · exact absurd rfl ht
  · exact (before_once (dats m 0 c) 12 rfl (idle_first _) (idle_later 12 (by decide)) (fun j hj => by
      rw [Bool.eq_false_iff]; intro h
      have h' := (flush0_12 _).mp h
      omega) (fun _ _ => rfl) n hn d).trans rfl

/-- The result of window 13, written once, is still staged at every later point. -/
theorem before_kept13 (c : Dev nD) (t : Fin cfg0.N) (ht : t.val ≠ 0) (d) : (dats m 0 c).before 13 t d = (dats m 0 c).after 13 t := by
  obtain ⟨_ | n, hn⟩ := t
  · exact absurd rfl ht
  · exact (before_once (dats m 0 c) 13 rfl (idle_first _) (idle_later 13 (by decide)) (fun j hj => by
      rw [Bool.eq_false_iff]; intro h
      have h' := (flush0_13 _).mp h
      omega) (fun _ _ => rfl) n hn d).trans rfl

/-- The result of window 14, written once, is still staged at every later point. -/
theorem before_kept14 (c : Dev nD) (t : Fin cfg0.N) (ht : t.val ≠ 0) (d) : (dats m 0 c).before 14 t d = (dats m 0 c).after 14 t := by
  obtain ⟨_ | n, hn⟩ := t
  · exact absurd rfl ht
  · exact (before_once (dats m 0 c) 14 rfl (idle_first _) (idle_later 14 (by decide)) (fun j hj => by
      rw [Bool.eq_false_iff]; intro h
      have h' := (flush0_14 _).mp h
      omega) (fun _ _ => rfl) n hn d).trans rfl

/-- What the body leaves of a window, at a point that stores it or at one that finds it already stored. -/
theorem leaves_of {c : Dev nD} (dat : Dat τ (Elt F) Unit ℕ (Pipeline.UC sig nD τ) ℕ cfg0 c) (w : Fin cfg0.W) (t : Fin cfg0.N)
    (h : cfg0.idle w (cfg0.grid.coords t) = true → ∀ d, dat.before w t d = dat.after w t) :
    owns (c : Thread nD τ) ((cfg0.win w).stage (cfg0.slots t w)) fullShare (dat.after w t) ⊢ (dat.leavesExact w t : sProp 𝕄) := by
  unfold Dat.leavesExact
  cases hi : cfg0.idle w (cfg0.grid.coords t)
  · exact .rfl
  · cases (cfg0.win w).flush t
    · simp only [h hi]
      iintro H
      iexists (dat.after w t); iexact H
    · exact .rfl

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (dats m 0 c).leavesExact 10 t ∗ (dats m 0 c).leavesExact 11 t ∗ (dats m 0 c).leavesExact 12 t ∗ (dats m 0 c).leavesExact 13 t ∗ (dats m 0 c).leavesExact 14 t)

set_option maxHeartbeats 1000000 in
/-- The first point. -/
theorem sound_first (c : Dev nD) (t : Fin cfg0.N) (h0 : t.val = 0) :
    bodyPre m c t ⊢ wp frame (wpE (defs₀ (F := F)) Variants.none c none) Set.univ (bodyAt0 t) (fun _ => bodyPost m c t) := by
  have a0 : (dats m 0 c).after 0 t = iblk m c 0 t := by dsimp only [dats]
  have a1 : (dats m 0 c).after 1 t = iblk m c 1 t := by dsimp only [dats]
  have a2 : (dats m 0 c).after 2 t = iblk m c 2 t := by dsimp only [dats]
  have a3 : (dats m 0 c).after 3 t = iblk m c 3 t := by dsimp only [dats]
  have a4 : (dats m 0 c).after 4 t = iblk m c 4 t := by dsimp only [dats]
  have a5 : (dats m 0 c).after 5 t = iblk m c 5 t := by dsimp only [dats]
  have a6 : (dats m 0 c).after 6 t = iblk m c 6 t := by dsimp only [dats]
  have a7 : (dats m 0 c).after 7 t = iblk m c 7 t := by dsimp only [dats]
  have a8 : (dats m 0 c).after 8 t = iblk m c 8 t := by dsimp only [dats]
  have a9 : (dats m 0 c).after 9 t = yAt m c t := by dsimp only [dats]
  have a10 : (dats m 0 c).after 10 t = arr13 (X m c) := by dsimp only [dats]
  have a11 : (dats m 0 c).after 11 t = arr14 (E m c) (X m c) := by dsimp only [dats]
  have a12 : (dats m 0 c).after 12 t = arr15 (E m c) (X m c) := by dsimp only [dats]
  have a13 : (dats m 0 c).after 13 t = arr16 (E m c) (X m c) := by dsimp only [dats]
  have a14 : (dats m 0 c).after 14 t = arr17 (E m c) (X m c) := by dsimp only [dats]
  have hΦ : (dats m 0 c).Φ t.castSucc = atEnds c (X m c) (V m c main_v4_1) := by
    show keep m c t.val = _
    unfold keep
    rw [if_pos h0]
  have hΦ' : (dats m 0 c).Φ t.succ = between c (X m c) (arr19 (X m c)) (arr20 (E m c) (X m c)) (arr21 (X m c)) (arr22 (E m c) (X m c)) := by
    show keep m c (t.val + 1) = _
    unfold keep
    rw [if_neg (by omega), if_neg (by omega)]
  have l10 := leaves_of (dats m 0 c) 10 t (fun h => absurd (h.symm.trans (by rw [show t = p0 from Fin.ext h0, idle_first])) (by decide))
  rw [a10] at l10
  have l11 := leaves_of (dats m 0 c) 11 t (fun h => absurd (h.symm.trans (by rw [show t = p0 from Fin.ext h0, idle_first])) (by decide))
  rw [a11] at l11
  have l12 := leaves_of (dats m 0 c) 12 t (fun h => absurd (h.symm.trans (by rw [show t = p0 from Fin.ext h0, idle_first])) (by decide))
  rw [a12] at l12
  have l13 := leaves_of (dats m 0 c) 13 t (fun h => absurd (h.symm.trans (by rw [show t = p0 from Fin.ext h0, idle_first])) (by decide))
  rw [a13] at l13
  have l14 := leaves_of (dats m 0 c) 14 t (fun h => absurd (h.symm.trans (by rw [show t = p0 from Fin.ext h0, idle_first])) (by decide))
  rw [a14] at l14
  unfold bodyPre bodyPost bodyAt0
  unfold Dat.owesAt Pipeline.owesWithin
  rw [show (dats m 0 c).owed t.castSucc = 0 from rfl, show (dats m 0 c).owed t.succ = 0 from rfl]
  simp only [before_in0 m c, before_in1 m c, before_in2 m c, before_in3 m c, before_in4 m c, before_in5 m c, before_in6 m c, before_in7 m c, before_in8 m c]
  rw [hΦ, hΦ', a0, a1, a2, a3, a4, a5, a6, a7, a8, a9]
  obtain rfl : t = p0 := Fin.ext h0
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, O9⟩, ⟨%d10, O10⟩, ⟨%d11, O11⟩, ⟨%d12, O12⟩, ⟨%d13, O13⟩, ⟨%d14, O14⟩⟩
  iapply (first_wp c (grid0.coords p0) (st0_0 p0) (hstage0_0 ((cfg0.slots p0 0).cast nbuf0_0)) (st0_1 p0) (hstage0_1 ((cfg0.slots p0 1).cast nbuf0_1)) (st0_2 p0) (hstage0_2 ((cfg0.slots p0 2).cast nbuf0_2)) (st0_3 p0) (hstage0_3 ((cfg0.slots p0 3).cast nbuf0_3)) (st0_4 p0) (hstage0_4 ((cfg0.slots p0 4).cast nbuf0_4)) (st0_5 p0) (hstage0_5 ((cfg0.slots p0 5).cast nbuf0_5)) (st0_6 p0) (hstage0_6 ((cfg0.slots p0 6).cast nbuf0_6)) (st0_7 p0) (hstage0_7 ((cfg0.slots p0 7).cast nbuf0_7)) (st0_8 p0) (hstage0_8 ((cfg0.slots p0 8).cast nbuf0_8)) (st0_9 p0) (hstage0_9 ((cfg0.slots p0 9).cast nbuf0_9)) (st0_10 p0) (hstage0_10 ((cfg0.slots p0 10).cast nbuf0_10)) (st0_11 p0) (hstage0_11 ((cfg0.slots p0 11).cast nbuf0_11)) (st0_12 p0) (hstage0_12 ((cfg0.slots p0 12).cast nbuf0_12)) (st0_13 p0) (hstage0_13 ((cfg0.slots p0 13).cast nbuf0_13)) (st0_14 p0) (hstage0_14 ((cfg0.slots p0 14).cast nbuf0_14)) (iblk m c 0 p0) (iblk m c 1 p0) (iblk m c 2 p0) (iblk m c 3 p0) (iblk m c 4 p0) (iblk m c 5 p0) (iblk m c 6 p0) (iblk m c 7 p0) (iblk m c 8 p0) (X m c) ((first_iff p0).mpr rfl) (by rw [last_iff]; decide) (V m c main_v4_1) W _)
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [O9]; · iexists _; iexact O9
  isplitl [O10]; · iexists _; iexact O10
  isplitl [O11]; · iexists _; iexact O11
  isplitl [O12]; · iexists _; iexact O12
  isplitl [O13]; · iexists _; iexact O13
  isplitl [O14]; · iexists _; iexact O14
  isplitl [HΦ]; · iexact HΦ
  isplitl [HW]; · iexact HW
  iintro ⟨I0, I1, I2, I3, I4, I5, I6, I7, I8, O9, O10, O11, O12, O13, O14, HΦ, HW⟩
  isplitl [HΦ]; · iexact HΦ
  isplitl [HW]
  · icases HW with ⟨%W', HW⟩
    iexists W'; isplitr; · ipureintro; exact fun _ _ => Or.inl trivial
    iexact HW
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [O9]; · iexact O9
  isplitl [O10]; · iapply l10 $$ O10
  isplitl [O11]; · iapply l11 $$ O11
  isplitl [O12]; · iapply l12 $$ O12
  isplitl [O13]; · iapply l13 $$ O13
  iapply l14 $$ O14

set_option maxHeartbeats 1000000 in
/-- A point between. -/
theorem sound_middle (c : Dev nD) (t : Fin cfg0.N) (ht : t.val ≠ 0) (h1 : t.val ≠ 13) :
    bodyPre m c t ⊢ wp frame (wpE (defs₀ (F := F)) Variants.none c none) Set.univ (bodyAt0 t) (fun _ => bodyPost m c t) := by
  have a0 : (dats m 0 c).after 0 t = iblk m c 0 t := by dsimp only [dats]
  have a1 : (dats m 0 c).after 1 t = iblk m c 1 t := by dsimp only [dats]
  have a2 : (dats m 0 c).after 2 t = iblk m c 2 t := by dsimp only [dats]
  have a3 : (dats m 0 c).after 3 t = iblk m c 3 t := by dsimp only [dats]
  have a4 : (dats m 0 c).after 4 t = iblk m c 4 t := by dsimp only [dats]
  have a5 : (dats m 0 c).after 5 t = iblk m c 5 t := by dsimp only [dats]
  have a6 : (dats m 0 c).after 6 t = iblk m c 6 t := by dsimp only [dats]
  have a7 : (dats m 0 c).after 7 t = iblk m c 7 t := by dsimp only [dats]
  have a8 : (dats m 0 c).after 8 t = iblk m c 8 t := by dsimp only [dats]
  have a9 : (dats m 0 c).after 9 t = yAt m c t := by dsimp only [dats]
  have a10 : (dats m 0 c).after 10 t = arr13 (X m c) := by dsimp only [dats]
  have a11 : (dats m 0 c).after 11 t = arr14 (E m c) (X m c) := by dsimp only [dats]
  have a12 : (dats m 0 c).after 12 t = arr15 (E m c) (X m c) := by dsimp only [dats]
  have a13 : (dats m 0 c).after 13 t = arr16 (E m c) (X m c) := by dsimp only [dats]
  have a14 : (dats m 0 c).after 14 t = arr17 (E m c) (X m c) := by dsimp only [dats]
  have hΦ : (dats m 0 c).Φ t.castSucc = between c (X m c) (arr19 (X m c)) (arr20 (E m c) (X m c)) (arr21 (X m c)) (arr22 (E m c) (X m c)) := by
    show keep m c t.val = _
    unfold keep
    rw [if_neg ht, if_neg (by have := t.isLt.trans_eq N_0; omega)]
  have hΦ' : (dats m 0 c).Φ t.succ = between c (X m c) (arr19 (X m c)) (arr20 (E m c) (X m c)) (arr21 (X m c)) (arr22 (E m c) (X m c)) := by
    show keep m c (t.val + 1) = _
    unfold keep
    rw [if_neg (by omega), if_neg (by omega)]
  have l10 := leaves_of (dats m 0 c) 10 t (fun _ => before_kept10 m c t ht)
  rw [a10] at l10
  have l11 := leaves_of (dats m 0 c) 11 t (fun _ => before_kept11 m c t ht)
  rw [a11] at l11
  have l12 := leaves_of (dats m 0 c) 12 t (fun _ => before_kept12 m c t ht)
  rw [a12] at l12
  have l13 := leaves_of (dats m 0 c) 13 t (fun _ => before_kept13 m c t ht)
  rw [a13] at l13
  have l14 := leaves_of (dats m 0 c) 14 t (fun _ => before_kept14 m c t ht)
  rw [a14] at l14
  unfold bodyPre bodyPost bodyAt0
  unfold Dat.owesAt Pipeline.owesWithin
  rw [show (dats m 0 c).owed t.castSucc = 0 from rfl, show (dats m 0 c).owed t.succ = 0 from rfl]
  simp only [before_in0 m c, before_in1 m c, before_in2 m c, before_in3 m c, before_in4 m c, before_in5 m c, before_in6 m c, before_in7 m c, before_in8 m c]
  simp only [before_kept10 m c t ht, before_kept11 m c t ht, before_kept12 m c t ht, before_kept13 m c t ht, before_kept14 m c t ht]
  rw [hΦ, hΦ', a0, a1, a2, a3, a4, a5, a6, a7, a8, a9, a10, a11, a12, a13, a14]
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, O9⟩, ⟨%d10, O10⟩, ⟨%d11, O11⟩, ⟨%d12, O12⟩, ⟨%d13, O13⟩, ⟨%d14, O14⟩⟩
  iapply (middle_wp c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (iblk m c 1 t) (iblk m c 2 t) (iblk m c 7 t) (iblk m c 8 t) (X m c) (by rw [first_iff]; exact ht) (by rw [last_iff]; exact h1) _ _ _ _ _)
  isplitl [I1]; · iexact I1
  isplitl [I2]; · iexact I2
  isplitl [I7]; · iexact I7
  isplitl [I8]; · iexact I8
  isplitl [O9]; · iexists _; iexact O9
  isplitl [HΦ]; · iexact HΦ
  iintro ⟨I1, I2, I7, I8, O9, HΦ⟩
  isplitl [HΦ]; · iexact HΦ
  isplitl [HW]
  · iexists W; isplitr; · ipureintro; exact fun _ _ => Or.inl trivial
    iexact HW
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [O9]; · iexact O9
  isplitl [O10]; · iapply l10 $$ O10
  isplitl [O11]; · iapply l11 $$ O11
  isplitl [O12]; · iapply l12 $$ O12
  isplitl [O13]; · iapply l13 $$ O13
  iapply l14 $$ O14

set_option maxHeartbeats 1000000 in
/-- The last point. -/
theorem sound_last (c : Dev nD) (t : Fin cfg0.N) (ht : t.val ≠ 0) (h1 : t.val = 13) :
    bodyPre m c t ⊢ wp frame (wpE (defs₀ (F := F)) Variants.none c none) Set.univ (bodyAt0 t) (fun _ => bodyPost m c t) := by
  have a0 : (dats m 0 c).after 0 t = iblk m c 0 t := by dsimp only [dats]
  have a1 : (dats m 0 c).after 1 t = iblk m c 1 t := by dsimp only [dats]
  have a2 : (dats m 0 c).after 2 t = iblk m c 2 t := by dsimp only [dats]
  have a3 : (dats m 0 c).after 3 t = iblk m c 3 t := by dsimp only [dats]
  have a4 : (dats m 0 c).after 4 t = iblk m c 4 t := by dsimp only [dats]
  have a5 : (dats m 0 c).after 5 t = iblk m c 5 t := by dsimp only [dats]
  have a6 : (dats m 0 c).after 6 t = iblk m c 6 t := by dsimp only [dats]
  have a7 : (dats m 0 c).after 7 t = iblk m c 7 t := by dsimp only [dats]
  have a8 : (dats m 0 c).after 8 t = iblk m c 8 t := by dsimp only [dats]
  have a9 : (dats m 0 c).after 9 t = yAt m c t := by dsimp only [dats]
  have a10 : (dats m 0 c).after 10 t = arr13 (X m c) := by dsimp only [dats]
  have a11 : (dats m 0 c).after 11 t = arr14 (E m c) (X m c) := by dsimp only [dats]
  have a12 : (dats m 0 c).after 12 t = arr15 (E m c) (X m c) := by dsimp only [dats]
  have a13 : (dats m 0 c).after 13 t = arr16 (E m c) (X m c) := by dsimp only [dats]
  have a14 : (dats m 0 c).after 14 t = arr17 (E m c) (X m c) := by dsimp only [dats]
  have hΦ : (dats m 0 c).Φ t.castSucc = between c (X m c) (arr19 (X m c)) (arr20 (E m c) (X m c)) (arr21 (X m c)) (arr22 (E m c) (X m c)) := by
    show keep m c t.val = _
    unfold keep
    rw [if_neg ht, if_neg (by omega)]
  have hΦ' : (dats m 0 c).Φ t.succ = atEnds c (X m c) (arr19 (X m c)) := by
    show keep m c (t.val + 1) = _
    unfold keep
    rw [if_neg (by omega), if_pos (by omega)]
  have l10 := leaves_of (dats m 0 c) 10 t (fun _ => before_kept10 m c t ht)
  rw [a10] at l10
  have l11 := leaves_of (dats m 0 c) 11 t (fun _ => before_kept11 m c t ht)
  rw [a11] at l11
  have l12 := leaves_of (dats m 0 c) 12 t (fun _ => before_kept12 m c t ht)
  rw [a12] at l12
  have l13 := leaves_of (dats m 0 c) 13 t (fun _ => before_kept13 m c t ht)
  rw [a13] at l13
  have l14 := leaves_of (dats m 0 c) 14 t (fun _ => before_kept14 m c t ht)
  rw [a14] at l14
  unfold bodyPre bodyPost bodyAt0
  unfold Dat.owesAt Pipeline.owesWithin
  rw [show (dats m 0 c).owed t.castSucc = 0 from rfl, show (dats m 0 c).owed t.succ = 0 from rfl]
  simp only [before_in0 m c, before_in1 m c, before_in2 m c, before_in3 m c, before_in4 m c, before_in5 m c, before_in6 m c, before_in7 m c, before_in8 m c]
  simp only [before_kept10 m c t ht, before_kept11 m c t ht, before_kept12 m c t ht, before_kept13 m c t ht, before_kept14 m c t ht]
  rw [hΦ, hΦ', a0, a1, a2, a3, a4, a5, a6, a7, a8, a9, a10, a11, a12, a13, a14]
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, O9⟩, ⟨%d10, O10⟩, ⟨%d11, O11⟩, ⟨%d12, O12⟩, ⟨%d13, O13⟩, ⟨%d14, O14⟩⟩
  iapply (last_wp c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (iblk m c 1 t) (iblk m c 2 t) (iblk m c 7 t) (iblk m c 8 t) (X m c) (by rw [first_iff]; exact ht) ((last_iff t).mpr h1) _ _ _ _ W _)
  isplitl [I1]; · iexact I1
  isplitl [I2]; · iexact I2
  isplitl [I7]; · iexact I7
  isplitl [I8]; · iexact I8
  isplitl [O9]; · iexists _; iexact O9
  isplitl [HΦ]; · iexact HΦ
  isplitl [HW]; · iexact HW
  iintro ⟨I1, I2, I7, I8, O9, HΦ, HW⟩
  isplitl [HΦ]; · iexact HΦ
  isplitl [HW]
  · icases HW with ⟨%W', HW⟩
    iexists W'; isplitr; · ipureintro; exact fun _ _ => Or.inl trivial
    iexact HW
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [O9]; · iexact O9
  isplitl [O10]; · iapply l10 $$ O10
  isplitl [O11]; · iapply l11 $$ O11
  isplitl [O12]; · iapply l12 $$ O12
  isplitl [O13]; · iapply l13 $$ O13
  iapply l14 $$ O14

/-- The body runs from the one to the other. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h1 : t.val = 13
  · exact sound_last m c t h0 h1
  · exact sound_middle m c t h0 h1

/-- The body's definition at a point. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The contents of the body's own arrays at the end: the codes' result overwritten. -/
def Yend (c : Dev nD) : (b : Ref sig .tc) → Buf (Elt F) ((c : Thread nD τ).loc b) :=
  Function.update (V m c) main_v4_1 (arr19 (X m c))

set_option maxHeartbeats 800000 in
/-- The main program is its host operations and the launch. -/
theorem hmainUC : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The program runs; every staged array ends as its blocks say, the codes' result at its own. -/
theorem run_main : θ_run defs (onTc (τ := τ) (main (F := F))) (s₀ m ρ)
    (fun r => Pipeline.RoutedPost cfgs (dats m) 0 R0 (V m) (Yend m) r ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmainUC m) (hA := A_eq m)
    (R := R0) (hR := R0_sub) (Y := Yend m)
    (hin := fun c => by rw [ends_eq]; exact .rfl)
    (hout := fun c => by
      rw [ends_eq]; unfold Yend
      rw [Function.update_self, Function.update_of_ne (by decide)]
      exact .rfl)

/-- An array the launch never touches. -/
theorem untouched {r : PUnit × MemSt nD τ sig (Elt F)} (h : Pipeline.RoutedPost cfgs (dats m) 0 R0 (V m) (Yend m) r)
    (c : Dev nD) (b : Ref sig .tc) (hs : b ∈ Pipeline.restRefs sig spec0 \ R0) :
    r.2.mem ((c.tc : Thread nD τ).loc b) = V m c b := (h c).2.2 b hs

/-- Every argument array ends as it was. -/
theorem args_kept {r : PUnit × MemSt nD τ sig (Elt F)} (h : Pipeline.RoutedPost cfgs (dats m) 0 R0 (V m) (Yend m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(untouched m h c main_arg0 (by decide)).trans (V_main_arg0 m c),
      ((h c).1 1).trans (((dats m 0 c).arrAt_in 1 rfl _).trans ((A_eq m c 1).trans (V_main_arg1 m c))),
      (untouched m h c main_arg2 (by decide)).trans (V_main_arg2 m c),
      ((h c).1 3).trans (((dats m 0 c).arrAt_in 3 rfl _).trans ((A_eq m c 3).trans (V_main_arg3 m c))),
      (untouched m h c main_arg4 (by decide)).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      (untouched m h c main_arg8 (by decide)).trans (V_main_arg8 m c),
      ((h c).1 0).trans (((dats m 0 c).arrAt_in 0 rfl _).trans ((A_eq m c 0).trans (V_main_arg9 m c)))⟩

/-- The frame: the program runs, leaves its arguments alone and every semaphore at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨args_kept m h.1, h.2⟩) (run_main m ρ)

end Cert.KernelIdeal.Hand

end
-- ==== Proof.Frames.lean ====
/- The three frames, as the claim states them. The kernel as printed and the kernel as idealized are one program under two names: the frame, proved of any float model, is read at the bit-exact one. -/
module
public import proofs.«01_k».proof.Defs
public import proofs.«01_k».proof.Proof.Gen.Kernel
public import proofs.«01_k».proof.Proof.Gen.ReferenceIdeal.Frame
public import proofs.«01_k».proof.Proof.Run
@[expose] public section

noncomputable section
namespace Cert.Proof
open Idealize.ShloMosaic Idealize.SL.Sem

/-- The idealized kernel's frame read at the bit-exact float model. -/
def frameAtBits [Cert.KernelIdeal.Facts] : Prop := ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

/-- It is the kernel's frame: the two programs unfold to one. -/
theorem same : @frameAtBits Cert.KernelIdeal.Gen.facts = quiescent_Kernel (hKernel := Cert.Kernel.Gen.facts) := by
  sl_kernel_rfl

/-- The printed kernel's frame. -/
theorem kernel_frame : quiescent_Kernel (hKernel := Cert.Kernel.Gen.facts) :=
  same.mp fun m g _ => Cert.KernelIdeal.Hand.frame m g
/-- The idealized kernel's frame. -/
theorem kernelIdeal_frame : quiescent_KernelIdeal (hKernelIdeal := Cert.KernelIdeal.Gen.facts) :=
  fun m g _ => Cert.KernelIdeal.Hand.frame m g

/-- The reference's frame. -/
theorem referenceIdeal_frame : quiescent_ReferenceIdeal (hReferenceIdeal := Cert.ReferenceIdeal.Gen.facts) :=
  fun m g _ => Cert.ReferenceIdeal.Gen.frame m g

end Cert.Proof

end
-- ==== Proof.Spec.lean ====
/- The mathematics of one row over the extended reals: the two quantisers, the three products and the tenants. -/
module

public import Idealize.ShloMosaic.Lib.Pointwise
public import Mathlib.Analysis.SpecialFunctions.Pow.Real

@[expose] public section

set_option maxRecDepth 16384

noncomputable section

namespace Cert.Rows

open Idealize.ShloMosaic

/-- The extended real of an f32 word. -/
abbrev K (b : BitVec 32) : EReal := Ideal.ofBits .f32 b

/-- The largest magnitude of a row. -/
def amax {n : ℕ} (f : Fin n → EReal) : EReal :=
  Finset.univ.fold max (K 0xFF800000#32) fun k => (FloatOps.absf (F := Ideal) (φ := .f32) (f k))

/-- The power-of-two scale of a quotient, in closed form. -/
def scl (q : EReal) : EReal :=
  Scalar.select (IntOp.andi (BitVec.ofBool (decide (K 0x00800000#32 ≤ q))) (BitVec.ofBool (decide (q ≤ K 0x7F7FFFFF#32))))
    (Ideal.exp2 (Ideal.liftRound Int.floor (Ideal.div (Ideal.log q) (Ideal.log (K 0x40000000#32))) + 1)) 1

/-- The fp8 scale of a row: of its largest magnitude over 448. -/
def fscale {n : ℕ} (f : Fin n → EReal) : EReal := scl (amax f * K 0x3B124925#32)

/-- The fp8 code of an entry of a row. -/
def fcode {n : ℕ} (f : Fin n → EReal) (k : Fin n) : EReal :=
  min (K 0x43E00000#32) (max (K 0xC3E00000#32) (Ideal.div (f k) (fscale f)))

/-- What every row's computation shares: the down projection and its scales, the tenants' row counts, cores and scales. -/
structure Par where
  v : Fin 256 → Fin 4096 → EReal
  vs : Fin 256 → EReal
  g : Fin 7 → BitVec 32
  sg : Fin 7 → Fin 256 → Fin 256 → EReal
  ss : Fin 7 → Fin 256 → EReal

/-- The down projection of the row. -/
def zval (P : Par) (x : Fin 4096 → EReal) (j : Fin 256) : EReal := (∑ k, fcode x k * P.v j k) * fscale x * P.vs j

/-- The int8 scale of a row. -/
def iscale (z : Fin 256 → EReal) : EReal := if amax z = 0 then 1 else Ideal.div (amax z) (K 0x42FE0000#32)

/-- The rounded and clipped quotient of an entry of a row. -/
def iquo (z : Fin 256 → EReal) (j : Fin 256) : EReal :=
  min (K 0x42FE0000#32) (max (K 0xC2FE0000#32) (Ideal.liftRound Ideal.roundHalfEven (Ideal.div (z j) (iscale z))))

/-- The int8 code of an entry of a row. -/
def icode (z : Fin 256 → EReal) (j : Fin 256) : BitVec 8 := Ideal.fptosi 8 (iquo z j)

/-- The first row after the first tenant's rows, and after each next one's. -/
def Par.e1 (P : Par) : BitVec 32 := IntOp.addi (0#32) (P.g 0)
/-- After the second tenant's. -/
def Par.e2 (P : Par) : BitVec 32 := IntOp.addi P.e1 (P.g 1)
/-- After the third tenant's. -/
def Par.e3 (P : Par) : BitVec 32 := IntOp.addi P.e2 (P.g 2)
/-- After the fourth tenant's. -/
def Par.e4 (P : Par) : BitVec 32 := IntOp.addi P.e3 (P.g 3)
/-- After the fifth tenant's. -/
def Par.e5 (P : Par) : BitVec 32 := IntOp.addi P.e4 (P.g 4)
/-- After the sixth tenant's. -/
def Par.e6 (P : Par) : BitVec 32 := IntOp.addi P.e5 (P.g 5)
/-- After the last tenant's. -/
def Par.e7 (P : Par) : BitVec 32 := IntOp.addi P.e6 (P.g 6)

/-- Whether the row `n` is from `lo` up to, not including, `hi`. -/
def isIn (n lo hi : BitVec 32) : BitVec 1 := IntOp.andi (IntOp.cmpi .sge n lo) (IntOp.cmpi .slt n hi)

/-- One tenant's product, where the row is one of the tenant's. -/
def hterm (n lo hi : BitVec 32) (sg : Fin 256 → Fin 256 → EReal) (z : Fin 256 → EReal) (j : Fin 256) : EReal :=
  Scalar.select (isIn n lo hi) (∑ k, z k * sg k j) 0

/-- The tenants' products of the row, added up. -/
def hacc (P : Par) (n : BitVec 32) (z : Fin 256 → EReal) (j : Fin 256) : EReal :=
  0 + hterm n 0#32 P.e1 (P.sg 0) z j + hterm n P.e1 P.e2 (P.sg 1) z j + hterm n P.e2 P.e3 (P.sg 2) z j + hterm n P.e3 P.e4 (P.sg 3) z j
    + hterm n P.e4 P.e5 (P.sg 4) z j + hterm n P.e5 P.e6 (P.sg 5) z j + hterm n P.e6 P.e7 (P.sg 6) z j

/-- The tenant's scale of the row. -/
def hsel (P : Par) (n : BitVec 32) (j : Fin 256) : EReal :=
  Scalar.select (isIn n P.e6 P.e7) (P.ss 6 j) <| Scalar.select (isIn n P.e5 P.e6) (P.ss 5 j) <| Scalar.select (isIn n P.e4 P.e5) (P.ss 4 j) <|
    Scalar.select (isIn n P.e3 P.e4) (P.ss 3 j) <| Scalar.select (isIn n P.e2 P.e3) (P.ss 2 j) <| Scalar.select (isIn n P.e1 P.e2) (P.ss 1 j) <|
    Scalar.select (isIn n 0#32 P.e1) (P.ss 0 j) 0

/-- The row's product with the tenant's core, scaled. -/
def hval (P : Par) (n : BitVec 32) (x : Fin 4096 → EReal) (j : Fin 256) : EReal :=
  hacc P n (iquo (zval P x)) j * iscale (zval P x) * hsel P n j

/-- One entry of the row's output, from the columns of the two weights and their scales. -/
def yval (P : Par) (n : BitVec 32) (x : Fin 4096 → EReal) (w : Fin 4096 → EReal) (ws : EReal) (u : Fin 256 → EReal) (us : EReal) : EReal :=
  (∑ k, fcode x k * w k) * fscale x * ws + (∑ k, fcode (hval P n x) k * u k) * fscale (hval P n x) * us

end Cert.Rows

end
-- ==== Proof.Ladder.lean ====
/- The ladder of compares and selects finds the closed formula's power of two. -/
module

public import proofs.«01_k».proof.Proof.Spec

@[expose] public section

set_option maxRecDepth 16384

noncomputable section

namespace Cert.Rows

open Idealize.ShloMosaic

/-- One rung: multiply by the constant when the quotient is at least the product. -/
def step (q : EReal) (b : BitVec 32) (p : EReal) : EReal := if p * K b ≤ q then p * K b else p

/-- The ladder on a quotient. -/
def ladder (q : EReal) : EReal :=
  Scalar.select (IntOp.andi (BitVec.ofBool (decide (K 0x00800000#32 ≤ q))) (BitVec.ofBool (decide (q ≤ K 0x7F7FFFFF#32))))
    (step q 0x40000000#32 <| step q 0x40800000#32 <| step q 0x41800000#32 <| step q 0x43800000#32 <| step q 0x47800000#32 <|
      step q 0x4F800000#32 <| step q 0x5F800000#32 <| step q 0x5F800000#32 <| step q 0x5F800000#32 <| K 0x00800000#32)
    (K 0x3F000000#32)

/-- The constant 2^1. -/
theorem K_1 : K 0x40000000#32 = (((2 : ℝ) ^ (1 : ℕ) : ℝ) : EReal) := by simp [K, Ideal.ofBits, Ideal.ieee, -EReal.coe_mul, -EReal.coe_pow] <;> norm_num
/-- The constant 2^2. -/
theorem K_2 : K 0x40800000#32 = (((2 : ℝ) ^ (2 : ℕ) : ℝ) : EReal) := by simp [K, Ideal.ofBits, Ideal.ieee, -EReal.coe_mul, -EReal.coe_pow] <;> norm_num
/-- The constant 2^4. -/
theorem K_4 : K 0x41800000#32 = (((2 : ℝ) ^ (4 : ℕ) : ℝ) : EReal) := by simp [K, Ideal.ofBits, Ideal.ieee, -EReal.coe_mul, -EReal.coe_pow] <;> norm_num
/-- The constant 2^8. -/
theorem K_8 : K 0x43800000#32 = (((2 : ℝ) ^ (8 : ℕ) : ℝ) : EReal) := by simp [K, Ideal.ofBits, Ideal.ieee, -EReal.coe_mul, -EReal.coe_pow] <;> norm_num
/-- The constant 2^16. -/
theorem K_16 : K 0x47800000#32 = (((2 : ℝ) ^ (16 : ℕ) : ℝ) : EReal) := by simp [K, Ideal.ofBits, Ideal.ieee, -EReal.coe_mul, -EReal.coe_pow] <;> norm_num
/-- The constant 2^32. -/
theorem K_32 : K 0x4F800000#32 = (((2 : ℝ) ^ (32 : ℕ) : ℝ) : EReal) := by simp [K, Ideal.ofBits, Ideal.ieee, -EReal.coe_mul, -EReal.coe_pow] <;> norm_num
/-- The constant 2^64. -/
theorem K_64 : K 0x5F800000#32 = (((2 : ℝ) ^ (64 : ℕ) : ℝ) : EReal) := by simp [K, Ideal.ofBits, Ideal.ieee, -EReal.coe_mul, -EReal.coe_pow] <;> norm_num
/-- The constant one half. -/
theorem K_half : K 0x3F000000#32 = ((1 / 2 : ℝ) : EReal) := by simp [K, Ideal.ofBits, Ideal.ieee, -EReal.coe_mul, -EReal.coe_pow] <;> norm_num
/-- The least normal float, 2^-126. -/
theorem K_min : K 0x00800000#32 = (((2 : ℝ) ^ (-126 : ℤ) : ℝ) : EReal) := by simp [K, Ideal.ofBits, Ideal.ieee, -EReal.coe_mul, -EReal.coe_pow] <;> norm_num
/-- The largest finite float. -/
theorem K_max : K 0x7F7FFFFF#32 = (((16777215 : ℝ) * 2 ^ (104 : ℕ) : ℝ) : EReal) := by simp [K, Ideal.ofBits, Ideal.ieee, -EReal.coe_mul, -EReal.coe_pow] <;> norm_num

/-- The quotient `q` lies from the power `2 ^ e`, which `p` is, up to `2 ^ m` times it. -/
def Near (q : ℝ) (m : ℕ) (p : EReal) : Prop := ∃ e : ℤ, p = (((2 : ℝ) ^ e : ℝ) : EReal) ∧ (2 : ℝ) ^ e ≤ q ∧ q < (2 : ℝ) ^ (e + m)

/-- A rung narrows the interval: after it, the quotient is within the smaller power. -/
theorem Near.step {q : ℝ} {m c l : ℕ} {p : EReal} {b : BitVec 32} (h : Near q m p) (hb : K b = (((2 : ℝ) ^ c : ℝ) : EReal))
    (hm : m ≤ c + l) (hc : c ≤ l) : Near q l (step (q : EReal) b p) := by
  obtain ⟨e, rfl, h1, h2⟩ := h
  have hmul : (((2 : ℝ) ^ e : ℝ) : EReal) * K b = (((2 : ℝ) ^ (e + c) : ℝ) : EReal) := by
    rw [hb, ← EReal.coe_mul, zpow_add₀ (by norm_num), zpow_natCast]
  unfold Rows.step
  rw [hmul]
  by_cases hq : (2 : ℝ) ^ (e + c) ≤ q
  · rw [if_pos (EReal.coe_le_coe_iff.2 hq)]
    exact ⟨e + c, rfl, hq, lt_of_lt_of_le h2 (zpow_le_zpow_right₀ (by norm_num) (by omega))⟩
  · rw [if_neg (by rwa [EReal.coe_le_coe_iff])]
    exact ⟨e, rfl, h1, lt_of_lt_of_le (not_le.1 hq) (zpow_le_zpow_right₀ (by norm_num) (by omega))⟩

/-- The closed formula on a real quotient from `2 ^ e` up to twice it. -/
theorem closed {q : ℝ} {e : ℤ} (h1 : (2 : ℝ) ^ e ≤ q) (h2 : q < (2 : ℝ) ^ (e + 1)) :
    Ideal.exp2 (Ideal.liftRound Int.floor (Ideal.div (Ideal.log (q : EReal)) (Ideal.log (K 0x40000000#32))) + 1) = (((2 : ℝ) ^ (e + 1) : ℝ) : EReal) := by
  have hq : 0 < q := lt_of_lt_of_le (by positivity) h1
  have hl : Real.log 2 > 0 := Real.log_pos (by norm_num)
  have hf : ⌊Real.log q / Real.log 2⌋ = e := by
    rw [Int.floor_eq_iff]
    constructor
    · rw [le_div_iff₀ hl, ← Real.log_zpow]; exact Real.log_le_log (by positivity) h1
    · rw [div_lt_iff₀ hl]
      have := Real.log_lt_log hq h2
      rw [Real.log_zpow] at this; push_cast at this; exact this
  rw [K_1, pow_one, Ideal.log_coe, Ideal.log_coe, if_neg (not_le.2 hq), if_neg (by norm_num)]
  have hd : Ideal.div (Real.log q : EReal) (Real.log 2 : EReal) = ((Real.log q / Real.log 2 : ℝ) : EReal) := by
    unfold Ideal.div
    rw [if_neg (by exact_mod_cast hl.ne'), ← EReal.coe_inv, ← EReal.coe_mul, div_eq_mul_inv]
  rw [hd, Ideal.liftRound_coe, hf, ← EReal.coe_one, ← EReal.coe_add, Ideal.exp2_coe]
  congr 1
  rw [← Real.rpow_intCast]; push_cast; rfl

/-- The ladder's result is a positive real, and twice it is the closed formula's scale. -/
theorem ladder_spec (q : EReal) : ∃ p : ℝ, 0 < p ∧ ladder q = (p : EReal) ∧ scl q = ((p * 2 : ℝ) : EReal) := by
  by_cases hr : K 0x00800000#32 ≤ q ∧ q ≤ K 0x7F7FFFFF#32
  · obtain ⟨ha, hb⟩ := hr
    have hsel : IntOp.andi (BitVec.ofBool (decide (K 0x00800000#32 ≤ q))) (BitVec.ofBool (decide (q ≤ K 0x7F7FFFFF#32))) = 1#1 := by
      rw [decide_eq_true ha, decide_eq_true hb]; rfl
    rw [K_min] at ha
    rw [K_max] at hb
    induction q using EReal.rec with
    | bot => exact absurd ha (by simp)
    | top => exact absurd hb (not_le.2 (EReal.coe_lt_top _))
    | coe q =>
    rw [EReal.coe_le_coe_iff] at ha hb
    have h0 : Near q 254 (K 0x00800000#32) := ⟨-126, K_min, ha, lt_of_le_of_lt hb (by norm_num)⟩
    obtain ⟨e, h, h1, h2⟩ := ((((((((h0.step K_64 (l := 190) (by norm_num) (by norm_num)).step K_64 (l := 126) (by norm_num) (by norm_num)).step K_64 (l := 64) (by norm_num) (by norm_num)).step
      K_32 (l := 32) (by norm_num) (by norm_num)).step K_16 (l := 16) (by norm_num) (by norm_num)).step K_8 (l := 8) (by norm_num) (by norm_num)).step K_4 (l := 4) (by norm_num) (by norm_num)).step
      K_2 (l := 2) (by norm_num) (by norm_num)).step K_1 (l := 1) (by norm_num) (by norm_num)
    refine ⟨(2 : ℝ) ^ e, by positivity, ?_, ?_⟩
    · unfold ladder; rw [hsel]; exact h
    · unfold scl; rw [hsel, ← zpow_add_one₀ (by norm_num)]; exact closed h1 h2
  · have hsel : IntOp.andi (BitVec.ofBool (decide (K 0x00800000#32 ≤ q))) (BitVec.ofBool (decide (q ≤ K 0x7F7FFFFF#32))) = 0#1 := by
      rcases not_and_or.1 hr with h | h
      · rw [decide_eq_false h]; generalize decide (q ≤ K 0x7F7FFFFF#32) = d; cases d <;> rfl
      · rw [decide_eq_false h]; generalize decide (K 0x00800000#32 ≤ q) = d; cases d <;> rfl
    refine ⟨1 / 2, by norm_num, ?_, ?_⟩
    · unfold ladder; rw [hsel]; exact K_half
    · unfold scl; rw [hsel]; norm_num; rfl

/-- Twice the ladder's power is the closed formula's scale. -/
theorem ladder_two (q : EReal) : ladder q * K 0x40000000#32 = scl q := by
  obtain ⟨p, _, h, h'⟩ := ladder_spec q
  rw [h, h', K_1, ← EReal.coe_mul, pow_one]

/-- A product with half over the ladder's power is the quotient by the scale. -/
theorem mul_half_div (x q : EReal) : x * Ideal.div (K 0x3F000000#32) (ladder q) = Ideal.div x (scl q) := by
  obtain ⟨p, hp, h, h'⟩ := ladder_spec q
  rw [h, h', K_half]
  unfold Ideal.div
  rw [if_neg (by exact_mod_cast hp.ne'), if_neg (by exact_mod_cast (by positivity : p * 2 ≠ 0)), ← EReal.coe_inv, ← EReal.coe_inv, ← EReal.coe_mul]
  congr 2
  field_simp

/-- The quotient is a whole number, so its int8 code read back is the quotient. -/
theorem icode_val (z : Fin 256 → EReal) (j : Fin 256) : (((icode z j).toInt : ℝ) : EReal) = iquo z j := by
  have hp : K 0x42FE0000#32 = ((127 : ℝ) : EReal) := by simp [K, Ideal.ofBits, Ideal.ieee, -EReal.coe_mul, -EReal.coe_pow] <;> norm_num
  have hn : K 0xC2FE0000#32 = ((-127 : ℝ) : EReal) := by simp [K, Ideal.ofBits, Ideal.ieee, -EReal.coe_mul, -EReal.coe_neg] <;> norm_num
  have key : ∃ n : ℤ, -127 ≤ n ∧ n ≤ 127 ∧ iquo z j = ((n : ℝ) : EReal) := by
    unfold iquo
    rw [hp, hn]
    induction Ideal.div (z j) (iscale z) using EReal.rec with
    | bot => exact ⟨-127, by norm_num, by norm_num, by rw [Ideal.liftRound_bot, max_eq_left bot_le, min_eq_right (by exact_mod_cast (by norm_num : (-127:ℝ) ≤ 127))]; norm_num⟩
    | top => exact ⟨127, by norm_num, by norm_num, by rw [Ideal.liftRound_top, max_eq_right le_top, min_eq_left le_top]; norm_num⟩
    | coe r =>
      rw [Ideal.liftRound_coe]
      refine ⟨min 127 (max (-127) (Ideal.roundHalfEven r)), by omega, by omega, ?_⟩
      push_cast
      rw [EReal.coe_strictMono.monotone.map_min, EReal.coe_strictMono.monotone.map_max, EReal.coe_neg]
  obtain ⟨n, h1, h2, h⟩ := key
  unfold icode
  rw [h]
  have hc : Ideal.toIntClamped (-(2 ^ (8 - 1) : Nat)) ((2 ^ (8 - 1) : Nat) - 1) ((n : ℝ) : EReal) = n := by
    show max _ (min _ (if 0 ≤ (n : ℝ) then ⌊(n : ℝ)⌋ else ⌈(n : ℝ)⌉)) = n
    rw [Int.floor_intCast, Int.ceil_intCast, ite_self]
    norm_num; omega
  unfold Ideal.fptosi
  rw [hc, BitVec.toInt_ofInt_eq_self (by norm_num) (by norm_num; omega) (by norm_num; omega)]

/-- The diagonal sum of a column's repetition is the entry. -/
theorem diag (p : Fin 128 → EReal) (r : Fin 128) :
    (∑ x : Fin 128, Scalar.select (IntOp.cmpi CmpIPredicate.eq (BitVec.ofNat 32 x.val) (BitVec.ofNat 32 r.val)) (p x) 0) = p r := by
  rw [Finset.sum_eq_single r]
  · show (if _ then _ else _) = _
    rw [if_pos]
    show BitVec.ofBool _ = _
    simp
  · intro x _ hx
    show (if _ then _ else _) = _
    rw [if_neg]
    have : BitVec.ofNat 32 x.val ≠ BitVec.ofNat 32 r.val := by
      intro h
      have := congrArg BitVec.toNat h
      simp only [BitVec.toNat_ofNat] at this
      rw [Nat.mod_eq_of_lt (by omega), Nat.mod_eq_of_lt (by omega)] at this
      exact hx (Fin.ext this)
    have hb : (BitVec.ofNat 32 x.val == BitVec.ofNat 32 r.val) = false := beq_eq_false_iff_ne.2 this
    show ¬ (BitVec.ofBool (_ == _) = _)
    rw [hb]; decide
  · simp

/-- A product with the row's entries put to zero off the tenant's rows is the product there and zero elsewhere. -/
theorem masked (c : BitVec 1) (z s : Fin 256 → EReal) (o : EReal) (ho : o = 0) :
    (∑ k, Scalar.select c (z k) o * s k) = Scalar.select c (∑ k, z k * s k) 0 := by
  subst ho
  have h : c = 1#1 ∨ c = 0#1 := by
    have := c.isLt
    rcases (show c.toNat = 1 ∨ c.toNat = 0 by omega) with h | h
    · left; exact BitVec.eq_of_toNat_eq h
    · right; exact BitVec.eq_of_toNat_eq h
  rcases h with rfl | rfl
  · rfl
  · show (∑ k, 0 * s k) = 0
    simp

end Cert.Rows

end
-- ==== Proof.Block.lean ====
/- The kernel's block of 256 rows at an index, over the extended reals: the row's mathematics. -/
module

public import proofs.«01_k».proof.Proof.Chunk
public import proofs.«01_k».proof.Proof.Ladder

@[expose] public section

set_option maxRecDepth 16384

noncomputable section

namespace Cert.KernelIdeal.Hand

open Cert.KernelIdeal Cert.KernelIdeal.Gen
open Cert.Rows (Par K amax scl fscale fcode zval iscale iquo icode isIn hterm hacc hsel hval yval)
open Idealize.ShloMosaic Idealize.ShloMosaic.TcCoe

/-- The row's parameters the environment holds. -/
def Env.par (E : Env Ideal) : Par where
  v := fun j k => E.v (ix2 j k)
  vs := fun j => E.vs (ix2 0 j)
  g := ![E.g0, E.g1, E.g2, E.g3, E.g4, E.g5, E.g6]
  sg := ![fun k j => E.c0 (ix3 0 k j), fun k j => E.c1 (ix3 0 k j), fun k j => E.c2 (ix3 0 k j), fun k j => E.c3 (ix3 0 k j),
    fun k j => E.c4 (ix3 0 k j), fun k j => E.c5 (ix3 0 k j), fun k j => E.c6 (ix3 0 k j)]
  ss := ![fun j => E.s0 (ix2 0 j), fun j => E.s1 (ix2 0 j), fun j => E.s2 (ix2 0 j), fun j => E.s3 (ix2 0 j),
    fun j => E.s4 (ix2 0 j), fun j => E.s5 (ix2 0 j), fun j => E.s6 (ix2 0 j)]

/-- A row of the block. -/
def xrow (x : Vec Ideal S1x256x4096 .bf16) (r : Fin 256) : Fin 4096 → EReal := fun k => x (ix3 0 r k)

/-- A rung at an index. -/
theorem rung_apply (q : FVec Ideal S256x1 .f32) (b : BitVec 32) (p : FVec Ideal S256x1 .f32) (r : Fin 256) :
    rung q b p (ix2 r 0) = Rows.step (q (ix2 r 0)) b (p (ix2 r 0)) := by
  unfold rung Rows.step
  pointwise

/-- The ladder at an index. -/
theorem powOf_apply (q : FVec Ideal S256x1 .f32) (r : Fin 256) : powOf q (ix2 r 0) = Rows.ladder (q (ix2 r 0)) := by
  unfold powOf Rows.ladder
  pointwise [rung_apply]

/-- The infinities of the two formats are one. -/
theorem neg_inf : Ideal.ofBits FTy.bf16 0xFF80#16 = Ideal.ofBits FTy.f32 0xFF800000#32 := by
  simp [Ideal.ofBits, Ideal.ieee]

/-- The largest magnitude of a row of the block. -/
theorem xMax_apply (x : Vec Ideal S1x256x4096 .bf16) (r : Fin 256) : xMax x (ix2 r 0) = amax (xrow x r) := by
  pointwise [xMax, xMat]
  rw [neg_inf]; rfl

/-- The activations' scale of a row. -/
theorem xScale_apply (x : Vec Ideal S1x256x4096 .bf16) (r : Fin 256) : xScale x (ix2 r 0) = fscale (xrow x r) := by
  pointwise [xScale, dbl, xPow, powOf_apply, quot, xMax_apply]
  exact Rows.ladder_two _

/-- The activations' code at an index. -/
theorem xCode_apply (x : Vec Ideal S1x256x4096 .bf16) (r : Fin 256) (k : Fin 4096) : xCode x (ix2 r k) = fcode (xrow x r) k := by
  pointwise [xCode, xMat, inv, xPow, powOf_apply, quot, xMax_apply]
  rw [Rows.mul_half_div]; rfl

/-- The down projection at an index. -/
theorem zVal_apply (E : Env Ideal) (x : Vec Ideal S1x256x4096 .bf16) (r k : Fin 256) : zVal E x (ix2 r k) = zval E.par (xrow x r) k := by
  pointwise [zVal, dot_S256x4096_S256x4096_S256x256_1_1_0_0_n_n, xScale_apply, xCode_apply]
  rfl

/-- The largest magnitude of a row of a square tile. -/
theorem rowMax_apply (z : FVec Ideal S256x256 .f32) (r : Fin 256) : rowMax z (ix2 r 0) = amax fun k => z (ix2 r k) := by
  pointwise [rowMax]
  rfl

/-- The int8 scale of a row. -/
theorem zScale_apply (E : Env Ideal) (x : Vec Ideal S1x256x4096 .bf16) (r : Fin 256) : zScale E x (ix2 r 0) = iscale (zval E.par (xrow x r)) := by
  pointwise [zScale, rowMax_apply, zVal_apply]
  rfl

/-- The rounded and clipped quotient at an index. -/
theorem zQuo_apply (E : Env Ideal) (x : Vec Ideal S1x256x4096 .bf16) (r k : Fin 256) : zQuo E x (ix2 r k) = iquo (zval E.par (xrow x r)) k := by
  pointwise [zQuo, zScale_apply, zVal_apply]
  rfl

/-- The int8 code at an index. -/
theorem zCode_apply (E : Env Ideal) (x : Vec Ideal S1x256x4096 .bf16) (r k : Fin 256) : zCode E x (ix2 r k) = icode (zval E.par (xrow x r)) k := by
  pointwise [zCode, zQuo_apply]
  rfl

/-- The int8 code as an operand of the next product, at an index. -/
theorem zOp_apply (E : Env Ideal) (x : Vec Ideal S1x256x4096 .bf16) (r k : Fin 256) : zOp E x (ix2 r k) = iquo (zval E.par (xrow x r)) k := by
  pointwise [zOp, zQuo_apply]

/-- The number of row `r` of the block from `b`. -/
abbrev rno (b : BitVec 32) (r : Fin 256) : BitVec 32 := IntOp.addi (BitVec.ofNat 32 r.val) b

/-- One tenant's addition to the core product, at an index. -/
theorem hStep_apply (z : FVec Ideal S256x256 .bf16) (b lo hi : BitVec 32) (sg : Vec Ideal S1x256x256 .bf16) (acc : FVec Ideal S256x256 .f32) (r k : Fin 256) :
    hStep z b lo hi sg acc (ix2 r k) = acc (ix2 r k) + hterm (rno b r) lo hi (fun k j => sg (ix3 0 k j)) (fun k => z (ix2 r k)) k := by
  pointwise [hStep, mine, rowNo, dot_S256x256_S256x256_S256x256_1_0_0_1_n_n]
  congr 1
  exact Rows.masked _ (fun x => z (ix2 r x)) (fun x => sg (ix3 0 x k)) _ (by simp)

/-- The core product at an index: the seven tenants' terms. -/
theorem hAcc_apply (E : Env Ideal) (b : BitVec 32) (z : FVec Ideal S256x256 .bf16) (r k : Fin 256) :
    hAcc E b z (ix2 r k) = hacc E.par (rno b r) (fun k => z (ix2 r k)) k := by
  unfold hAcc
  rw [hStep_apply, hStep_apply, hStep_apply, hStep_apply, hStep_apply, hStep_apply, hStep_apply]
  unfold hacc
  have h0 : (broadcast S256x256 (Scalar.ofBits (F := Ideal) .f32 0x00000000#32)) (ix2 r k) = (0 : EReal) := by pointwise
  rw [h0]
  rfl

/-- One tenant's choice of its core's scale, at an index. -/
theorem sStep_apply (b lo hi : BitVec 32) (ss : Vec Ideal S1x256 .f32) (acc : FVec Ideal S256x256 .f32) (r k : Fin 256) :
    sStep b lo hi ss acc (ix2 r k) = Scalar.select (isIn (rno b r) lo hi) (ss (ix2 0 k)) (acc (ix2 r k)) := by
  pointwise [sStep, mine, rowNo]
  rfl

/-- The core's scale at an index: that of the row's tenant. -/
theorem hSel_apply (E : Env Ideal) (b : BitVec 32) (r k : Fin 256) : hSel E b (ix2 r k) = hsel E.par (rno b r) k := by
  unfold hSel
  rw [sStep_apply, sStep_apply, sStep_apply, sStep_apply, sStep_apply, sStep_apply, sStep_apply]
  unfold hsel
  have h0 : (broadcast S256x256 (Scalar.ofBits (F := Ideal) .f32 0x00000000#32)) (ix2 r k) = (0 : EReal) := by pointwise
  rw [h0]
  rfl

/-- The scaled core product at an index. -/
theorem hVal_apply (E : Env Ideal) (b : BitVec 32) (x : Vec Ideal S1x256x4096 .bf16) (r k : Fin 256) :
    hVal E b x (ix2 r k) = hval E.par (rno b r) (xrow x r) k := by
  pointwise [hVal, hAcc_apply, hSel_apply, zScale_apply, zOp_apply]
  rfl

/-- The second fp8 scale of a row. -/
theorem hScale_apply (E : Env Ideal) (b : BitVec 32) (x : Vec Ideal S1x256x4096 .bf16) (r : Fin 256) :
    hScale E b x (ix2 r 0) = fscale (hval E.par (rno b r) (xrow x r)) := by
  pointwise [hScale, dbl, hPow, powOf_apply, quot, rowMax_apply, hVal_apply]
  exact Rows.ladder_two _

/-- The second fp8 code at an index. -/
theorem hCode_apply (E : Env Ideal) (b : BitVec 32) (x : Vec Ideal S1x256x4096 .bf16) (r k : Fin 256) :
    hCode E b x (ix2 r k) = fcode (hval E.par (rno b r) (xrow x r)) k := by
  pointwise [hCode, inv, hPow, powOf_apply, quot, rowMax_apply, hVal_apply]
  rw [Rows.mul_half_div]; rfl

/-- A column spread over the lanes. -/
theorem lanes_apply (p : FVec Ideal S256x1 .f32) (r : Fin 256) (l : Fin 128) : lanes p (ix2 r l) = p (ix2 r 0) := by
  pointwise [lanes]

/-- A column laid down as a row. -/
theorem colRow_apply (p : FVec Ideal S128x1 .f32) (l : Fin 128) : colRow p (ix2 0 l) = p (ix2 l 0) := by
  pointwise [colRow]
  exact Rows.diag (fun l => p (ix2 l 0)) l

/-- The first 128 rows of a column, as a row. -/
theorem top_apply (p : FVec Ideal S256x1 .f32) (l : Fin 128) : top p (ix2 0 l) = p (ix2 ⟨l.val, by omega⟩ 0) := by
  unfold top
  rw [colRow_apply]
  pointwise
  try rfl

/-- The last 128 rows of a column, as a row. -/
theorem bot_apply (p : FVec Ideal S256x1 .f32) (l : Fin 128) : bot p (ix2 0 l) = p (ix2 ⟨128 + l.val, by omega⟩ 0) := by
  unfold bot
  rw [colRow_apply]
  pointwise
  try rfl

/-- The output tile at an index. -/
theorem yTile_apply (xc : Vec Ideal S512x4096 .fp8e4m3) (w : Vec Ideal S4096x512 .fp8e4m3) (hc : Vec Ideal S512x256 .fp8e4m3) (u : Vec Ideal S256x512 .fp8e4m3)
    (xs hs : Vec Ideal S512x128 .f32) (ws us : Vec Ideal S1x512 .f32) (r j : Fin 512) (sx sh : Fin 512 → EReal)
    (hx : ∀ (r : Fin 512) (l : Fin 128), xs (ix2 r l) = sx r) (hh : ∀ (r : Fin 512) (l : Fin 128), hs (ix2 r l) = sh r) :
    yTile xc w hc u xs hs ws us (ix2 r j) = (∑ k, xc (ix2 r k) * w (ix2 k j)) * sx r * ws (ix2 0 j) + (∑ k, hc (ix2 r k) * u (ix2 k j)) * sh r * us (ix2 0 j) := by
  pointwise [yTile, k0_pay1, dot_S512x4096_S4096x512_S512x512_1_0_0_1_n_n, dot_S512x256_S256x512_S512x512_1_0_0_1_n_n]
  simp only [hx, hh, dite_eq_ite, ite_self]

end Cert.KernelIdeal.Hand

end
-- ==== Proof.Results.lean ====
/- The seven results over the extended reals, as functions of the argument arrays, and the indices of boxes. -/
module

public import proofs.«01_k».proof.Proof.Ladder

@[expose] public section

set_option maxRecDepth 16384

noncomputable section

namespace Cert.Rows

open Idealize.ShloMosaic

/-- Two rows' parameters agree when their five parts do. -/
theorem par_ext {P Q : Par} (hv : ∀ j k, P.v j k = Q.v j k) (hvs : ∀ j, P.vs j = Q.vs j) (hg : ∀ n, P.g n = Q.g n) (hsg : ∀ n k j, P.sg n k j = Q.sg n k j)
    (hss : ∀ n j, P.ss n j = Q.ss n j) : P = Q := by
  cases P; cases Q
  simp only at hv hvs hg hsg hss
  congr 1
  · funext j k; exact hv j k
  · funext j; exact hvs j
  · funext n; exact hg n
  · funext n k j; exact hsg n k j
  · funext n j; exact hss n j

/-- The rows' parameters, from the arrays. -/
def parOf (v : Vec Ideal ⟨2, ![256, 4096]⟩ .fp8e4m3) (vs : Vec Ideal ⟨2, ![1, 256]⟩ .f32) (g : Vec Ideal ⟨1, ![7]⟩ .i32) (sg : Vec Ideal ⟨3, ![7, 256, 256]⟩ .i8)
    (ss : Vec Ideal ⟨2, ![7, 256]⟩ .f32) : Par where
  v := fun j k => v (ix2 j k)
  vs := fun j => vs (ix2 0 j)
  g := fun n => g (ix1 n)
  sg := fun n k j => FloatOps.sitofp (F := Ideal) .bf16 (sg (ix3 n k j))
  ss := fun n j => ss (ix2 n j)

/-- Row `n` of the activations. -/
def rowOf (x : Vec Ideal ⟨2, ![1536, 4096]⟩ .bf16) (n : Fin 1536) : Fin 4096 → EReal := fun k => x (ix2 n k)

/-- The row of the activations an index of a three by 512 array stands for. -/
def row3 (y : (⟨2, ![3, 512]⟩ : Shape).Idx) : Fin 1536 :=
  ⟨512 * (y 0).val + (y 1).val, by have h0 : (y 0).val < 3 := (y 0).isLt; have h1 : (y 1).val < 512 := (y 1).isLt; omega⟩

/-- The output. -/
def yRes (P : Par) (x : Vec Ideal ⟨2, ![1536, 4096]⟩ .bf16) (w : Vec Ideal ⟨2, ![4096, 14336]⟩ .fp8e4m3) (ws : Vec Ideal ⟨2, ![1, 14336]⟩ .f32)
    (u : Vec Ideal ⟨2, ![256, 14336]⟩ .fp8e4m3) (us : Vec Ideal ⟨2, ![1, 14336]⟩ .f32) : (⟨2, ![1536, 14336]⟩ : Shape).Idx → EReal :=
  fun i => yval P (BitVec.ofNat 32 (i 0).val) (rowOf x (i 0)) (fun k => w (ix2 k (i 1))) (ws (ix2 0 (i 1))) (fun k => u (ix2 k (i 1))) (us (ix2 0 (i 1)))

/-- The activations' codes. -/
def xcRes (x : Vec Ideal ⟨2, ![1536, 4096]⟩ .bf16) : (⟨2, ![1536, 4096]⟩ : Shape).Idx → EReal := fun i => fcode (rowOf x (i 0)) (i 1)

/-- The activations' scales. -/
def xsRes (x : Vec Ideal ⟨2, ![1536, 4096]⟩ .bf16) : (⟨2, ![3, 512]⟩ : Shape).Idx → EReal := fun i => fscale (rowOf x (row3 i))

/-- The int8 codes. -/
def zcRes (P : Par) (x : Vec Ideal ⟨2, ![1536, 4096]⟩ .bf16) : (⟨2, ![1536, 256]⟩ : Shape).Idx → BitVec 8 := fun i => icode (zval P (rowOf x (i 0))) (i 1)

/-- The int8 scales. -/
def zsRes (P : Par) (x : Vec Ideal ⟨2, ![1536, 4096]⟩ .bf16) : (⟨2, ![3, 512]⟩ : Shape).Idx → EReal := fun i => iscale (zval P (rowOf x (row3 i)))

/-- The second codes. -/
def hcRes (P : Par) (x : Vec Ideal ⟨2, ![1536, 4096]⟩ .bf16) : (⟨2, ![1536, 256]⟩ : Shape).Idx → EReal :=
  fun i => fcode (hval P (BitVec.ofNat 32 (i 0).val) (rowOf x (i 0))) (i 1)

/-- The second scales. -/
def hsRes (P : Par) (x : Vec Ideal ⟨2, ![1536, 4096]⟩ .bf16) : (⟨2, ![3, 512]⟩ : Shape).Idx → EReal :=
  fun i => fscale (hval P (BitVec.ofNat 32 (row3 i).val) (rowOf x (row3 i)))

/-- An index of a box, in a one-dimensional array. -/
theorem emb1 {A p : ℕ} (h : ∀ i, (![p] : Fin 1 → ℕ) i + (⟨1, ![1]⟩ : Shape).size i ≤ (⟨1, ![A]⟩ : Shape).size i) (y : (⟨1, ![1]⟩ : Shape).Idx) (hp : p < A) :
    (Rect.unit (s := ⟨1, ![A]⟩) ![p] (⟨1, ![1]⟩ : Shape).size h).emb y = ix1 ⟨p, hp⟩ := by
  funext i
  match i with
  | ⟨0, _⟩ => exact Fin.ext (by have h0 : (y 0).val < 1 := (y 0).isLt; show p + 1 * (y 0).val = p; omega)

/-- An index of a box, in a matrix. -/
theorem emb2 {A B a b p q : ℕ} (h : ∀ i, (![p, q] : Fin 2 → ℕ) i + (⟨2, ![a, b]⟩ : Shape).size i ≤ (⟨2, ![A, B]⟩ : Shape).size i) (x : Fin a) (y : Fin b)
    (hx : p + x.val < A) (hy : q + y.val < B) :
    (Rect.unit (s := ⟨2, ![A, B]⟩) ![p, q] (⟨2, ![a, b]⟩ : Shape).size h).emb (ix2 x y) = ix2 ⟨p + x.val, hx⟩ ⟨q + y.val, hy⟩ := by
  funext i
  match i with
  | ⟨0, _⟩ => exact Fin.ext (by show p + 1 * x.val = p + x.val; omega)
  | ⟨1, _⟩ => exact Fin.ext (by show q + 1 * y.val = q + y.val; omega)

/-- An index of a whole matrix, as a box of it. -/
theorem emb2_whole {A B : ℕ} (h : ∀ i, (![0, 0] : Fin 2 → ℕ) i + (⟨2, ![A, B]⟩ : Shape).size i ≤ (⟨2, ![A, B]⟩ : Shape).size i) (x : Fin A) (y : Fin B) :
    (Rect.unit (s := ⟨2, ![A, B]⟩) ![0, 0] (⟨2, ![A, B]⟩ : Shape).size h).emb (ix2 x y) = ix2 x y := by
  funext i
  match i with
  | ⟨0, _⟩ => exact Fin.ext (by show 0 + 1 * x.val = x.val; omega)
  | ⟨1, _⟩ => exact Fin.ext (by show 0 + 1 * y.val = y.val; omega)

/-- An index of one row of a matrix. -/
theorem emb2_row {A B p : ℕ} (h : ∀ i, (![p, 0] : Fin 2 → ℕ) i + (⟨2, ![1, B]⟩ : Shape).size i ≤ (⟨2, ![A, B]⟩ : Shape).size i) (y : Fin B) (hp : p < A) :
    (Rect.unit (s := ⟨2, ![A, B]⟩) ![p, 0] (⟨2, ![1, B]⟩ : Shape).size h).emb (ix2 0 y) = ix2 ⟨p, hp⟩ y := by
  funext i
  match i with
  | ⟨0, _⟩ => exact Fin.ext (by show p + 1 * 0 = p; omega)
  | ⟨1, _⟩ => exact Fin.ext (by show 0 + 1 * y.val = y.val; omega)

/-- An index of one matrix of a stack. -/
theorem emb3_row {A B C p : ℕ} (h : ∀ i, (![p, 0, 0] : Fin 3 → ℕ) i + (⟨3, ![1, B, C]⟩ : Shape).size i ≤ (⟨3, ![A, B, C]⟩ : Shape).size i) (x : Fin B) (y : Fin C) (hp : p < A) :
    (Rect.unit (s := ⟨3, ![A, B, C]⟩) ![p, 0, 0] (⟨3, ![1, B, C]⟩ : Shape).size h).emb (ix3 0 x y) = ix3 ⟨p, hp⟩ x y := by
  funext i
  match i with
  | ⟨0, _⟩ => exact Fin.ext (by show p + 1 * 0 = p; omega)
  | ⟨1, _⟩ => exact Fin.ext (by show 0 + 1 * x.val = x.val; omega)
  | ⟨2, _⟩ => exact Fin.ext (by show 0 + 1 * y.val = y.val; omega)

end Cert.Rows

end
-- ==== Proof.Arrays.lean ====
/- The arrays the kernel's body fills, at an index, over the extended reals: the row's mathematics. -/
module

public import proofs.«01_k».proof.Proof.Block
public import proofs.«01_k».proof.Proof.Results
public import proofs.«01_k».proof.Proof.Body

@[expose] public section

set_option maxRecDepth 16384

noncomputable section

namespace Cert.KernelIdeal.Hand

open Cert.KernelIdeal Cert.KernelIdeal.Gen
open Cert.Rows (Par K amax scl fscale fcode zval iscale iquo icode isIn hterm hacc hsel hval yval rowOf row3)
open Idealize.ShloMosaic Idealize.ShloMosaic.TcCoe

/-- A row of a block of the activations is a row of the activations. -/
theorem xrow_xBlk (fx : Vec Ideal S1536x4096 .bf16) (o : ℕ) (h) (r : Fin 256) (hr : o + r.val < 1536) : xrow (xBlk fx o h) r = rowOf fx ⟨o + r.val, hr⟩ := by
  funext k
  have e : xBlk fx o h = shapeCast S1x256x4096 (rowsAt fx o h) (by decide) := by
    funext y
    show rowsAt fx o h _ = rowsAt fx o h _
    rw [Shape.reshapeEquiv_symm]
  show xBlk fx o h (ix3 0 r k) = _
  rw [e]
  generalize hd : rowsAt fx o h = d
  have e2 : shapeCast S1x256x4096 d (by decide) (ix3 0 r k) = d (ix2 r k) := by pointwise
  rw [e2, ← hd]
  show fx ((Rect.unit (s := S1536x4096) ![o, 0] S256x4096.size h).emb (ix2 r k)) = fx (ix2 _ k)
  rw [Rows.emb2 h r k hr (by omega)]
  congr 2
  exact Fin.ext (by show 0 + k.val = k.val; omega)

/-- A row's number, from its block's. -/
theorem rno_eq (o : ℕ) (b : BitVec 32) (hb : b = BitVec.ofNat 32 o) (r : Fin 256) : rno b r = BitVec.ofNat 32 (o + r.val) := by
  subst hb
  show BitVec.ofNat 32 r.val + BitVec.ofNat 32 o = _
  rw [← BitVec.ofNat_add, Nat.add_comm]

/-- The first half of a block's column, as a piece of the three rows of 512. -/
theorem top_piece (p : FVec Ideal S256x1 .f32) (f : Fin 1536 → EReal) (o a c : ℕ) (ho : o + 256 ≤ 1536)
    (hp : ∀ r : Fin 256, p (ix2 r 0) = f ⟨o + r.val, by omega⟩) (h) (e : 512 * a + c = o) (x : S1x128.Idx) :
    top p x = f (row3 ((Rect.unit (s := S3x512) ![a, c] S1x128.size h).emb x)) := by
  obtain ⟨z, l, rfl⟩ : ∃ (z : Fin 1) (l : Fin 128), x = ix2 z l := ⟨x 0, x 1, eq_ix2 x⟩
  obtain rfl : z = 0 := Subsingleton.elim _ _
  have h0 := h 0
  have h1 := h 1
  have l1 : l.val < 128 := l.isLt
  rw [top_apply, hp]
  congr 1
  refine Fin.ext ?_
  show o + l.val = 512 * (a + 1 * 0) + (c + 1 * l.val)
  omega

/-- The second half, likewise. -/
theorem bot_piece (p : FVec Ideal S256x1 .f32) (f : Fin 1536 → EReal) (o a c : ℕ) (ho : o + 256 ≤ 1536)
    (hp : ∀ r : Fin 256, p (ix2 r 0) = f ⟨o + r.val, by omega⟩) (h) (e : 512 * a + c = o + 128) (x : S1x128.Idx) :
    bot p x = f (row3 ((Rect.unit (s := S3x512) ![a, c] S1x128.size h).emb x)) := by
  obtain ⟨z, l, rfl⟩ : ∃ (z : Fin 1) (l : Fin 128), x = ix2 z l := ⟨x 0, x 1, eq_ix2 x⟩
  obtain rfl : z = 0 := Subsingleton.elim _ _
  have l1 : l.val < 128 := l.isLt
  rw [bot_apply, hp]
  congr 1
  refine Fin.ext ?_
  show o + (128 + l.val) = 512 * (a + 1 * 0) + (c + 1 * l.val)
  omega

/-- A block of 256 rows, as a piece of the 1536. -/
theorem rows_piece {α : Type} {n : ℕ} (d : (⟨2, ![256, n]⟩ : Shape).Idx → α) (f : Fin 1536 → Fin n → α) (o : ℕ) (ho : o + 256 ≤ 1536)
    (hd : ∀ (r : Fin 256) (k : Fin n), d (ix2 r k) = f ⟨o + r.val, by omega⟩ k)
    (h : ∀ i, (![o, 0] : Fin 2 → ℕ) i + (⟨2, ![256, n]⟩ : Shape).size i ≤ (⟨2, ![1536, n]⟩ : Shape).size i) (x : (⟨2, ![256, n]⟩ : Shape).Idx) :
    d x = (fun y : (⟨2, ![1536, n]⟩ : Shape).Idx => f (y 0) (y 1)) ((Rect.unit (s := ⟨2, ![1536, n]⟩) ![o, 0] (⟨2, ![256, n]⟩ : Shape).size h).emb x) := by
  obtain ⟨z, l, rfl⟩ : ∃ (z : Fin 256) (l : Fin n), x = ix2 z l := ⟨x 0, x 1, eq_ix2 x⟩
  have l1 : l.val < n := l.isLt
  have z1 : z.val < 256 := z.isLt
  rw [Rows.emb2 h z l (by omega) (by omega), hd]
  show f _ l = f _ _
  congr 1
  exact Fin.ext (by show l.val = 0 + l.val; omega)

variable (E : Env Ideal) (fx : Vec Ideal S1536x4096 .bf16)

/-- What a row's activation scale is. -/
def sxOf (n : Fin 1536) : EReal := fscale (rowOf fx n)
/-- What a row's int8 scale is. -/
def szOf (n : Fin 1536) : EReal := iscale (zval E.par (rowOf fx n))
/-- What a row's second scale is. -/
def shOf (n : Fin 1536) : EReal := fscale (hval E.par (BitVec.ofNat 32 n.val) (rowOf fx n))
/-- What an activation code is. -/
def cxOf (n : Fin 1536) (k : Fin 4096) : EReal := fcode (rowOf fx n) k
/-- What an int8 code is. -/
def czOf (n : Fin 1536) (k : Fin 256) : BitVec 8 := icode (zval E.par (rowOf fx n)) k
/-- What a second code is. -/
def chOf (n : Fin 1536) (k : Fin 256) : EReal := fcode (hval E.par (BitVec.ofNat 32 n.val) (rowOf fx n)) k

/-- A block's activation scales. -/
theorem sx_blk (o : ℕ) (ho : o + 256 ≤ 1536) (h) (r : Fin 256) : xScale (xBlk fx o h) (ix2 r 0) = sxOf fx ⟨o + r.val, by omega⟩ := by
  rw [xScale_apply, xrow_xBlk fx o h r (by omega)]; rfl

/-- A block's int8 scales. -/
theorem sz_blk (o : ℕ) (ho : o + 256 ≤ 1536) (h) (r : Fin 256) : zScale E (xBlk fx o h) (ix2 r 0) = szOf E fx ⟨o + r.val, by omega⟩ := by
  rw [zScale_apply, xrow_xBlk fx o h r (by omega)]; rfl

/-- A block's second scales. -/
theorem sh_blk (o : ℕ) (ho : o + 256 ≤ 1536) (b : BitVec 32) (hb : b = BitVec.ofNat 32 o) (h) (r : Fin 256) :
    hScale E b (xBlk fx o h) (ix2 r 0) = shOf E fx ⟨o + r.val, by omega⟩ := by
  rw [hScale_apply, xrow_xBlk fx o h r (by omega), rno_eq o b hb]; rfl

/-- A block's activation codes, as stored. -/
theorem cx_blk (o : ℕ) (ho : o + 256 ≤ 1536) (h) (r : Fin 256) (k : Fin 4096) :
    shapeCast S256x4096 (xCode (xBlk fx o h)) shapeCasts_S256x4096_S256x4096 (ix2 r k) = cxOf fx ⟨o + r.val, by omega⟩ k := by
  have e : ∀ d : FVec Ideal S256x4096 .fp8e4m3, shapeCast S256x4096 d shapeCasts_S256x4096_S256x4096 (ix2 r k) = d (ix2 r k) := by intro d; pointwise
  rw [e, xCode_apply, xrow_xBlk fx o h r (by omega)]; rfl

/-- A block's int8 codes. -/
theorem cz_blk (o : ℕ) (ho : o + 256 ≤ 1536) (h) (r k : Fin 256) : zCode E (xBlk fx o h) (ix2 r k) = czOf E fx ⟨o + r.val, by omega⟩ k := by
  rw [zCode_apply, xrow_xBlk fx o h r (by omega)]; rfl

/-- A block's second codes. -/
theorem ch_blk (o : ℕ) (ho : o + 256 ≤ 1536) (b : BitVec 32) (hb : b = BitVec.ofNat 32 o) (h) (r k : Fin 256) :
    hCode E b (xBlk fx o h) (ix2 r k) = chOf E fx ⟨o + r.val, by omega⟩ k := by
  rw [hCode_apply, xrow_xBlk fx o h r (by omega), rno_eq o b hb]; rfl

/-- A block's second codes, as stored for the output. -/
theorem ch_blk' (o : ℕ) (ho : o + 256 ≤ 1536) (b : BitVec 32) (hb : b = BitVec.ofNat 32 o) (h) (r k : Fin 256) :
    shapeCast S256x256 (hCode E b (xBlk fx o h)) shapeCasts_S256x256_S256x256 (ix2 r k) = chOf E fx ⟨o + r.val, by omega⟩ k := by
  have e : ∀ d : FVec Ideal S256x256 .fp8e4m3, shapeCast S256x256 d shapeCasts_S256x256_S256x256 (ix2 r k) = d (ix2 r k) := by intro d; pointwise
  rw [e, ch_blk E fx o ho b hb h]

/-- The activations' scales. -/
theorem arr13_apply (y : S3x512.Idx) : arr13 fx y = sxOf fx (row3 y) := by
  refine View.canon_apply_of_pieces (fun y => sxOf fx (row3 y)) (list13 fx) ?_ y (cover13 fx y)
  intro p hp
  simp only [list13, List.mem_cons, List.not_mem_nil, or_false] at hp
  rcases hp with rfl | rfl | rfl | rfl | rfl | rfl | rfl | rfl | rfl | rfl | rfl | rfl
  · exact bot_piece _ (sxOf fx) 1280 2 384 (by omega) (sx_blk fx 1280 (by omega) inb_S1536x4096_S256x4096_1280_0) inb_S3x512_S1x128_2_384 rfl
  · exact top_piece _ (sxOf fx) 1280 2 256 (by omega) (sx_blk fx 1280 (by omega) inb_S1536x4096_S256x4096_1280_0) inb_S3x512_S1x128_2_256 rfl
  · exact bot_piece _ (sxOf fx) 1024 2 128 (by omega) (sx_blk fx 1024 (by omega) inb_S1536x4096_S256x4096_1024_0) inb_S3x512_S1x128_2_128 rfl
  · exact top_piece _ (sxOf fx) 1024 2 0 (by omega) (sx_blk fx 1024 (by omega) inb_S1536x4096_S256x4096_1024_0) inb_S3x512_S1x128_2_0 rfl
  · exact bot_piece _ (sxOf fx) 768 1 384 (by omega) (sx_blk fx 768 (by omega) inb_S1536x4096_S256x4096_768_0) inb_S3x512_S1x128_1_384 rfl
  · exact top_piece _ (sxOf fx) 768 1 256 (by omega) (sx_blk fx 768 (by omega) inb_S1536x4096_S256x4096_768_0) inb_S3x512_S1x128_1_256 rfl
  · exact bot_piece _ (sxOf fx) 512 1 128 (by omega) (sx_blk fx 512 (by omega) inb_S1536x4096_S256x4096_512_0) inb_S3x512_S1x128_1_128 rfl
  · exact top_piece _ (sxOf fx) 512 1 0 (by omega) (sx_blk fx 512 (by omega) inb_S1536x4096_S256x4096_512_0) inb_S3x512_S1x128_1_0 rfl
  · exact bot_piece _ (sxOf fx) 256 0 384 (by omega) (sx_blk fx 256 (by omega) inb_S1536x4096_S256x4096_256_0) inb_S3x512_S1x128_0_384 rfl
  · exact top_piece _ (sxOf fx) 256 0 256 (by omega) (sx_blk fx 256 (by omega) inb_S1536x4096_S256x4096_256_0) inb_S3x512_S1x128_0_256 rfl
  · exact bot_piece _ (sxOf fx) 0 0 128 (by omega) (sx_blk fx 0 (by omega) inb_S1536x4096_S256x4096_0_0) inb_S3x512_S1x128_0_128 rfl
  · exact top_piece _ (sxOf fx) 0 0 0 (by omega) (sx_blk fx 0 (by omega) inb_S1536x4096_S256x4096_0_0) inb_S3x512_S1x128_0_0 rfl

/-- The int8 scales. -/
theorem arr15_apply (y : S3x512.Idx) : arr15 E fx y = szOf E fx (row3 y) := by
  refine View.canon_apply_of_pieces (fun y => szOf E fx (row3 y)) (list15 E fx) ?_ y (cover15 E fx y)
  intro p hp
  simp only [list15, List.mem_cons, List.not_mem_nil, or_false] at hp
  rcases hp with rfl | rfl | rfl | rfl | rfl | rfl | rfl | rfl | rfl | rfl | rfl | rfl
  · exact bot_piece _ (szOf E fx) 1280 2 384 (by omega) (sz_blk E fx 1280 (by omega) inb_S1536x4096_S256x4096_1280_0) inb_S3x512_S1x128_2_384 rfl
  · exact top_piece _ (szOf E fx) 1280 2 256 (by omega) (sz_blk E fx 1280 (by omega) inb_S1536x4096_S256x4096_1280_0) inb_S3x512_S1x128_2_256 rfl
  · exact bot_piece _ (szOf E fx) 1024 2 128 (by omega) (sz_blk E fx 1024 (by omega) inb_S1536x4096_S256x4096_1024_0) inb_S3x512_S1x128_2_128 rfl
  · exact top_piece _ (szOf E fx) 1024 2 0 (by omega) (sz_blk E fx 1024 (by omega) inb_S1536x4096_S256x4096_1024_0) inb_S3x512_S1x128_2_0 rfl
  · exact bot_piece _ (szOf E fx) 768 1 384 (by omega) (sz_blk E fx 768 (by omega) inb_S1536x4096_S256x4096_768_0) inb_S3x512_S1x128_1_384 rfl
  · exact top_piece _ (szOf E fx) 768 1 256 (by omega) (sz_blk E fx 768 (by omega) inb_S1536x4096_S256x4096_768_0) inb_S3x512_S1x128_1_256 rfl
  · exact bot_piece _ (szOf E fx) 512 1 128 (by omega) (sz_blk E fx 512 (by omega) inb_S1536x4096_S256x4096_512_0) inb_S3x512_S1x128_1_128 rfl
  · exact top_piece _ (szOf E fx) 512 1 0 (by omega) (sz_blk E fx 512 (by omega) inb_S1536x4096_S256x4096_512_0) inb_S3x512_S1x128_1_0 rfl
  · exact bot_piece _ (szOf E fx) 256 0 384 (by omega) (sz_blk E fx 256 (by omega) inb_S1536x4096_S256x4096_256_0) inb_S3x512_S1x128_0_384 rfl
  · exact top_piece _ (szOf E fx) 256 0 256 (by omega) (sz_blk E fx 256 (by omega) inb_S1536x4096_S256x4096_256_0) inb_S3x512_S1x128_0_256 rfl
  · exact bot_piece _ (szOf E fx) 0 0 128 (by omega) (sz_blk E fx 0 (by omega) inb_S1536x4096_S256x4096_0_0) inb_S3x512_S1x128_0_128 rfl
  · exact top_piece _ (szOf E fx) 0 0 0 (by omega) (sz_blk E fx 0 (by omega) inb_S1536x4096_S256x4096_0_0) inb_S3x512_S1x128_0_0 rfl

/-- The second scales. -/
theorem arr17_apply (y : S3x512.Idx) : arr17 E fx y = shOf E fx (row3 y) := by
  refine View.canon_apply_of_pieces (fun y => shOf E fx (row3 y)) (list17 E fx) ?_ y (cover17 E fx y)
  intro p hp
  simp only [list17, List.mem_cons, List.not_mem_nil, or_false] at hp
  rcases hp with rfl | rfl | rfl | rfl | rfl | rfl | rfl | rfl | rfl | rfl | rfl | rfl
  · exact bot_piece _ (shOf E fx) 1280 2 384 (by omega) (sh_blk E fx 1280 (by omega) 1280#32 rfl inb_S1536x4096_S256x4096_1280_0) inb_S3x512_S1x128_2_384 rfl
  · exact top_piece _ (shOf E fx) 1280 2 256 (by omega) (sh_blk E fx 1280 (by omega) 1280#32 rfl inb_S1536x4096_S256x4096_1280_0) inb_S3x512_S1x128_2_256 rfl
  · exact bot_piece _ (shOf E fx) 1024 2 128 (by omega) (sh_blk E fx 1024 (by omega) 1024#32 rfl inb_S1536x4096_S256x4096_1024_0) inb_S3x512_S1x128_2_128 rfl
  · exact top_piece _ (shOf E fx) 1024 2 0 (by omega) (sh_blk E fx 1024 (by omega) 1024#32 rfl inb_S1536x4096_S256x4096_1024_0) inb_S3x512_S1x128_2_0 rfl
  · exact bot_piece _ (shOf E fx) 768 1 384 (by omega) (sh_blk E fx 768 (by omega) 768#32 rfl inb_S1536x4096_S256x4096_768_0) inb_S3x512_S1x128_1_384 rfl
  · exact top_piece _ (shOf E fx) 768 1 256 (by omega) (sh_blk E fx 768 (by omega) 768#32 rfl inb_S1536x4096_S256x4096_768_0) inb_S3x512_S1x128_1_256 rfl
  · exact bot_piece _ (shOf E fx) 512 1 128 (by omega) (sh_blk E fx 512 (by omega) 512#32 rfl inb_S1536x4096_S256x4096_512_0) inb_S3x512_S1x128_1_128 rfl
  · exact top_piece _ (shOf E fx) 512 1 0 (by omega) (sh_blk E fx 512 (by omega) 512#32 rfl inb_S1536x4096_S256x4096_512_0) inb_S3x512_S1x128_1_0 rfl
  · exact bot_piece _ (shOf E fx) 256 0 384 (by omega) (sh_blk E fx 256 (by omega) 256#32 rfl inb_S1536x4096_S256x4096_256_0) inb_S3x512_S1x128_0_384 rfl
  · exact top_piece _ (shOf E fx) 256 0 256 (by omega) (sh_blk E fx 256 (by omega) 256#32 rfl inb_S1536x4096_S256x4096_256_0) inb_S3x512_S1x128_0_256 rfl
  · exact bot_piece _ (shOf E fx) 0 0 128 (by omega) (sh_blk E fx 0 (by omega) 0#32 rfl inb_S1536x4096_S256x4096_0_0) inb_S3x512_S1x128_0_128 rfl
  · exact top_piece _ (shOf E fx) 0 0 0 (by omega) (sh_blk E fx 0 (by omega) 0#32 rfl inb_S1536x4096_S256x4096_0_0) inb_S3x512_S1x128_0_0 rfl

/-- The int8 codes. -/
theorem arr14_apply (n : Fin 1536) (k : Fin 256) : arr14 E fx (ix2 n k) = czOf E fx n k := by
  refine View.canon_apply_of_pieces (fun y : S1536x256.Idx => czOf E fx (y 0) (y 1)) (list14 E fx) ?_ (ix2 n k) (cover14 E fx _)
  intro p hp
  simp only [list14, List.mem_cons, List.not_mem_nil, or_false] at hp
  rcases hp with rfl | rfl | rfl | rfl | rfl | rfl
  · exact rows_piece _ (czOf E fx) 1280 (by omega) (cz_blk E fx 1280 (by omega) inb_S1536x4096_S256x4096_1280_0) inb_S1536x256_S256x256_1280_0
  · exact rows_piece _ (czOf E fx) 1024 (by omega) (cz_blk E fx 1024 (by omega) inb_S1536x4096_S256x4096_1024_0) inb_S1536x256_S256x256_1024_0
  · exact rows_piece _ (czOf E fx) 768 (by omega) (cz_blk E fx 768 (by omega) inb_S1536x4096_S256x4096_768_0) inb_S1536x256_S256x256_768_0
  · exact rows_piece _ (czOf E fx) 512 (by omega) (cz_blk E fx 512 (by omega) inb_S1536x4096_S256x4096_512_0) inb_S1536x256_S256x256_512_0
  · exact rows_piece _ (czOf E fx) 256 (by omega) (cz_blk E fx 256 (by omega) inb_S1536x4096_S256x4096_256_0) inb_S1536x256_S256x256_256_0
  · exact rows_piece _ (czOf E fx) 0 (by omega) (cz_blk E fx 0 (by omega) inb_S1536x4096_S256x4096_0_0) inb_S1536x256_S256x256_0_0

/-- The second codes. -/
theorem arr16_apply (n : Fin 1536) (k : Fin 256) : arr16 E fx (ix2 n k) = chOf E fx n k := by
  refine View.canon_apply_of_pieces (fun y : S1536x256.Idx => chOf E fx (y 0) (y 1)) (list16 E fx) ?_ (ix2 n k) (cover16 E fx _)
  intro p hp
  simp only [list16, List.mem_cons, List.not_mem_nil, or_false] at hp
  rcases hp with rfl | rfl | rfl | rfl | rfl | rfl
  · exact rows_piece _ (chOf E fx) 1280 (by omega) (ch_blk E fx 1280 (by omega) 1280#32 rfl inb_S1536x4096_S256x4096_1280_0) inb_S1536x256_S256x256_1280_0
  · exact rows_piece _ (chOf E fx) 1024 (by omega) (ch_blk E fx 1024 (by omega) 1024#32 rfl inb_S1536x4096_S256x4096_1024_0) inb_S1536x256_S256x256_1024_0
  · exact rows_piece _ (chOf E fx) 768 (by omega) (ch_blk E fx 768 (by omega) 768#32 rfl inb_S1536x4096_S256x4096_768_0) inb_S1536x256_S256x256_768_0
  · exact rows_piece _ (chOf E fx) 512 (by omega) (ch_blk E fx 512 (by omega) 512#32 rfl inb_S1536x4096_S256x4096_512_0) inb_S1536x256_S256x256_512_0
  · exact rows_piece _ (chOf E fx) 256 (by omega) (ch_blk E fx 256 (by omega) 256#32 rfl inb_S1536x4096_S256x4096_256_0) inb_S1536x256_S256x256_256_0
  · exact rows_piece _ (chOf E fx) 0 (by omega) (ch_blk E fx 0 (by omega) 0#32 rfl inb_S1536x4096_S256x4096_0_0) inb_S1536x256_S256x256_0_0

/-- The activations' codes. -/
theorem arr19_apply (n : Fin 1536) (k : Fin 4096) : arr19 fx (ix2 n k) = cxOf fx n k := by
  refine View.canon_apply_of_pieces (fun y : S1536x4096.Idx => cxOf fx (y 0) (y 1)) (list19 fx) ?_ (ix2 n k) (cover19 fx _)
  intro p hp
  simp only [list19, List.mem_cons, List.not_mem_nil, or_false] at hp
  rcases hp with rfl | rfl | rfl | rfl | rfl | rfl
  · exact rows_piece _ (cxOf fx) 1280 (by omega) (cx_blk fx 1280 (by omega) inb_S1536x4096_S256x4096_1280_0) inb_S1536x4096_S256x4096_1280_0
  · exact rows_piece _ (cxOf fx) 1024 (by omega) (cx_blk fx 1024 (by omega) inb_S1536x4096_S256x4096_1024_0) inb_S1536x4096_S256x4096_1024_0
  · exact rows_piece _ (cxOf fx) 768 (by omega) (cx_blk fx 768 (by omega) inb_S1536x4096_S256x4096_768_0) inb_S1536x4096_S256x4096_768_0
  · exact rows_piece _ (cxOf fx) 512 (by omega) (cx_blk fx 512 (by omega) inb_S1536x4096_S256x4096_512_0) inb_S1536x4096_S256x4096_512_0
  · exact rows_piece _ (cxOf fx) 256 (by omega) (cx_blk fx 256 (by omega) inb_S1536x4096_S256x4096_256_0) inb_S1536x4096_S256x4096_256_0
  · exact rows_piece _ (cxOf fx) 0 (by omega) (cx_blk fx 0 (by omega) inb_S1536x4096_S256x4096_0_0) inb_S1536x4096_S256x4096_0_0

/-- The second codes kept for the output. -/
theorem arr20_apply (n : Fin 1536) (k : Fin 256) : arr20 E fx (ix2 n k) = chOf E fx n k := by
  refine View.canon_apply_of_pieces (fun y : S1536x256.Idx => chOf E fx (y 0) (y 1)) (list20 E fx) ?_ (ix2 n k) (cover20 E fx _)
  intro p hp
  simp only [list20, List.mem_cons, List.not_mem_nil, or_false] at hp
  rcases hp with rfl | rfl | rfl | rfl | rfl | rfl
  · exact rows_piece _ (chOf E fx) 1280 (by omega) (ch_blk' E fx 1280 (by omega) 1280#32 rfl inb_S1536x4096_S256x4096_1280_0) inb_S1536x256_S256x256_1280_0
  · exact rows_piece _ (chOf E fx) 1024 (by omega) (ch_blk' E fx 1024 (by omega) 1024#32 rfl inb_S1536x4096_S256x4096_1024_0) inb_S1536x256_S256x256_1024_0
  · exact rows_piece _ (chOf E fx) 768 (by omega) (ch_blk' E fx 768 (by omega) 768#32 rfl inb_S1536x4096_S256x4096_768_0) inb_S1536x256_S256x256_768_0
  · exact rows_piece _ (chOf E fx) 512 (by omega) (ch_blk' E fx 512 (by omega) 512#32 rfl inb_S1536x4096_S256x4096_512_0) inb_S1536x256_S256x256_512_0
  · exact rows_piece _ (chOf E fx) 256 (by omega) (ch_blk' E fx 256 (by omega) 256#32 rfl inb_S1536x4096_S256x4096_256_0) inb_S1536x256_S256x256_256_0
  · exact rows_piece _ (chOf E fx) 0 (by omega) (ch_blk' E fx 0 (by omega) 0#32 rfl inb_S1536x4096_S256x4096_0_0) inb_S1536x256_S256x256_0_0

/-- A block's activation scales, along the lanes. -/
theorem lx_blk (o : ℕ) (ho : o + 256 ≤ 1536) (h) (r : Fin 256) (k : Fin 128) : lanes (xScale (xBlk fx o h)) (ix2 r k) = (fun n (_ : Fin 128) => sxOf fx n) ⟨o + r.val, by omega⟩ k := by
  rw [lanes_apply, sx_blk fx o ho h]

/-- A block's second scales, along the lanes. -/
theorem lh_blk (o : ℕ) (ho : o + 256 ≤ 1536) (b : BitVec 32) (hb : b = BitVec.ofNat 32 o) (h) (r : Fin 256) (k : Fin 128) :
    lanes (hScale E b (xBlk fx o h)) (ix2 r k) = (fun n (_ : Fin 128) => shOf E fx n) ⟨o + r.val, by omega⟩ k := by
  rw [lanes_apply, sh_blk E fx o ho b hb h]

/-- The activations' scales along the lanes. -/
theorem arr21_apply (n : Fin 1536) (k : Fin 128) : arr21 fx (ix2 n k) = sxOf fx n := by
  refine View.canon_apply_of_pieces (fun y : S1536x128.Idx => sxOf fx (y 0)) (list21 fx) ?_ (ix2 n k) (cover21 fx _)
  intro p hp
  simp only [list21, List.mem_cons, List.not_mem_nil, or_false] at hp
  rcases hp with rfl | rfl | rfl | rfl | rfl | rfl
  · exact rows_piece _ (fun n (_ : Fin 128) => sxOf fx n) 1280 (by omega) (lx_blk fx 1280 (by omega) inb_S1536x4096_S256x4096_1280_0) inb_S1536x128_S256x128_1280_0
  · exact rows_piece _ (fun n (_ : Fin 128) => sxOf fx n) 1024 (by omega) (lx_blk fx 1024 (by omega) inb_S1536x4096_S256x4096_1024_0) inb_S1536x128_S256x128_1024_0
  · exact rows_piece _ (fun n (_ : Fin 128) => sxOf fx n) 768 (by omega) (lx_blk fx 768 (by omega) inb_S1536x4096_S256x4096_768_0) inb_S1536x128_S256x128_768_0
  · exact rows_piece _ (fun n (_ : Fin 128) => sxOf fx n) 512 (by omega) (lx_blk fx 512 (by omega) inb_S1536x4096_S256x4096_512_0) inb_S1536x128_S256x128_512_0
  · exact rows_piece _ (fun n (_ : Fin 128) => sxOf fx n) 256 (by omega) (lx_blk fx 256 (by omega) inb_S1536x4096_S256x4096_256_0) inb_S1536x128_S256x128_256_0
  · exact rows_piece _ (fun n (_ : Fin 128) => sxOf fx n) 0 (by omega) (lx_blk fx 0 (by omega) inb_S1536x4096_S256x4096_0_0) inb_S1536x128_S256x128_0_0

/-- The second scales along the lanes. -/
theorem arr22_apply (n : Fin 1536) (k : Fin 128) : arr22 E fx (ix2 n k) = shOf E fx n := by
  refine View.canon_apply_of_pieces (fun y : S1536x128.Idx => shOf E fx (y 0)) (list22 E fx) ?_ (ix2 n k) (cover22 E fx _)
  intro p hp
  simp only [list22, List.mem_cons, List.not_mem_nil, or_false] at hp
  rcases hp with rfl | rfl | rfl | rfl | rfl | rfl
  · exact rows_piece _ (fun n (_ : Fin 128) => shOf E fx n) 1280 (by omega) (lh_blk E fx 1280 (by omega) 1280#32 rfl inb_S1536x4096_S256x4096_1280_0) inb_S1536x128_S256x128_1280_0
  · exact rows_piece _ (fun n (_ : Fin 128) => shOf E fx n) 1024 (by omega) (lh_blk E fx 1024 (by omega) 1024#32 rfl inb_S1536x4096_S256x4096_1024_0) inb_S1536x128_S256x128_1024_0
  · exact rows_piece _ (fun n (_ : Fin 128) => shOf E fx n) 768 (by omega) (lh_blk E fx 768 (by omega) 768#32 rfl inb_S1536x4096_S256x4096_768_0) inb_S1536x128_S256x128_768_0
  · exact rows_piece _ (fun n (_ : Fin 128) => shOf E fx n) 512 (by omega) (lh_blk E fx 512 (by omega) 512#32 rfl inb_S1536x4096_S256x4096_512_0) inb_S1536x128_S256x128_512_0
  · exact rows_piece _ (fun n (_ : Fin 128) => shOf E fx n) 256 (by omega) (lh_blk E fx 256 (by omega) 256#32 rfl inb_S1536x4096_S256x4096_256_0) inb_S1536x128_S256x128_256_0
  · exact rows_piece _ (fun n (_ : Fin 128) => shOf E fx n) 0 (by omega) (lh_blk E fx 0 (by omega) 0#32 rfl inb_S1536x4096_S256x4096_0_0) inb_S1536x128_S256x128_0_0

/-- A tile of an output block. -/
theorem y_piece (x3 : Vec Ideal S4096x1024 .fp8e4m3) (x4 : Vec Ideal S1x1024 .f32) (x9 : Vec Ideal S256x1024 .fp8e4m3) (x10 : Vec Ideal S1x1024 .f32) (a c : ℕ)
    (ha : a + 512 ≤ 1536) (hc : c + 512 ≤ 1024) (h1 h2 h3 h4 h5 h6 h7 h8 h9) (x : S512x512.Idx) :
    yTile (cut (arr19 fx) (Rect.unit (s := S1536x4096) ![a, 0] S512x4096.size h1)) (cut x3 (Rect.unit (s := S4096x1024) ![0, c] S4096x512.size h2))
        (cut (arr20 E fx) (Rect.unit (s := S1536x256) ![a, 0] S512x256.size h3)) (cut x9 (Rect.unit (s := S256x1024) ![0, c] S256x512.size h4))
        (cut (arr21 fx) (Rect.unit (s := S1536x128) ![a, 0] S512x128.size h5)) (cut (arr22 E fx) (Rect.unit (s := S1536x128) ![a, 0] S512x128.size h6))
        (cut x4 (Rect.unit (s := S1x1024) ![0, c] S1x512.size h7)) (cut x10 (Rect.unit (s := S1x1024) ![0, c] S1x512.size h8)) x
      = (fun y : S1536x1024.Idx => yval E.par (BitVec.ofNat 32 (y 0).val) (rowOf fx (y 0)) (fun k => x3 (ix2 k (y 1))) (x4 (ix2 0 (y 1))) (fun k => x9 (ix2 k (y 1))) (x10 (ix2 0 (y 1))))
          ((Rect.unit (s := S1536x1024) ![a, c] S512x512.size h9).emb x) := by
  obtain ⟨r, j, rfl⟩ : ∃ (r j : Fin 512), x = ix2 r j := ⟨x 0, x 1, eq_ix2 x⟩
  have j1 : j.val < 512 := j.isLt
  have r1 : r.val < 512 := r.isLt
  have z : ∀ {n : ℕ} (k : Fin n) (hk : 0 + k.val < n), (⟨0 + k.val, hk⟩ : Fin n) = k := fun k hk => Fin.ext (by show 0 + k.val = k.val; omega)
  rw [yTile_apply _ _ _ _ _ _ _ _ r j (fun r => sxOf fx ⟨a + r.val, by omega⟩) (fun r => shOf E fx ⟨a + r.val, by omega⟩) ?_ ?_, Rows.emb2 h9 r j (by omega) (by omega)]
  · have e1 : ∀ k, cut (arr19 fx) (Rect.unit (s := S1536x4096) ![a, 0] S512x4096.size h1) (ix2 r k) = cxOf fx ⟨a + r.val, by omega⟩ k := by
      intro k; unfold cut; rw [Rows.emb2 h1 r k (by omega) (by omega), z, arr19_apply]
    have e2 : ∀ k, cut x3 (Rect.unit (s := S4096x1024) ![0, c] S4096x512.size h2) (ix2 k j) = x3 (ix2 k ⟨c + j.val, by omega⟩) := by
      intro k; unfold cut; rw [Rows.emb2 h2 k j (by omega) (by omega), z]
    have e3 : ∀ k, cut (arr20 E fx) (Rect.unit (s := S1536x256) ![a, 0] S512x256.size h3) (ix2 r k) = chOf E fx ⟨a + r.val, by omega⟩ k := by
      intro k; unfold cut; rw [Rows.emb2 h3 r k (by omega) (by omega), z, arr20_apply]
    have e4 : ∀ k, cut x9 (Rect.unit (s := S256x1024) ![0, c] S256x512.size h4) (ix2 k j) = x9 (ix2 k ⟨c + j.val, by omega⟩) := by
      intro k; unfold cut; rw [Rows.emb2 h4 k j (by omega) (by omega), z]
    have e5 : cut x4 (Rect.unit (s := S1x1024) ![0, c] S1x512.size h7) (ix2 0 j) = x4 (ix2 0 ⟨c + j.val, by omega⟩) := by
      unfold cut; rw [Rows.emb2 h7 0 j (by decide) (by omega), z]
    have e6 : cut x10 (Rect.unit (s := S1x1024) ![0, c] S1x512.size h8) (ix2 0 j) = x10 (ix2 0 ⟨c + j.val, by omega⟩) := by
      unfold cut; rw [Rows.emb2 h8 0 j (by decide) (by omega), z]
    simp only [e1, e2, e3, e4, e5, e6]
    rfl
  · intro r l; unfold cut; rw [Rows.emb2 h5 r l (by omega) (by omega), z, arr21_apply]
  · intro r l; unfold cut; rw [Rows.emb2 h6 r l (by omega) (by omega), z, arr22_apply]

/-- An output block. -/
theorem arr11_apply (x3 : Vec Ideal S4096x1024 .fp8e4m3) (x4 : Vec Ideal S1x1024 .f32) (x9 : Vec Ideal S256x1024 .fp8e4m3) (x10 : Vec Ideal S1x1024 .f32) (n : Fin 1536) (j : Fin 1024) :
    arr11 x3 x4 x9 x10 (arr19 fx) (arr20 E fx) (arr21 fx) (arr22 E fx) (ix2 n j)
      = yval E.par (BitVec.ofNat 32 n.val) (rowOf fx n) (fun k => x3 (ix2 k j)) (x4 (ix2 0 j)) (fun k => x9 (ix2 k j)) (x10 (ix2 0 j)) := by
  refine View.canon_apply_of_pieces (fun y : S1536x1024.Idx => yval E.par (BitVec.ofNat 32 (y 0).val) (rowOf fx (y 0)) (fun k => x3 (ix2 k (y 1))) (x4 (ix2 0 (y 1))) (fun k => x9 (ix2 k (y 1))) (x10 (ix2 0 (y 1))))
    (list11 x3 x4 x9 x10 (arr19 fx) (arr20 E fx) (arr21 fx) (arr22 E fx)) ?_ (ix2 n j) (cover11 x3 x4 x9 x10 (arr19 fx) (arr20 E fx) (arr21 fx) (arr22 E fx) _)
  intro p hp
  simp only [list11, List.mem_cons, List.not_mem_nil, or_false] at hp
  rcases hp with rfl | rfl | rfl | rfl | rfl | rfl
  · exact y_piece E fx x3 x4 x9 x10 1024 512 (by omega) (by omega) inb_S1536x4096_S512x4096_1024_0 inb_S4096x1024_S4096x512_0_512 inb_S1536x256_S512x256_1024_0 inb_S256x1024_S256x512_0_512 inb_S1536x128_S512x128_1024_0 inb_S1536x128_S512x128_1024_0 inb_S1x1024_S1x512_0_512 inb_S1x1024_S1x512_0_512 inb_S1536x1024_S512x512_1024_512
  · exact y_piece E fx x3 x4 x9 x10 512 512 (by omega) (by omega) inb_S1536x4096_S512x4096_512_0 inb_S4096x1024_S4096x512_0_512 inb_S1536x256_S512x256_512_0 inb_S256x1024_S256x512_0_512 inb_S1536x128_S512x128_512_0 inb_S1536x128_S512x128_512_0 inb_S1x1024_S1x512_0_512 inb_S1x1024_S1x512_0_512 inb_S1536x1024_S512x512_512_512
  · exact y_piece E fx x3 x4 x9 x10 0 512 (by omega) (by omega) inb_S1536x4096_S512x4096_0_0 inb_S4096x1024_S4096x512_0_512 inb_S1536x256_S512x256_0_0 inb_S256x1024_S256x512_0_512 inb_S1536x128_S512x128_0_0 inb_S1536x128_S512x128_0_0 inb_S1x1024_S1x512_0_512 inb_S1x1024_S1x512_0_512 inb_S1536x1024_S512x512_0_512
  · exact y_piece E fx x3 x4 x9 x10 1024 0 (by omega) (by omega) inb_S1536x4096_S512x4096_1024_0 inb_S4096x1024_S4096x512_0_0 inb_S1536x256_S512x256_1024_0 inb_S256x1024_S256x512_0_0 inb_S1536x128_S512x128_1024_0 inb_S1536x128_S512x128_1024_0 inb_S1x1024_S1x512_0_0 inb_S1x1024_S1x512_0_0 inb_S1536x1024_S512x512_1024_0
  · exact y_piece E fx x3 x4 x9 x10 512 0 (by omega) (by omega) inb_S1536x4096_S512x4096_512_0 inb_S4096x1024_S4096x512_0_0 inb_S1536x256_S512x256_512_0 inb_S256x1024_S256x512_0_0 inb_S1536x128_S512x128_512_0 inb_S1536x128_S512x128_512_0 inb_S1x1024_S1x512_0_0 inb_S1x1024_S1x512_0_0 inb_S1536x1024_S512x512_512_0
  · exact y_piece E fx x3 x4 x9 x10 0 0 (by omega) (by omega) inb_S1536x4096_S512x4096_0_0 inb_S4096x1024_S4096x512_0_0 inb_S1536x256_S512x256_0_0 inb_S256x1024_S256x512_0_0 inb_S1536x128_S512x128_0_0 inb_S1536x128_S512x128_0_0 inb_S1x1024_S1x512_0_0 inb_S1x1024_S1x512_0_0 inb_S1536x1024_S512x512_0_0

end Cert.KernelIdeal.Hand

end
-- ==== Proof.KernelFinal.lean ====
/- The kernel's run over the extended reals: its seven results as functions of the arrays. -/
module

public import proofs.«01_k».proof.Proof.Arrays
public import proofs.«01_k».proof.Proof.Run

@[expose] public section

set_option maxRecDepth 16384

noncomputable section

namespace Cert.KernelIdeal.Hand

open Cert.KernelIdeal Cert.KernelIdeal.Gen
open Cert.Rows (Par K amax scl fscale fcode zval iscale iquo icode isIn hterm hacc hsel hval yval parOf rowOf row3 yRes xcRes xsRes zcRes zsRes hcRes hsRes)
open Idealize.ShloMosaic Idealize.ShloMosaic.TcCoe Idealize.SL.Sem

/-- A load through a whole buffer, at an index. -/
theorem readAt_box {F : FTy → Type} [FloatOps F] {sp : Space} {s : Shape} {e : EltTy} (M : Memref sig .tc sp s e) (h : M.IsWhole) (x : Vec F s e) (r : Rect s) (y : r.shape.Idx) (i : s.Idx)
    (hi : r.emb y = i) : View.readAt (Elt F) M.view r.toLoadRect (h.unread x) y = x i := by
  subst hi
  exact congrFun (h.read_unread x) (r.emb y)

section Reads

variable (c : Dev nD) (arg1 : Memref sig .tc .smem S7 .i32) (harg1 : arg1.IsWhole) (arg5 : Memref sig .tc .vmem S256x4096 .fp8e4m3) (harg5 : arg5.IsWhole) (arg6 : Memref sig .tc .vmem S1x256 .f32) (harg6 : arg6.IsWhole)
  (arg7 : Memref sig .tc .vmem S7x256x256 .i8) (harg7 : arg7.IsWhole) (arg8 : Memref sig .tc .vmem S7x256 .f32) (harg8 : arg8.IsWhole)
  (x1 : Vec Ideal S7 .i32) (x5 : Vec Ideal S256x4096 .fp8e4m3) (x6 : Vec Ideal S1x256 .f32) (x7 : Vec Ideal S7x256x256 .i8) (x8 : Vec Ideal S7x256 .f32)

/-- The converted cores, read back a box at a time, are the cores. -/
theorem core_box (r : Rect S7x256x256) (y : r.shape.Idx) (n : Fin 7) (k j : Fin 256) (hi : r.emb y = ix3 n k j) :
    (Memref.whole cc0_scratch5).view.readCov (prologueRun.sl.H23_1 (F := Ideal) c arg7 harg7 x7) r.toLoadRect y = FloatOps.sitofp (F := Ideal) .bf16 (x7 (ix3 n k j)) := by
  have h : prologueRun.sl.H23_1 (F := Ideal) c arg7 harg7 x7 = [⟨Rect.unit (s := S7x256x256) ![0, 0, 0] S7x256x256.size inb_S7x256x256_S7x256x256_0_0_0,
      k0_pay2 (View.readAt (Elt Ideal) arg7.view (Rect.unit (s := S7x256x256) ![0, 0, 0] S7x256x256.size inb_S7x256x256_S7x256x256_0_0_0).toLoadRect (harg7.unread x7))⟩] := rfl
  have hz : (![0, 0, 0] : Fin 3 → ℕ) = fun _ => 0 := by funext a; fin_cases a <;> rfl
  rw [h, View.readCov_eq_canon_ld _ _ _ (fun y => ⟨_, List.mem_singleton_self _, View.mem_set_unit_zero hz inb_S7x256x256_S7x256x256_0_0_0 y⟩)]
  refine (congrFun (View.canon_unit_zero hz inb_S7x256x256_S7x256x256_0_0_0 _) (r.emb y)).trans ?_
  rw [hi]
  generalize hd : View.readAt (Elt Ideal) arg7.view (Rect.unit (s := S7x256x256) ![0, 0, 0] S7x256x256.size inb_S7x256x256_S7x256x256_0_0_0).toLoadRect (harg7.unread x7) = d
  have e : k0_pay2 (F := Ideal) d (ix3 n k j) = FloatOps.sitofp (F := Ideal) .bf16 (d (ix3 n k j)) := by
    pointwise [k0_pay2]
    try rfl
  rw [e, ← hd]
  refine congrArg (fun z : BitVec 8 => FloatOps.sitofp (F := Ideal) .bf16 z) (readAt_box arg7 harg7 x7 _ _ _ ?_)
  funext i
  match i with
  | ⟨0, _⟩ => exact Fin.ext (by show 0 + 1 * n.val = n.val; omega)
  | ⟨1, _⟩ => exact Fin.ext (by show 0 + 1 * k.val = k.val; omega)
  | ⟨2, _⟩ => exact Fin.ext (by show 0 + 1 * j.val = j.val; omega)

/-- Core 0 as read back. -/
theorem core0 (k j : Fin 256) : prologueRun.sl.v280 (F := Ideal) c arg7 harg7 x7 (ix3 0 k j) = FloatOps.sitofp (F := Ideal) .bf16 (x7 (ix3 0 k j)) := by
  have h : prologueRun.sl.v280 (F := Ideal) c arg7 harg7 x7 = (Memref.whole cc0_scratch5).view.readCov (prologueRun.sl.H23_1 (F := Ideal) c arg7 harg7 x7)
      (Rect.unit (s := S7x256x256) ![0, 0, 0] S1x256x256.size inb_S7x256x256_S1x256x256_0_0_0).toLoadRect := by sl_kernel_rfl
  rw [h]
  exact core_box c arg7 harg7 x7 _ _ 0 k j (Rows.emb3_row _ k j (by decide))

/-- Core 1 as read back. -/
theorem core1 (k j : Fin 256) : prologueRun.sl.v298 (F := Ideal) c arg7 harg7 x7 (ix3 0 k j) = FloatOps.sitofp (F := Ideal) .bf16 (x7 (ix3 1 k j)) := by
  have h : prologueRun.sl.v298 (F := Ideal) c arg7 harg7 x7 = (Memref.whole cc0_scratch5).view.readCov (prologueRun.sl.H23_1 (F := Ideal) c arg7 harg7 x7)
      (Rect.unit (s := S7x256x256) ![1, 0, 0] S1x256x256.size inb_S7x256x256_S1x256x256_1_0_0).toLoadRect := by sl_kernel_rfl
  rw [h]
  exact core_box c arg7 harg7 x7 _ _ 1 k j (Rows.emb3_row _ k j (by decide))

/-- Core 2 as read back. -/
theorem core2 (k j : Fin 256) : prologueRun.sl.v316 (F := Ideal) c arg7 harg7 x7 (ix3 0 k j) = FloatOps.sitofp (F := Ideal) .bf16 (x7 (ix3 2 k j)) := by
  have h : prologueRun.sl.v316 (F := Ideal) c arg7 harg7 x7 = (Memref.whole cc0_scratch5).view.readCov (prologueRun.sl.H23_1 (F := Ideal) c arg7 harg7 x7)
      (Rect.unit (s := S7x256x256) ![2, 0, 0] S1x256x256.size inb_S7x256x256_S1x256x256_2_0_0).toLoadRect := by sl_kernel_rfl
  rw [h]
  exact core_box c arg7 harg7 x7 _ _ 2 k j (Rows.emb3_row _ k j (by decide))

/-- Core 3 as read back. -/
theorem core3 (k j : Fin 256) : prologueRun.sl.v334 (F := Ideal) c arg7 harg7 x7 (ix3 0 k j) = FloatOps.sitofp (F := Ideal) .bf16 (x7 (ix3 3 k j)) := by
  have h : prologueRun.sl.v334 (F := Ideal) c arg7 harg7 x7 = (Memref.whole cc0_scratch5).view.readCov (prologueRun.sl.H23_1 (F := Ideal) c arg7 harg7 x7)
      (Rect.unit (s := S7x256x256) ![3, 0, 0] S1x256x256.size inb_S7x256x256_S1x256x256_3_0_0).toLoadRect := by sl_kernel_rfl
  rw [h]
  exact core_box c arg7 harg7 x7 _ _ 3 k j (Rows.emb3_row _ k j (by decide))

/-- Core 4 as read back. -/
theorem core4 (k j : Fin 256) : prologueRun.sl.v352 (F := Ideal) c arg7 harg7 x7 (ix3 0 k j) = FloatOps.sitofp (F := Ideal) .bf16 (x7 (ix3 4 k j)) := by
  have h : prologueRun.sl.v352 (F := Ideal) c arg7 harg7 x7 = (Memref.whole cc0_scratch5).view.readCov (prologueRun.sl.H23_1 (F := Ideal) c arg7 harg7 x7)
      (Rect.unit (s := S7x256x256) ![4, 0, 0] S1x256x256.size inb_S7x256x256_S1x256x256_4_0_0).toLoadRect := by sl_kernel_rfl
  rw [h]
  exact core_box c arg7 harg7 x7 _ _ 4 k j (Rows.emb3_row _ k j (by decide))

/-- Core 5 as read back. -/
theorem core5 (k j : Fin 256) : prologueRun.sl.v370 (F := Ideal) c arg7 harg7 x7 (ix3 0 k j) = FloatOps.sitofp (F := Ideal) .bf16 (x7 (ix3 5 k j)) := by
  have h : prologueRun.sl.v370 (F := Ideal) c arg7 harg7 x7 = (Memref.whole cc0_scratch5).view.readCov (prologueRun.sl.H23_1 (F := Ideal) c arg7 harg7 x7)
      (Rect.unit (s := S7x256x256) ![5, 0, 0] S1x256x256.size inb_S7x256x256_S1x256x256_5_0_0).toLoadRect := by sl_kernel_rfl
  rw [h]
  exact core_box c arg7 harg7 x7 _ _ 5 k j (Rows.emb3_row _ k j (by decide))

/-- Core 6 as read back. -/
theorem core6 (k j : Fin 256) : prologueRun.sl.v388 (F := Ideal) c arg7 harg7 x7 (ix3 0 k j) = FloatOps.sitofp (F := Ideal) .bf16 (x7 (ix3 6 k j)) := by
  have h : prologueRun.sl.v388 (F := Ideal) c arg7 harg7 x7 = (Memref.whole cc0_scratch5).view.readCov (prologueRun.sl.H23_1 (F := Ideal) c arg7 harg7 x7)
      (Rect.unit (s := S7x256x256) ![6, 0, 0] S1x256x256.size inb_S7x256x256_S1x256x256_6_0_0).toLoadRect := by sl_kernel_rfl
  rw [h]
  exact core_box c arg7 harg7 x7 _ _ 6 k j (Rows.emb3_row _ k j (by decide))

/-- Core 0 of an environment's parameters. -/
theorem par_sg0 (E : Env Ideal) (k j : Fin 256) : E.par.sg 0 k j = E.c0 (ix3 0 k j) := rfl

/-- Core 1 of an environment's parameters. -/
theorem par_sg1 (E : Env Ideal) (k j : Fin 256) : E.par.sg 1 k j = E.c1 (ix3 0 k j) := rfl

/-- Core 2 of an environment's parameters. -/
theorem par_sg2 (E : Env Ideal) (k j : Fin 256) : E.par.sg 2 k j = E.c2 (ix3 0 k j) := rfl

/-- Core 3 of an environment's parameters. -/
theorem par_sg3 (E : Env Ideal) (k j : Fin 256) : E.par.sg 3 k j = E.c3 (ix3 0 k j) := rfl

/-- Core 4 of an environment's parameters. -/
theorem par_sg4 (E : Env Ideal) (k j : Fin 256) : E.par.sg 4 k j = E.c4 (ix3 0 k j) := rfl

/-- Core 5 of an environment's parameters. -/
theorem par_sg5 (E : Env Ideal) (k j : Fin 256) : E.par.sg 5 k j = E.c5 (ix3 0 k j) := rfl

/-- Core 6 of an environment's parameters. -/
theorem par_sg6 (E : Env Ideal) (k j : Fin 256) : E.par.sg 6 k j = E.c6 (ix3 0 k j) := rfl

/-- Core 0 of the run's parameters. -/
theorem run_sg0 (k j : Fin 256) : (runEnv (F := Ideal) c arg1 harg1 arg5 harg5 arg6 harg6 arg7 harg7 arg8 harg8 x1 x5 x6 x7 x8).par.sg 0 k j = (parOf x5 x6 x1 x7 x8).sg 0 k j := by
  refine (par_sg0 _ k j).trans ?_
  dsimp only [runEnv]
  exact core0 c arg7 harg7 x7 k j

/-- Core 1 of the run's parameters. -/
theorem run_sg1 (k j : Fin 256) : (runEnv (F := Ideal) c arg1 harg1 arg5 harg5 arg6 harg6 arg7 harg7 arg8 harg8 x1 x5 x6 x7 x8).par.sg 1 k j = (parOf x5 x6 x1 x7 x8).sg 1 k j := by
  refine (par_sg1 _ k j).trans ?_
  dsimp only [runEnv]
  exact core1 c arg7 harg7 x7 k j

/-- Core 2 of the run's parameters. -/
theorem run_sg2 (k j : Fin 256) : (runEnv (F := Ideal) c arg1 harg1 arg5 harg5 arg6 harg6 arg7 harg7 arg8 harg8 x1 x5 x6 x7 x8).par.sg 2 k j = (parOf x5 x6 x1 x7 x8).sg 2 k j := by
  refine (par_sg2 _ k j).trans ?_
  dsimp only [runEnv]
  exact core2 c arg7 harg7 x7 k j

/-- Core 3 of the run's parameters. -/
theorem run_sg3 (k j : Fin 256) : (runEnv (F := Ideal) c arg1 harg1 arg5 harg5 arg6 harg6 arg7 harg7 arg8 harg8 x1 x5 x6 x7 x8).par.sg 3 k j = (parOf x5 x6 x1 x7 x8).sg 3 k j := by
  refine (par_sg3 _ k j).trans ?_
  dsimp only [runEnv]
  exact core3 c arg7 harg7 x7 k j

/-- Core 4 of the run's parameters. -/
theorem run_sg4 (k j : Fin 256) : (runEnv (F := Ideal) c arg1 harg1 arg5 harg5 arg6 harg6 arg7 harg7 arg8 harg8 x1 x5 x6 x7 x8).par.sg 4 k j = (parOf x5 x6 x1 x7 x8).sg 4 k j := by
  refine (par_sg4 _ k j).trans ?_
  dsimp only [runEnv]
  exact core4 c arg7 harg7 x7 k j

/-- Core 5 of the run's parameters. -/
theorem run_sg5 (k j : Fin 256) : (runEnv (F := Ideal) c arg1 harg1 arg5 harg5 arg6 harg6 arg7 harg7 arg8 harg8 x1 x5 x6 x7 x8).par.sg 5 k j = (parOf x5 x6 x1 x7 x8).sg 5 k j := by
  refine (par_sg5 _ k j).trans ?_
  dsimp only [runEnv]
  exact core5 c arg7 harg7 x7 k j

/-- Core 6 of the run's parameters. -/
theorem run_sg6 (k j : Fin 256) : (runEnv (F := Ideal) c arg1 harg1 arg5 harg5 arg6 harg6 arg7 harg7 arg8 harg8 x1 x5 x6 x7 x8).par.sg 6 k j = (parOf x5 x6 x1 x7 x8).sg 6 k j := by
  refine (par_sg6 _ k j).trans ?_
  dsimp only [runEnv]
  exact core6 c arg7 harg7 x7 k j

set_option maxHeartbeats 1000000 in
/-- The rows' parameters the run reads are those the operands hold. -/
theorem runEnv_par : (runEnv (F := Ideal) c arg1 harg1 arg5 harg5 arg6 harg6 arg7 harg7 arg8 harg8 x1 x5 x6 x7 x8).par = parOf x5 x6 x1 x7 x8 := by
  refine Rows.par_ext ?_ ?_ ?_ ?_ ?_
  · intro j k; exact readAt_box _ _ _ _ _ _ (Rows.emb2_whole _ j k)
  · intro j; exact readAt_box _ _ _ _ _ _ (Rows.emb2_whole _ 0 j)
  · intro n
    fin_cases n
    · exact readAt_box arg1 harg1 x1 (Rect.unit (s := S7) ![0] S1.size inb_S7_S1_0) _ _ (Rows.emb1 _ _ (by decide))
    · exact readAt_box arg1 harg1 x1 (Rect.unit (s := S7) ![1] S1.size inb_S7_S1_1) _ _ (Rows.emb1 _ _ (by decide))
    · exact readAt_box arg1 harg1 x1 (Rect.unit (s := S7) ![2] S1.size inb_S7_S1_2) _ _ (Rows.emb1 _ _ (by decide))
    · exact readAt_box arg1 harg1 x1 (Rect.unit (s := S7) ![3] S1.size inb_S7_S1_3) _ _ (Rows.emb1 _ _ (by decide))
    · exact readAt_box arg1 harg1 x1 (Rect.unit (s := S7) ![4] S1.size inb_S7_S1_4) _ _ (Rows.emb1 _ _ (by decide))
    · exact readAt_box arg1 harg1 x1 (Rect.unit (s := S7) ![5] S1.size inb_S7_S1_5) _ _ (Rows.emb1 _ _ (by decide))
    · exact readAt_box arg1 harg1 x1 (Rect.unit (s := S7) ![6] S1.size inb_S7_S1_6) _ _ (Rows.emb1 _ _ (by decide))
  · intro n k j
    fin_cases n
    · exact run_sg0 c arg1 harg1 arg5 harg5 arg6 harg6 arg7 harg7 arg8 harg8 x1 x5 x6 x7 x8 k j
    · exact run_sg1 c arg1 harg1 arg5 harg5 arg6 harg6 arg7 harg7 arg8 harg8 x1 x5 x6 x7 x8 k j
    · exact run_sg2 c arg1 harg1 arg5 harg5 arg6 harg6 arg7 harg7 arg8 harg8 x1 x5 x6 x7 x8 k j
    · exact run_sg3 c arg1 harg1 arg5 harg5 arg6 harg6 arg7 harg7 arg8 harg8 x1 x5 x6 x7 x8 k j
    · exact run_sg4 c arg1 harg1 arg5 harg5 arg6 harg6 arg7 harg7 arg8 harg8 x1 x5 x6 x7 x8 k j
    · exact run_sg5 c arg1 harg1 arg5 harg5 arg6 harg6 arg7 harg7 arg8 harg8 x1 x5 x6 x7 x8 k j
    · exact run_sg6 c arg1 harg1 arg5 harg5 arg6 harg6 arg7 harg7 arg8 harg8 x1 x5 x6 x7 x8 k j
  · intro n j
    fin_cases n
    · exact readAt_box arg8 harg8 x8 (Rect.unit (s := S7x256) ![0, 0] S1x256.size inb_S7x256_S1x256_0_0) _ _ (Rows.emb2_row _ j (by decide))
    · exact readAt_box arg8 harg8 x8 (Rect.unit (s := S7x256) ![1, 0] S1x256.size inb_S7x256_S1x256_1_0) _ _ (Rows.emb2_row _ j (by decide))
    · exact readAt_box arg8 harg8 x8 (Rect.unit (s := S7x256) ![2, 0] S1x256.size inb_S7x256_S1x256_2_0) _ _ (Rows.emb2_row _ j (by decide))
    · exact readAt_box arg8 harg8 x8 (Rect.unit (s := S7x256) ![3, 0] S1x256.size inb_S7x256_S1x256_3_0) _ _ (Rows.emb2_row _ j (by decide))
    · exact readAt_box arg8 harg8 x8 (Rect.unit (s := S7x256) ![4, 0] S1x256.size inb_S7x256_S1x256_4_0) _ _ (Rows.emb2_row _ j (by decide))
    · exact readAt_box arg8 harg8 x8 (Rect.unit (s := S7x256) ![5, 0] S1x256.size inb_S7x256_S1x256_5_0) _ _ (Rows.emb2_row _ j (by decide))
    · exact readAt_box arg8 harg8 x8 (Rect.unit (s := S7x256) ![6, 0] S1x256.size inb_S7x256_S1x256_6_0) _ _ (Rows.emb2_row _ j (by decide))

end Reads

variable (m : (ℓ : Loc nD τ sig) → Buf (Elt Ideal) ℓ) (ρ : Dev nD → PrngReg)

/-- The rows' parameters the arrays hold at the region's start. -/
abbrev pK (c : Dev nD) : Par := parOf (V m c main_arg3) (V m c main_v2) (V m c main_arg9) (V m c main_arg5) (V m c main_arg6)

/-- Window 0's block is its array. -/
theorem emb_blk0 (t : Fin cfg0.N) (y : S7.Idx) : ((cfg0.win 0).blk t).view.emb y = y := by
  funext a
  match a with
  | ⟨0, _⟩ => exact Fin.ext (by show 0 * _ + 1 * (y 0).val = (y 0).val; omega)

/-- What window 0 stages is its array. -/
theorem iblk0 (c : Dev nD) (t : Fin cfg0.N) : iblk m c 0 t = V m c main_arg9 := funext fun y => congrArg (V m c main_arg9) (emb_blk0 t y)

/-- Window 3's block is its array. -/
theorem emb_blk3 (t : Fin cfg0.N) (y : S256x4096.Idx) : ((cfg0.win 3).blk t).view.emb y = y := by
  funext a
  match a with
  | ⟨0, _⟩ => exact Fin.ext (by show 0 * _ + 1 * (y 0).val = (y 0).val; omega)
  | ⟨1, _⟩ => exact Fin.ext (by show 0 * _ + 1 * (y 1).val = (y 1).val; omega)

/-- What window 3 stages is its array. -/
theorem iblk3 (c : Dev nD) (t : Fin cfg0.N) : iblk m c 3 t = V m c main_arg3 := funext fun y => congrArg (V m c main_arg3) (emb_blk3 t y)

/-- Window 4's block is its array. -/
theorem emb_blk4 (t : Fin cfg0.N) (y : S1x256.Idx) : ((cfg0.win 4).blk t).view.emb y = y := by
  funext a
  match a with
  | ⟨0, _⟩ => exact Fin.ext (by show 0 * _ + 1 * (y 0).val = (y 0).val; omega)
  | ⟨1, _⟩ => exact Fin.ext (by show 0 * _ + 1 * (y 1).val = (y 1).val; omega)

/-- What window 4 stages is its array. -/
theorem iblk4 (c : Dev nD) (t : Fin cfg0.N) : iblk m c 4 t = V m c main_v2 := funext fun y => congrArg (V m c main_v2) (emb_blk4 t y)

/-- Window 5's block is its array. -/
theorem emb_blk5 (t : Fin cfg0.N) (y : S7x256x256.Idx) : ((cfg0.win 5).blk t).view.emb y = y := by
  funext a
  match a with
  | ⟨0, _⟩ => exact Fin.ext (by show 0 * _ + 1 * (y 0).val = (y 0).val; omega)
  | ⟨1, _⟩ => exact Fin.ext (by show 0 * _ + 1 * (y 1).val = (y 1).val; omega)
  | ⟨2, _⟩ => exact Fin.ext (by show 0 * _ + 1 * (y 2).val = (y 2).val; omega)

/-- What window 5 stages is its array. -/
theorem iblk5 (c : Dev nD) (t : Fin cfg0.N) : iblk m c 5 t = V m c main_arg5 := funext fun y => congrArg (V m c main_arg5) (emb_blk5 t y)

/-- Window 6's block is its array. -/
theorem emb_blk6 (t : Fin cfg0.N) (y : S7x256.Idx) : ((cfg0.win 6).blk t).view.emb y = y := by
  funext a
  match a with
  | ⟨0, _⟩ => exact Fin.ext (by show 0 * _ + 1 * (y 0).val = (y 0).val; omega)
  | ⟨1, _⟩ => exact Fin.ext (by show 0 * _ + 1 * (y 1).val = (y 1).val; omega)

/-- What window 6 stages is its array. -/
theorem iblk6 (c : Dev nD) (t : Fin cfg0.N) : iblk m c 6 t = V m c main_arg6 := funext fun y => congrArg (V m c main_arg6) (emb_blk6 t y)

/-- Window 10's block is its array. -/
theorem emb_blk10 (t : Fin cfg0.N) (y : S3x512.Idx) : ((cfg0.win 10).blk t).view.emb y = y := by
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 11's block is its array. -/
theorem emb_blk11 (t : Fin cfg0.N) (y : S1536x256.Idx) : ((cfg0.win 11).blk t).view.emb y = y := by
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 12's block is its array. -/
theorem emb_blk12 (t : Fin cfg0.N) (y : S3x512.Idx) : ((cfg0.win 12).blk t).view.emb y = y := by
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 13's block is its array. -/
theorem emb_blk13 (t : Fin cfg0.N) (y : S1536x256.Idx) : ((cfg0.win 13).blk t).view.emb y = y := by
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 14's block is its array. -/
theorem emb_blk14 (t : Fin cfg0.N) (y : S3x512.Idx) : ((cfg0.win 14).blk t).view.emb y = y := by
  funext a
  match a with
  | ⟨0, _⟩ => exact Fin.ext (by show 0 * _ + 1 * (y 0).val = (y 0).val; omega)
  | ⟨1, _⟩ => exact Fin.ext (by show 0 * _ + 1 * (y 1).val = (y 1).val; omega)

/-- The first point's parameters are the arrays'. -/
theorem E_par (c : Dev nD) : (E m c).par = pK m c := by
  rw [E, runEnv_par, iblk0, iblk3, iblk4, iblk5, iblk6]

/-- The column of an array a column of block `t` is. -/
def colOf (t : Fin cfg0.N) (j : Fin 1024) : Fin 14336 := ⟨1024 * t.val + j.val, by have h : t.val < 14 := t.isLt; omega⟩

/-- Window 1's block is 1024 columns of its array. -/
theorem emb_blk1 (t : Fin cfg0.N) (k : Fin 4096) (j : Fin 1024) : ((cfg0.win 1).blk t).view.emb (ix2 k j : S4096x1024.Idx) = (ix2 k (colOf t j) : S4096x14336.Idx) := by
  have h : ∀ t : Fin cfg0.N, cc0_transform_2 (grid0.coords t) 1 = t.val := by decide
  funext i
  match i with
  | ⟨0, _⟩ => exact Fin.ext (by show 0 * _ + 1 * k.val = k.val; omega)
  | ⟨1, _⟩ => exact Fin.ext (by show cc0_transform_2 (grid0.coords t) 1 * 1024 + 1 * j.val = 1024 * t.val + j.val; rw [h]; omega)

/-- What window 1 stages, at an index. -/
theorem iblk1 (c : Dev nD) (t : Fin cfg0.N) (k : Fin 4096) (j : Fin 1024) : iblk m c 1 t (ix2 k j : S4096x1024.Idx) = V m c main_arg1 (ix2 k (colOf t j) : S4096x14336.Idx) :=
  congrArg (V m c main_arg1) (emb_blk1 t k j)

/-- Window 2's block is 1024 columns of its array. -/
theorem emb_blk2 (t : Fin cfg0.N) (k : Fin 1) (j : Fin 1024) : ((cfg0.win 2).blk t).view.emb (ix2 k j : S1x1024.Idx) = (ix2 k (colOf t j) : S1x14336.Idx) := by
  have h : ∀ t : Fin cfg0.N, cc0_transform_3 (grid0.coords t) 1 = t.val := by decide
  funext i
  match i with
  | ⟨0, _⟩ => exact Fin.ext (by show 0 * _ + 1 * k.val = k.val; omega)
  | ⟨1, _⟩ => exact Fin.ext (by show cc0_transform_3 (grid0.coords t) 1 * 1024 + 1 * j.val = 1024 * t.val + j.val; rw [h]; omega)

/-- What window 2 stages, at an index. -/
theorem iblk2 (c : Dev nD) (t : Fin cfg0.N) (k : Fin 1) (j : Fin 1024) : iblk m c 2 t (ix2 k j : S1x1024.Idx) = V m c main_v1 (ix2 k (colOf t j) : S1x14336.Idx) :=
  congrArg (V m c main_v1) (emb_blk2 t k j)

/-- Window 7's block is 1024 columns of its array. -/
theorem emb_blk7 (t : Fin cfg0.N) (k : Fin 256) (j : Fin 1024) : ((cfg0.win 7).blk t).view.emb (ix2 k j : S256x1024.Idx) = (ix2 k (colOf t j) : S256x14336.Idx) := by
  have h : ∀ t : Fin cfg0.N, cc0_transform_8 (grid0.coords t) 1 = t.val := by decide
  funext i
  match i with
  | ⟨0, _⟩ => exact Fin.ext (by show 0 * _ + 1 * k.val = k.val; omega)
  | ⟨1, _⟩ => exact Fin.ext (by show cc0_transform_8 (grid0.coords t) 1 * 1024 + 1 * j.val = 1024 * t.val + j.val; rw [h]; omega)

/-- What window 7 stages, at an index. -/
theorem iblk7 (c : Dev nD) (t : Fin cfg0.N) (k : Fin 256) (j : Fin 1024) : iblk m c 7 t (ix2 k j : S256x1024.Idx) = V m c main_arg7 (ix2 k (colOf t j) : S256x14336.Idx) :=
  congrArg (V m c main_arg7) (emb_blk7 t k j)

/-- Window 8's block is 1024 columns of its array. -/
theorem emb_blk8 (t : Fin cfg0.N) (k : Fin 1) (j : Fin 1024) : ((cfg0.win 8).blk t).view.emb (ix2 k j : S1x1024.Idx) = (ix2 k (colOf t j) : S1x14336.Idx) := by
  have h : ∀ t : Fin cfg0.N, cc0_transform_9 (grid0.coords t) 1 = t.val := by decide
  funext i
  match i with
  | ⟨0, _⟩ => exact Fin.ext (by show 0 * _ + 1 * k.val = k.val; omega)
  | ⟨1, _⟩ => exact Fin.ext (by show cc0_transform_9 (grid0.coords t) 1 * 1024 + 1 * j.val = 1024 * t.val + j.val; rw [h]; omega)

/-- What window 8 stages, at an index. -/
theorem iblk8 (c : Dev nD) (t : Fin cfg0.N) (k : Fin 1) (j : Fin 1024) : iblk m c 8 t (ix2 k j : S1x1024.Idx) = V m c main_v3 (ix2 k (colOf t j) : S1x14336.Idx) :=
  congrArg (V m c main_v3) (emb_blk8 t k j)

/-- Window 9's block is 1024 columns of its array. -/
theorem emb_blk9 (t : Fin cfg0.N) (k : Fin 1536) (j : Fin 1024) : ((cfg0.win 9).blk t).view.emb (ix2 k j : S1536x1024.Idx) = (ix2 k (colOf t j) : S1536x14336.Idx) := by
  have h : ∀ t : Fin cfg0.N, cc0_transform_10 (grid0.coords t) 1 = t.val := by decide
  funext i
  match i with
  | ⟨0, _⟩ => exact Fin.ext (by show 0 * _ + 1 * k.val = k.val; omega)
  | ⟨1, _⟩ => exact Fin.ext (by show cc0_transform_10 (grid0.coords t) 1 * 1024 + 1 * j.val = 1024 * t.val + j.val; rw [h]; omega)

/-- The output, as a function of the arrays. -/
def yK (c : Dev nD) : S1536x14336.Idx → EReal := yRes (pK m c) (X m c) (V m c main_arg1) (V m c main_v1) (V m c main_arg7) (V m c main_v3)

/-- The output's blocks are not clipped. -/
theorem cut9 (t : Fin cfg0.N) (Z : S1536x1024.Idx → EReal) : (cfg0.win 9).cut (α := EReal) (grid0.coords t) Z = Z := rfl

/-- The output block of a point is that block of the output. -/
theorem flushed9 (c : Dev nD) (t : Fin cfg0.N) : (dats m 0 c).flushed 9 t = ((cfg0.win 9).blk t).view.read (Elt Ideal) (yK m c) := by
  have a : (dats m 0 c).after 9 t = yAt m c t := by dsimp only [dats]
  have e : (dats m 0 c).flushed 9 t = yAt m c t := (congrArg ((cfg0.win 9).cut (grid0.coords t)) a).trans (cut9 t _)
  rw [e]
  funext y
  obtain ⟨n, j, rfl⟩ : ∃ (n : Fin 1536) (j : Fin 1024), y = (ix2 n j : S1536x1024.Idx) := ⟨y 0, y 1, eq_ix2 y⟩
  refine Eq.trans ?_ (congrArg (yK m c) (emb_blk9 t n j)).symm
  refine (arr11_apply (E m c) (X m c) _ _ _ _ n j).trans ?_
  rw [E_par, iblk2, iblk8, show (fun k => iblk m c 1 t (ix2 k j)) = (fun k => V m c main_arg1 (ix2 k (colOf t j) : S4096x14336.Idx)) from funext fun k => iblk1 m c t k j,
    show (fun k => iblk m c 7 t (ix2 k j)) = (fun k => V m c main_arg7 (ix2 k (colOf t j) : S256x14336.Idx)) from funext fun k => iblk7 m c t k j]
  rfl

/-- The point whose block holds a column. -/
def pointOf (j : Fin 14336) : Fin cfg0.N := ⟨j.val / 1024, by have h := j.isLt; show j.val / 1024 < 14; omega⟩

/-- The column within that block. -/
def laneOf (j : Fin 14336) : Fin 1024 := ⟨j.val % 1024, by omega⟩

/-- That column of that block is the column. -/
theorem colOf_pointOf (j : Fin 14336) : colOf (pointOf j) (laneOf j) = j :=
  Fin.ext (by show 1024 * (j.val / 1024) + j.val % 1024 = j.val; omega)

/-- Every index of the output is in a block. -/
theorem cover9 (i : S1536x14336.Idx) : i ∈ ((cfg0.win 9).blk (pointOf (i 1))).view.set := by
  refine Finset.mem_map.mpr ⟨(ix2 (i 0) (laneOf (i 1)) : S1536x1024.Idx), Finset.mem_univ _, (emb_blk9 (pointOf (i 1)) (i 0) (laneOf (i 1))).trans ?_⟩
  exact (congrArg (fun j : Fin 14336 => (ix2 (i 0) j : S1536x14336.Idx)) (colOf_pointOf (i 1))).trans (eq_ix2 i).symm

/-- The output array ends holding it. -/
theorem final9 (c : Dev nD) : (dats m 0 c).arrAt 9 cfg0.N = yK m c :=
  (dats m 0 c).arrAt_eq_of_cover 9 _ (fun t _ => flushed9 m c t) fun i => ⟨pointOf (i 1), flush0_9 _, cover9 i⟩

/-- The last point. -/
abbrev pLast : Fin cfg0.N := ⟨13, by decide⟩

/-- Window 10's block is not clipped. -/
theorem cut10 (t : Fin cfg0.N) (Z : S3x512.Idx → EReal) : (cfg0.win 10).cut (α := EReal) (grid0.coords t) Z = Z := rfl

/-- What is written back to window 10's array. -/
theorem flushed10 (c : Dev nD) (t : Fin cfg0.N) : (dats m 0 c).flushed 10 t = ((cfg0.win 10).blk t).view.read (Elt Ideal) (xsRes (X m c) : S3x512.Idx → _) := by
  have a : (dats m 0 c).after 10 t = arr13 (X m c) := by dsimp only [dats]
  have e : (dats m 0 c).flushed 10 t = arr13 (X m c) := (congrArg ((cfg0.win 10).cut (grid0.coords t)) a).trans (cut10 t _)
  rw [e]
  funext y
  refine Eq.trans ?_ (congrArg (xsRes (X m c) : S3x512.Idx → _) (emb_blk10 t y)).symm
  refine (arr13_apply (X m c) y).trans ?_
  rfl

/-- So that array ends holding it. -/
theorem final10 (c : Dev nD) : (dats m 0 c).arrAt 10 cfg0.N = (xsRes (X m c) : S3x512.Idx → _) :=
  (dats m 0 c).arrAt_eq_of_cover 10 _ (fun t _ => flushed10 m c t) fun i => ⟨pLast, (flush0_10 _).mpr rfl, Finset.mem_map.mpr ⟨i, Finset.mem_univ _, emb_blk10 pLast i⟩⟩

/-- Window 11's block is not clipped. -/
theorem cut11 (t : Fin cfg0.N) (Z : S1536x256.Idx → BitVec 8) : (cfg0.win 11).cut (α := BitVec 8) (grid0.coords t) Z = Z := rfl

/-- What is written back to window 11's array. -/
theorem flushed11 (c : Dev nD) (t : Fin cfg0.N) : (dats m 0 c).flushed 11 t = ((cfg0.win 11).blk t).view.read (Elt Ideal) (zcRes (pK m c) (X m c) : S1536x256.Idx → _) := by
  have a : (dats m 0 c).after 11 t = arr14 (E m c) (X m c) := by dsimp only [dats]
  have e : (dats m 0 c).flushed 11 t = arr14 (E m c) (X m c) := (congrArg ((cfg0.win 11).cut (grid0.coords t)) a).trans (cut11 t _)
  rw [e]
  funext y
  refine Eq.trans ?_ (congrArg (zcRes (pK m c) (X m c) : S1536x256.Idx → _) (emb_blk11 t y)).symm
  obtain ⟨a, b, rfl⟩ : ∃ (a : Fin 1536) (b : Fin 256), y = (ix2 a b : S1536x256.Idx) := ⟨y 0, y 1, eq_ix2 y⟩
  refine (arr14_apply (E m c) (X m c) a b).trans ?_
  unfold czOf
  rw [E_par]
  rfl

/-- So that array ends holding it. -/
theorem final11 (c : Dev nD) : (dats m 0 c).arrAt 11 cfg0.N = (zcRes (pK m c) (X m c) : S1536x256.Idx → _) :=
  (dats m 0 c).arrAt_eq_of_cover 11 _ (fun t _ => flushed11 m c t) fun i => ⟨pLast, (flush0_11 _).mpr rfl, Finset.mem_map.mpr ⟨i, Finset.mem_univ _, emb_blk11 pLast i⟩⟩

/-- Window 12's block is not clipped. -/
theorem cut12 (t : Fin cfg0.N) (Z : S3x512.Idx → EReal) : (cfg0.win 12).cut (α := EReal) (grid0.coords t) Z = Z := rfl

/-- What is written back to window 12's array. -/
theorem flushed12 (c : Dev nD) (t : Fin cfg0.N) : (dats m 0 c).flushed 12 t = ((cfg0.win 12).blk t).view.read (Elt Ideal) (zsRes (pK m c) (X m c) : S3x512.Idx → _) := by
  have a : (dats m 0 c).after 12 t = arr15 (E m c) (X m c) := by dsimp only [dats]
  have e : (dats m 0 c).flushed 12 t = arr15 (E m c) (X m c) := (congrArg ((cfg0.win 12).cut (grid0.coords t)) a).trans (cut12 t _)
  rw [e]
  funext y
  refine Eq.trans ?_ (congrArg (zsRes (pK m c) (X m c) : S3x512.Idx → _) (emb_blk12 t y)).symm
  refine (arr15_apply (E m c) (X m c) y).trans ?_
  unfold szOf
  rw [E_par]
  rfl

/-- So that array ends holding it. -/
theorem final12 (c : Dev nD) : (dats m 0 c).arrAt 12 cfg0.N = (zsRes (pK m c) (X m c) : S3x512.Idx → _) :=
  (dats m 0 c).arrAt_eq_of_cover 12 _ (fun t _ => flushed12 m c t) fun i => ⟨pLast, (flush0_12 _).mpr rfl, Finset.mem_map.mpr ⟨i, Finset.mem_univ _, emb_blk12 pLast i⟩⟩

/-- Window 13's block is not clipped. -/
theorem cut13 (t : Fin cfg0.N) (Z : S1536x256.Idx → EReal) : (cfg0.win 13).cut (α := EReal) (grid0.coords t) Z = Z := rfl

/-- What is written back to window 13's array. -/
theorem flushed13 (c : Dev nD) (t : Fin cfg0.N) : (dats m 0 c).flushed 13 t = ((cfg0.win 13).blk t).view.read (Elt Ideal) (hcRes (pK m c) (X m c) : S1536x256.Idx → _) := by
  have a : (dats m 0 c).after 13 t = arr16 (E m c) (X m c) := by dsimp only [dats]
  have e : (dats m 0 c).flushed 13 t = arr16 (E m c) (X m c) := (congrArg ((cfg0.win 13).cut (grid0.coords t)) a).trans (cut13 t _)
  rw [e]
  funext y
  refine Eq.trans ?_ (congrArg (hcRes (pK m c) (X m c) : S1536x256.Idx → _) (emb_blk13 t y)).symm
  obtain ⟨a, b, rfl⟩ : ∃ (a : Fin 1536) (b : Fin 256), y = (ix2 a b : S1536x256.Idx) := ⟨y 0, y 1, eq_ix2 y⟩
  refine (arr16_apply (E m c) (X m c) a b).trans ?_
  unfold chOf
  rw [E_par]
  rfl

/-- So that array ends holding it. -/
theorem final13 (c : Dev nD) : (dats m 0 c).arrAt 13 cfg0.N = (hcRes (pK m c) (X m c) : S1536x256.Idx → _) :=
  (dats m 0 c).arrAt_eq_of_cover 13 _ (fun t _ => flushed13 m c t) fun i => ⟨pLast, (flush0_13 _).mpr rfl, Finset.mem_map.mpr ⟨i, Finset.mem_univ _, emb_blk13 pLast i⟩⟩

/-- Window 14's block is not clipped. -/
theorem cut14 (t : Fin cfg0.N) (Z : S3x512.Idx → EReal) : (cfg0.win 14).cut (α := EReal) (grid0.coords t) Z = Z := rfl

/-- What is written back to window 14's array. -/
theorem flushed14 (c : Dev nD) (t : Fin cfg0.N) : (dats m 0 c).flushed 14 t = ((cfg0.win 14).blk t).view.read (Elt Ideal) (hsRes (pK m c) (X m c) : S3x512.Idx → _) := by
  have a : (dats m 0 c).after 14 t = arr17 (E m c) (X m c) := by dsimp only [dats]
  have e : (dats m 0 c).flushed 14 t = arr17 (E m c) (X m c) := (congrArg ((cfg0.win 14).cut (grid0.coords t)) a).trans (cut14 t _)
  rw [e]
  funext y
  refine Eq.trans ?_ (congrArg (hsRes (pK m c) (X m c) : S3x512.Idx → _) (emb_blk14 t y)).symm
  refine (arr17_apply (E m c) (X m c) y).trans ?_
  unfold shOf
  rw [E_par]
  rfl

/-- So that array ends holding it. -/
theorem final14 (c : Dev nD) : (dats m 0 c).arrAt 14 cfg0.N = (hsRes (pK m c) (X m c) : S3x512.Idx → _) :=
  (dats m 0 c).arrAt_eq_of_cover 14 _ (fun t _ => flushed14 m c t) fun i => ⟨pLast, (flush0_14 _).mpr rfl, Finset.mem_map.mpr ⟨i, Finset.mem_univ _, emb_blk14 pLast i⟩⟩

/-- The activations' codes the body copies out. -/
theorem finalCopy (c : Dev nD) : arr19 (X m c) = (xcRes (X m c) : S1536x4096.Idx → _) := by
  funext y
  obtain ⟨n, k, rfl⟩ : ∃ (n : Fin 1536) (k : Fin 4096), y = (ix2 n k : S1536x4096.Idx) := ⟨y 0, y 1, eq_ix2 y⟩
  rw [arr19_apply]
  rfl

end Cert.KernelIdeal.Hand

end
-- ==== Proof.Ref.lean ====
/- The reference's body as functions of its arrays, and what its run stores. -/
module

public import proofs.«01_k».proof.Proof.Gen.ReferenceIdeal.Frame
public import Idealize.ShloMosaic.Lib.Pipeline.Value

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable {F : FTy → Type} [FloatOps F]

/-- What the body reads. -/
structure In (F : FTy → Type) where
  x : Vec F S1536x4096 .bf16
  w : Vec F S4096x14336 .fp8e4m3
  ws : Vec F S1x14336 .f32
  v : Vec F S256x4096 .fp8e4m3
  vs : Vec F S1x256 .f32
  u : Vec F S256x14336 .fp8e4m3
  us : Vec F S1x14336 .f32
  g0 : BitVec 32
  g1 : BitVec 32
  g2 : BitVec 32
  g3 : BitVec 32
  g4 : BitVec 32
  g5 : BitVec 32
  g6 : BitVec 32
  c0 : Vec F S1x256x256 .i8
  c1 : Vec F S1x256x256 .i8
  c2 : Vec F S1x256x256 .i8
  c3 : Vec F S1x256x256 .i8
  c4 : Vec F S1x256x256 .i8
  c5 : Vec F S1x256x256 .i8
  c6 : Vec F S1x256x256 .i8
  s0 : Vec F S1x256 .f32
  s1 : Vec F S1x256 .f32
  s2 : Vec F S1x256 .f32
  s3 : Vec F S1x256 .f32
  s4 : Vec F S1x256 .f32
  s5 : Vec F S1x256 .f32
  s6 : Vec F S1x256 .f32

/-- The quotient of a row's largest magnitude by the greatest fp8 value, as a product with the inverse. -/
def quot (a : FVec F S1536x1 .f32) : FVec F S1536x1 .f32 := mulf a (broadcast S1536x1 (Scalar.ofBits .f32 0x3B124925#32))

/-- The power-of-two scale of a quotient, in closed form. -/
def scaleOf (q : FVec F S1536x1 .f32) : FVec F S1536x1 .f32 :=
  select (andi (cmpf .oge q (broadcast S1536x1 (Scalar.ofBits .f32 0x00800000#32))) (cmpf .ole q (broadcast S1536x1 (Scalar.ofBits .f32 0x7F7FFFFF#32))))
    (exp2 (addf (floor (divf (log q) (broadcast S1536x1 (Scalar.log (Scalar.ofBits .f32 0x40000000#32))))) (broadcast S1536x1 (Scalar.ofBits .f32 0x3F800000#32))))
    (broadcast S1536x1 (Scalar.ofBits .f32 0x3F800000#32))

/-- The activations as f32. -/
def xMat (x : Vec F S1536x4096 .bf16) : FVec F S1536x4096 .f32 := extf .f32 (shapeCast S1536x4096 x shapeCasts_S1536x4096_S1536x4096) bitsLt_bf16_f32

/-- The activations' largest magnitude of each row. -/
def xMax (x : Vec F S1536x4096 .bf16) : FVec F S1536x1 .f32 :=
  shapeCast S1536x1 (multiReduction .maximumf [1] S1536 (absf (xMat x)) 0xFF800000#32 reduces_S1536x4096_S1536 (.inl rfl) rfl) shapeCasts_S1536_S1536x1

/-- The activations' scale of each row. -/
def xScale (x : Vec F S1536x4096 .bf16) : FVec F S1536x1 .f32 := scaleOf (quot (xMax x))

/-- The activations' fp8 codes. -/
def xCode (x : Vec F S1536x4096 .bf16) : FVec F S1536x4096 .fp8e4m3 :=
  truncf .fp8e4m3 (minimumf (broadcast S1536x4096 (Scalar.ofBits .f32 0x43E00000#32)) (maximumf (broadcast S1536x4096 (Scalar.ofBits .f32 0xC3E00000#32))
    (divf (xMat x) (broadcastTo S1536x4096 (xScale x) broadcasts_S1536x1_S1536x4096)))) bitsLt_fp8e4m3_f32

/-- The down projection's result. -/
def zVal (R : In F) : FVec F S1536x256 .f32 :=
  mulf (mulf (matmul dot_S1536x4096_S4096x256_S1536x256_1_0_0_1_n_n none (xCode R.x) (transpose S4096x256 [1, 0] R.v transposes_S256x4096_p1_0_S4096x256) (constant S1536x256 .f32 0x00000000#32))
    (broadcastTo S1536x256 (xScale R.x) broadcasts_S1536x1_S1536x256))
    (broadcastTo S1536x256 (shapeCast S1x256 R.vs shapeCasts_S1x256_S1x256) broadcasts_S1x256_S1536x256)

/-- The largest magnitude of each row. -/
def rowMax (z : FVec F S1536x256 .f32) : FVec F S1536x1 .f32 :=
  shapeCast S1536x1 (multiReduction .maximumf [1] S1536 (absf z) 0xFF800000#32 reduces_S1536x256_S1536 (.inl rfl) rfl) shapeCasts_S1536_S1536x1

/-- The int8 scale of each row. -/
def zScale (R : In F) : FVec F S1536x1 .f32 :=
  select (cmpf .oeq (rowMax (zVal R)) (broadcast S1536x1 (Scalar.ofBits .f32 0x00000000#32)))
    (broadcast S1536x1 (Scalar.ofBits .f32 0x3F800000#32))
    (divf (rowMax (zVal R)) (broadcast S1536x1 (Scalar.ofBits .f32 0x42FE0000#32)))

/-- The int8 codes. -/
def zCode (R : In F) : IVec S1536x256 8 :=
  fptosi 8 (minimumf (broadcast S1536x256 (Scalar.ofBits .f32 0x42FE0000#32)) (maximumf (broadcast S1536x256 (Scalar.ofBits .f32 0xC2FE0000#32))
    (roundeven (divf (zVal R) (broadcastTo S1536x256 (zScale R) broadcasts_S1536x1_S1536x256)))))

/-- The row after the first tenant's rows. -/
def In.e1 (R : In F) : BitVec 32 := Scalar.addi (0#32) R.g0
/-- The row after the second tenant's rows. -/
def In.e2 (R : In F) : BitVec 32 := Scalar.addi R.e1 R.g1
/-- The row after the third tenant's rows. -/
def In.e3 (R : In F) : BitVec 32 := Scalar.addi R.e2 R.g2
/-- The row after the fourth tenant's rows. -/
def In.e4 (R : In F) : BitVec 32 := Scalar.addi R.e3 R.g3
/-- The row after the fifth tenant's rows. -/
def In.e5 (R : In F) : BitVec 32 := Scalar.addi R.e4 R.g4
/-- The row after the sixth tenant's rows. -/
def In.e6 (R : In F) : BitVec 32 := Scalar.addi R.e5 R.g5
/-- The row after the last tenant's rows. -/
def In.e7 (R : In F) : BitVec 32 := Scalar.addi R.e6 R.g6

/-- The rows from `lo` up to, not including, `hi`. -/
def mine (lo hi : BitVec 32) : IVec S1536x256 1 :=
  andi (cmpi .sge (iota .tc S1536x256 32 [0] iota_S1536x256_d0_w32) (broadcast S1536x256 lo)) (cmpi .slt (iota .tc S1536x256 32 [0] iota_S1536x256_d0_w32) (broadcast S1536x256 hi))

/-- One tenant's product on its rows, added on. -/
def hStep (z : IVec S1536x256 8) (lo hi : BitVec 32) (sg : Vec F S1x256x256 .i8) (acc : FVec F S1536x256 .f32) : FVec F S1536x256 .f32 :=
  addf acc (select (mine lo hi) (matmul dot_S1536x256_S256x256_S1536x256_1_0_0_1_n_n none (sitofp .bf16 z)
      (sitofp .bf16 (shapeCast S256x256 sg shapeCasts_S1x256x256_S256x256 : IVec S256x256 8)) (constant S1536x256 .f32 0x00000000#32)) (broadcast S1536x256 (Scalar.ofBits .f32 0x00000000#32)))

/-- The tenants' products, added up. -/
def hAcc (R : In F) : FVec F S1536x256 .f32 :=
  hStep (zCode R) R.e6 R.e7 R.c6 <| hStep (zCode R) R.e5 R.e6 R.c5 <| hStep (zCode R) R.e4 R.e5 R.c4 <| hStep (zCode R) R.e3 R.e4 R.c3 <|
    hStep (zCode R) R.e2 R.e3 R.c2 <| hStep (zCode R) R.e1 R.e2 R.c1 <| hStep (zCode R) (0#32) R.e1 R.c0 <| broadcast S1536x256 (Scalar.ofBits .f32 0x00000000#32)

/-- One tenant's scales on its rows. -/
def sStep (lo hi : BitVec 32) (ss : Vec F S1x256 .f32) (acc : FVec F S1536x256 .f32) : FVec F S1536x256 .f32 :=
  select (mine lo hi) (broadcastTo S1536x256 (shapeCast S1x256 ss shapeCasts_S1x256_S1x256) broadcasts_S1x256_S1536x256) acc

/-- The tenants' scales, each on its rows. -/
def hSel (R : In F) : FVec F S1536x256 .f32 :=
  sStep R.e6 R.e7 R.s6 <| sStep R.e5 R.e6 R.s5 <| sStep R.e4 R.e5 R.s4 <| sStep R.e3 R.e4 R.s3 <|
    sStep R.e2 R.e3 R.s2 <| sStep R.e1 R.e2 R.s1 <| sStep (0#32) R.e1 R.s0 <| broadcast S1536x256 (Scalar.ofBits .f32 0x00000000#32)

/-- The product with the tenants' cores, scaled. -/
def hVal (R : In F) : FVec F S1536x256 .f32 :=
  mulf (mulf (hAcc R) (broadcastTo S1536x256 (zScale R) broadcasts_S1536x1_S1536x256)) (hSel R)

/-- Its scale of each row. -/
def hScale (R : In F) : FVec F S1536x1 .f32 := scaleOf (quot (rowMax (hVal R)))

/-- Its fp8 codes. -/
def hCode (R : In F) : FVec F S1536x256 .fp8e4m3 :=
  truncf .fp8e4m3 (minimumf (broadcast S1536x256 (Scalar.ofBits .f32 0x43E00000#32)) (maximumf (broadcast S1536x256 (Scalar.ofBits .f32 0xC3E00000#32))
    (divf (hVal R) (broadcastTo S1536x256 (hScale R) broadcasts_S1536x1_S1536x256)))) bitsLt_fp8e4m3_f32

/-- The output. -/
def yOut (R : In F) : FVec F S1536x14336 .bf16 :=
  truncf .bf16 (addf
    (mulf (mulf (matmul dot_S1536x4096_S4096x14336_S1536x14336_1_0_0_1_n_n none (xCode R.x) R.w (constant S1536x14336 .f32 0x00000000#32)) (broadcastTo S1536x14336 (xScale R.x) broadcasts_S1536x1_S1536x14336))
      (broadcastTo S1536x14336 (shapeCast S1x14336 R.ws shapeCasts_S1x14336_S1x14336) broadcasts_S1x14336_S1536x14336))
    (mulf (mulf (matmul dot_S1536x256_S256x14336_S1536x14336_1_0_0_1_n_n none (hCode R) R.u (constant S1536x14336 .f32 0x00000000#32)) (broadcastTo S1536x14336 (hScale R) broadcasts_S1536x1_S1536x14336))
      (broadcastTo S1536x14336 (shapeCast S1x14336 R.us shapeCasts_S1x14336_S1x14336) broadcasts_S1x14336_S1536x14336))) bitsLt_bf16_f32

/-- A column of scales as three rows of 512. -/
def rows3 (p : FVec F S1536x1 .f32) : FVec F S3x512 .f32 := shapeCast S3x512 p shapeCasts_S1536x1_S3x512

section Run

variable (c : Dev nD) (arg0 : Memref sig .tc .smem S7 .i32) (harg0 : arg0.IsWhole) (arg1 : Memref sig .tc .vmem S1536x4096 .bf16) (harg1 : arg1.IsWhole) (arg2 : Memref sig .tc .vmem S4096x14336 .fp8e4m3) (harg2 : arg2.IsWhole) (arg3 : Memref sig .tc .vmem S1x14336 .f32) (harg3 : arg3.IsWhole) (arg4 : Memref sig .tc .vmem S256x4096 .fp8e4m3) (harg4 : arg4.IsWhole) (arg5 : Memref sig .tc .vmem S1x256 .f32) (harg5 : arg5.IsWhole) (arg6 : Memref sig .tc .vmem S7x256x256 .i8) (harg6 : arg6.IsWhole) (arg7 : Memref sig .tc .vmem S7x256 .f32) (harg7 : arg7.IsWhole) (arg8 : Memref sig .tc .vmem S256x14336 .fp8e4m3) (harg8 : arg8.IsWhole) (arg9 : Memref sig .tc .vmem S1x14336 .f32) (harg9 : arg9.IsWhole) (arg10 : Memref sig .tc .vmem S1536x14336 .bf16) (harg10 : arg10.IsWhole) (arg11 : Memref sig .tc .vmem S1536x4096 .fp8e4m3) (harg11 : arg11.IsWhole) (arg12 : Memref sig .tc .vmem S3x512 .f32) (harg12 : arg12.IsWhole) (arg13 : Memref sig .tc .vmem S1536x256 .i8) (harg13 : arg13.IsWhole) (arg14 : Memref sig .tc .vmem S3x512 .f32) (harg14 : arg14.IsWhole) (arg15 : Memref sig .tc .vmem S1536x256 .fp8e4m3) (harg15 : arg15.IsWhole) (arg16 : Memref sig .tc .vmem S3x512 .f32) (harg16 : arg16.IsWhole)
  (x0 : Vec F S7 .i32) (x1 : Vec F S1536x4096 .bf16) (x2 : Vec F S4096x14336 .fp8e4m3) (x3 : Vec F S1x14336 .f32) (x4 : Vec F S256x4096 .fp8e4m3) (x5 : Vec F S1x256 .f32) (x6 : Vec F S7x256x256 .i8) (x7 : Vec F S7x256 .f32) (x8 : Vec F S256x14336 .fp8e4m3) (x9 : Vec F S1x14336 .f32)

/-- What the run reads from its operands. -/
def runIn : In F where
  x := View.readAt (Elt F) arg1.view (Rect.unit (s := S1536x4096) ![0, 0] S1536x4096.size inb_S1536x4096_S1536x4096_0_0).toLoadRect (harg1.unread x1)
  w := View.readAt (Elt F) arg2.view (Rect.unit (s := S4096x14336) ![0, 0] S4096x14336.size inb_S4096x14336_S4096x14336_0_0).toLoadRect (harg2.unread x2)
  ws := View.readAt (Elt F) arg3.view (Rect.unit (s := S1x14336) ![0, 0] S1x14336.size inb_S1x14336_S1x14336_0_0).toLoadRect (harg3.unread x3)
  v := View.readAt (Elt F) arg4.view (Rect.unit (s := S256x4096) ![0, 0] S256x4096.size inb_S256x4096_S256x4096_0_0).toLoadRect (harg4.unread x4)
  vs := View.readAt (Elt F) arg5.view (Rect.unit (s := S1x256) ![0, 0] S1x256.size inb_S1x256_S1x256_0_0).toLoadRect (harg5.unread x5)
  u := View.readAt (Elt F) arg8.view (Rect.unit (s := S256x14336) ![0, 0] S256x14336.size inb_S256x14336_S256x14336_0_0).toLoadRect (harg8.unread x8)
  us := View.readAt (Elt F) arg9.view (Rect.unit (s := S1x14336) ![0, 0] S1x14336.size inb_S1x14336_S1x14336_0_0).toLoadRect (harg9.unread x9)
  g0 := View.readAt (Elt F) arg0.view (Rect.unit (s := S7) ![0] S1.size inb_S7_S1_0).toLoadRect (harg0.unread x0) (Shape.Idx.first (by decide))
  g1 := View.readAt (Elt F) arg0.view (Rect.unit (s := S7) ![1] S1.size inb_S7_S1_1).toLoadRect (harg0.unread x0) (Shape.Idx.first (by decide))
  g2 := View.readAt (Elt F) arg0.view (Rect.unit (s := S7) ![2] S1.size inb_S7_S1_2).toLoadRect (harg0.unread x0) (Shape.Idx.first (by decide))
  g3 := View.readAt (Elt F) arg0.view (Rect.unit (s := S7) ![3] S1.size inb_S7_S1_3).toLoadRect (harg0.unread x0) (Shape.Idx.first (by decide))
  g4 := View.readAt (Elt F) arg0.view (Rect.unit (s := S7) ![4] S1.size inb_S7_S1_4).toLoadRect (harg0.unread x0) (Shape.Idx.first (by decide))
  g5 := View.readAt (Elt F) arg0.view (Rect.unit (s := S7) ![5] S1.size inb_S7_S1_5).toLoadRect (harg0.unread x0) (Shape.Idx.first (by decide))
  g6 := View.readAt (Elt F) arg0.view (Rect.unit (s := S7) ![6] S1.size inb_S7_S1_6).toLoadRect (harg0.unread x0) (Shape.Idx.first (by decide))
  c0 := View.readAt (Elt F) arg6.view (Rect.unit (s := S7x256x256) ![0, 0, 0] S1x256x256.size inb_S7x256x256_S1x256x256_0_0_0).toLoadRect (harg6.unread x6)
  c1 := View.readAt (Elt F) arg6.view (Rect.unit (s := S7x256x256) ![1, 0, 0] S1x256x256.size inb_S7x256x256_S1x256x256_1_0_0).toLoadRect (harg6.unread x6)
  c2 := View.readAt (Elt F) arg6.view (Rect.unit (s := S7x256x256) ![2, 0, 0] S1x256x256.size inb_S7x256x256_S1x256x256_2_0_0).toLoadRect (harg6.unread x6)
  c3 := View.readAt (Elt F) arg6.view (Rect.unit (s := S7x256x256) ![3, 0, 0] S1x256x256.size inb_S7x256x256_S1x256x256_3_0_0).toLoadRect (harg6.unread x6)
  c4 := View.readAt (Elt F) arg6.view (Rect.unit (s := S7x256x256) ![4, 0, 0] S1x256x256.size inb_S7x256x256_S1x256x256_4_0_0).toLoadRect (harg6.unread x6)
  c5 := View.readAt (Elt F) arg6.view (Rect.unit (s := S7x256x256) ![5, 0, 0] S1x256x256.size inb_S7x256x256_S1x256x256_5_0_0).toLoadRect (harg6.unread x6)
  c6 := View.readAt (Elt F) arg6.view (Rect.unit (s := S7x256x256) ![6, 0, 0] S1x256x256.size inb_S7x256x256_S1x256x256_6_0_0).toLoadRect (harg6.unread x6)
  s0 := View.readAt (Elt F) arg7.view (Rect.unit (s := S7x256) ![0, 0] S1x256.size inb_S7x256_S1x256_0_0).toLoadRect (harg7.unread x7)
  s1 := View.readAt (Elt F) arg7.view (Rect.unit (s := S7x256) ![1, 0] S1x256.size inb_S7x256_S1x256_1_0).toLoadRect (harg7.unread x7)
  s2 := View.readAt (Elt F) arg7.view (Rect.unit (s := S7x256) ![2, 0] S1x256.size inb_S7x256_S1x256_2_0).toLoadRect (harg7.unread x7)
  s3 := View.readAt (Elt F) arg7.view (Rect.unit (s := S7x256) ![3, 0] S1x256.size inb_S7x256_S1x256_3_0).toLoadRect (harg7.unread x7)
  s4 := View.readAt (Elt F) arg7.view (Rect.unit (s := S7x256) ![4, 0] S1x256.size inb_S7x256_S1x256_4_0).toLoadRect (harg7.unread x7)
  s5 := View.readAt (Elt F) arg7.view (Rect.unit (s := S7x256) ![5, 0] S1x256.size inb_S7x256_S1x256_5_0).toLoadRect (harg7.unread x7)
  s6 := View.readAt (Elt F) arg7.view (Rect.unit (s := S7x256) ![6, 0] S1x256.size inb_S7x256_S1x256_6_0).toLoadRect (harg7.unread x7)

set_option maxHeartbeats 1000000 in
/-- The run stores the output: one piece, the whole array. -/
theorem piece10 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1 = [⟨Rect.unit (s := S1536x14336) ![0, 0] S1536x14336.size inb_S1536x14336_S1536x14336_0_0, yOut (runIn arg0 harg0 arg1 harg1 arg2 harg2 arg3 harg3 arg4 harg4 arg5 harg5 arg6 harg6 arg7 harg7 arg8 harg8 arg9 harg9 x0 x1 x2 x3 x4 x5 x6 x7 x8 x9)⟩] := by sl_kernel_rfl

/-- So the output are what the array holds. -/
theorem out10 : out0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = yOut (runIn arg0 harg0 arg1 harg1 arg2 harg2 arg3 harg3 arg4 harg4 arg5 harg5 arg6 harg6 arg7 harg7 arg8 harg8 arg9 harg9 x0 x1 x2 x3 x4 x5 x6 x7 x8 x9) := by
  unfold out0_A_10
  rw [View.read_writes_junk_eq_canon, piece10]
  exact View.canon_unit_zero (by funext a; fin_cases a <;> rfl) _ _

set_option maxHeartbeats 1000000 in
/-- The run stores the activations' codes: one piece, the whole array. -/
theorem piece11 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.1 = [⟨Rect.unit (s := S1536x4096) ![0, 0] S1536x4096.size inb_S1536x4096_S1536x4096_0_0, xCode (runIn arg0 harg0 arg1 harg1 arg2 harg2 arg3 harg3 arg4 harg4 arg5 harg5 arg6 harg6 arg7 harg7 arg8 harg8 arg9 harg9 x0 x1 x2 x3 x4 x5 x6 x7 x8 x9).x⟩] := by sl_kernel_rfl

/-- So the activations' codes are what the array holds. -/
theorem out11 : out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = xCode (runIn arg0 harg0 arg1 harg1 arg2 harg2 arg3 harg3 arg4 harg4 arg5 harg5 arg6 harg6 arg7 harg7 arg8 harg8 arg9 harg9 x0 x1 x2 x3 x4 x5 x6 x7 x8 x9).x := by
  unfold out0_A_11
  rw [View.read_writes_junk_eq_canon, piece11]
  exact View.canon_unit_zero (by funext a; fin_cases a <;> rfl) _ _

set_option maxHeartbeats 1000000 in
/-- The run stores the activations' scales: one piece, the whole array. -/
theorem piece12 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.1 = [⟨Rect.unit (s := S3x512) ![0, 0] S3x512.size inb_S3x512_S3x512_0_0, rows3 (xScale (runIn arg0 harg0 arg1 harg1 arg2 harg2 arg3 harg3 arg4 harg4 arg5 harg5 arg6 harg6 arg7 harg7 arg8 harg8 arg9 harg9 x0 x1 x2 x3 x4 x5 x6 x7 x8 x9).x)⟩] := by sl_kernel_rfl

/-- So the activations' scales are what the array holds. -/
theorem out12 : out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = rows3 (xScale (runIn arg0 harg0 arg1 harg1 arg2 harg2 arg3 harg3 arg4 harg4 arg5 harg5 arg6 harg6 arg7 harg7 arg8 harg8 arg9 harg9 x0 x1 x2 x3 x4 x5 x6 x7 x8 x9).x) := by
  unfold out0_A_12
  rw [View.read_writes_junk_eq_canon, piece12]
  exact View.canon_unit_zero (by funext a; fin_cases a <;> rfl) _ _

set_option maxHeartbeats 1000000 in
/-- The run stores the int8 codes: one piece, the whole array. -/
theorem piece13 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.2.1 = [⟨Rect.unit (s := S1536x256) ![0, 0] S1536x256.size inb_S1536x256_S1536x256_0_0, zCode (runIn arg0 harg0 arg1 harg1 arg2 harg2 arg3 harg3 arg4 harg4 arg5 harg5 arg6 harg6 arg7 harg7 arg8 harg8 arg9 harg9 x0 x1 x2 x3 x4 x5 x6 x7 x8 x9)⟩] := by sl_kernel_rfl

/-- So the int8 codes are what the array holds. -/
theorem out13 : out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = zCode (runIn arg0 harg0 arg1 harg1 arg2 harg2 arg3 harg3 arg4 harg4 arg5 harg5 arg6 harg6 arg7 harg7 arg8 harg8 arg9 harg9 x0 x1 x2 x3 x4 x5 x6 x7 x8 x9) := by
  unfold out0_A_13
  rw [View.read_writes_junk_eq_canon, piece13]
  exact View.canon_unit_zero (by funext a; fin_cases a <;> rfl) _ _

set_option maxHeartbeats 1000000 in
/-- The run stores the int8 scales: one piece, the whole array. -/
theorem piece14 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.2.2.1 = [⟨Rect.unit (s := S3x512) ![0, 0] S3x512.size inb_S3x512_S3x512_0_0, rows3 (zScale (runIn arg0 harg0 arg1 harg1 arg2 harg2 arg3 harg3 arg4 harg4 arg5 harg5 arg6 harg6 arg7 harg7 arg8 harg8 arg9 harg9 x0 x1 x2 x3 x4 x5 x6 x7 x8 x9))⟩] := by sl_kernel_rfl

/-- So the int8 scales are what the array holds. -/
theorem out14 : out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = rows3 (zScale (runIn arg0 harg0 arg1 harg1 arg2 harg2 arg3 harg3 arg4 harg4 arg5 harg5 arg6 harg6 arg7 harg7 arg8 harg8 arg9 harg9 x0 x1 x2 x3 x4 x5 x6 x7 x8 x9)) := by
  unfold out0_A_14
  rw [View.read_writes_junk_eq_canon, piece14]
  exact View.canon_unit_zero (by funext a; fin_cases a <;> rfl) _ _

set_option maxHeartbeats 1000000 in
/-- The run stores the second codes: one piece, the whole array. -/
theorem piece15 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.2.2.2.1 = [⟨Rect.unit (s := S1536x256) ![0, 0] S1536x256.size inb_S1536x256_S1536x256_0_0, hCode (runIn arg0 harg0 arg1 harg1 arg2 harg2 arg3 harg3 arg4 harg4 arg5 harg5 arg6 harg6 arg7 harg7 arg8 harg8 arg9 harg9 x0 x1 x2 x3 x4 x5 x6 x7 x8 x9)⟩] := by sl_kernel_rfl

/-- So the second codes are what the array holds. -/
theorem out15 : out0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = hCode (runIn arg0 harg0 arg1 harg1 arg2 harg2 arg3 harg3 arg4 harg4 arg5 harg5 arg6 harg6 arg7 harg7 arg8 harg8 arg9 harg9 x0 x1 x2 x3 x4 x5 x6 x7 x8 x9) := by
  unfold out0_A_15
  rw [View.read_writes_junk_eq_canon, piece15]
  exact View.canon_unit_zero (by funext a; fin_cases a <;> rfl) _ _

set_option maxHeartbeats 1000000 in
/-- The run stores the second scales: one piece, the whole array. -/
theorem piece16 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.2.2.2.2.1 = [⟨Rect.unit (s := S3x512) ![0, 0] S3x512.size inb_S3x512_S3x512_0_0, rows3 (hScale (runIn arg0 harg0 arg1 harg1 arg2 harg2 arg3 harg3 arg4 harg4 arg5 harg5 arg6 harg6 arg7 harg7 arg8 harg8 arg9 harg9 x0 x1 x2 x3 x4 x5 x6 x7 x8 x9))⟩] := by sl_kernel_rfl

/-- So the second scales are what the array holds. -/
theorem out16 : out0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = rows3 (hScale (runIn arg0 harg0 arg1 harg1 arg2 harg2 arg3 harg3 arg4 harg4 arg5 harg5 arg6 harg6 arg7 harg7 arg8 harg8 arg9 harg9 x0 x1 x2 x3 x4 x5 x6 x7 x8 x9)) := by
  unfold out0_A_16
  rw [View.read_writes_junk_eq_canon, piece16]
  exact View.canon_unit_zero (by funext a; fin_cases a <;> rfl) _ _

end Run

end Cert.ReferenceIdeal.Hand

end
-- ==== Proof.RefRows.lean ====
/- The reference's arrays at an index, over the extended reals: the row's mathematics. -/
module

public import proofs.«01_k».proof.Proof.Ref
public import proofs.«01_k».proof.Proof.Ladder

@[expose] public section

set_option maxRecDepth 16384

noncomputable section

namespace Cert.ReferenceIdeal.Hand

open Cert.ReferenceIdeal Cert.ReferenceIdeal.Gen
open Cert.Rows (Par K amax scl fscale fcode zval iscale iquo icode isIn hterm hacc hsel hval yval)
open Idealize.ShloMosaic Idealize.ShloMosaic.TcCoe

/-- The row's parameters the arrays hold. -/
def In.par (R : In Ideal) : Par where
  v := fun j k => R.v (ix2 j k)
  vs := fun j => R.vs (ix2 0 j)
  g := ![R.g0, R.g1, R.g2, R.g3, R.g4, R.g5, R.g6]
  sg := ![fun k j => FloatOps.sitofp (F := Ideal) .bf16 (R.c0 (ix3 0 k j)), fun k j => FloatOps.sitofp (F := Ideal) .bf16 (R.c1 (ix3 0 k j)),
    fun k j => FloatOps.sitofp (F := Ideal) .bf16 (R.c2 (ix3 0 k j)), fun k j => FloatOps.sitofp (F := Ideal) .bf16 (R.c3 (ix3 0 k j)),
    fun k j => FloatOps.sitofp (F := Ideal) .bf16 (R.c4 (ix3 0 k j)), fun k j => FloatOps.sitofp (F := Ideal) .bf16 (R.c5 (ix3 0 k j)),
    fun k j => FloatOps.sitofp (F := Ideal) .bf16 (R.c6 (ix3 0 k j))]
  ss := ![fun j => R.s0 (ix2 0 j), fun j => R.s1 (ix2 0 j), fun j => R.s2 (ix2 0 j), fun j => R.s3 (ix2 0 j),
    fun j => R.s4 (ix2 0 j), fun j => R.s5 (ix2 0 j), fun j => R.s6 (ix2 0 j)]

/-- A row of the activations. -/
def xrow (x : Vec Ideal S1536x4096 .bf16) (r : Fin 1536) : Fin 4096 → EReal := fun k => x (ix2 r k)

/-- The number of a row. -/
abbrev rno (r : Fin 1536) : BitVec 32 := BitVec.ofNat 32 r.val

/-- The scale of a quotient at a row. -/
theorem scaleOf_apply (q : FVec Ideal S1536x1 .f32) (r : Fin 1536) : scaleOf q (ix2 r 0) = scl (q (ix2 r 0)) := by
  pointwise [scaleOf]
  rfl

/-- The activations' largest magnitude at a row. -/
theorem xMax_apply (x : Vec Ideal S1536x4096 .bf16) (r : Fin 1536) : xMax x (ix2 r 0) = amax (xrow x r) := by
  pointwise [xMax, xMat]
  rfl

/-- The quotient at a row. -/
theorem quot_apply (a : FVec Ideal S1536x1 .f32) (r : Fin 1536) : quot a (ix2 r 0) = a (ix2 r 0) * K 0x3B124925#32 := by
  pointwise [quot]

/-- The activations' scale at a row. -/
theorem xScale_apply (x : Vec Ideal S1536x4096 .bf16) (r : Fin 1536) : xScale x (ix2 r 0) = fscale (xrow x r) := by
  unfold xScale fscale
  rw [scaleOf_apply, quot_apply, xMax_apply]

/-- The activations' codes at an index. -/
theorem xCode_apply (x : Vec Ideal S1536x4096 .bf16) (r : Fin 1536) (k : Fin 4096) : xCode x (ix2 r k) = fcode (xrow x r) k := by
  have e : ∀ (z : FVec Ideal S1536x4096 .f32) (p : FVec Ideal S1536x1 .f32),
      truncf .fp8e4m3 (minimumf (broadcast S1536x4096 (Scalar.ofBits .f32 0x43E00000#32)) (maximumf (broadcast S1536x4096 (Scalar.ofBits .f32 0xC3E00000#32))
        (divf z (broadcastTo S1536x4096 p broadcasts_S1536x1_S1536x4096)))) bitsLt_fp8e4m3_f32 (ix2 r k)
      = min (K 0x43E00000#32) (max (K 0xC3E00000#32) (Ideal.div (z (ix2 r k)) (p (ix2 r 0)))) := by
    intro z p
    pointwise
    try rfl
  have h : xMat x (ix2 r k) = xrow x r k := by
    unfold xMat xrow
    pointwise
  unfold xCode fcode
  rw [e, xScale_apply, h]

/-- The down projection at an index. -/
theorem zVal_apply (R : In Ideal) (r : Fin 1536) (k : Fin 256) : zVal R (ix2 r k) = zval R.par (xrow R.x r) k := by
  have e : ∀ (xc : FVec Ideal S1536x4096 .fp8e4m3) (xs : FVec Ideal S1536x1 .f32),
      mulf (mulf (matmul (φ₂ := .fp8e4m3) dot_S1536x4096_S4096x256_S1536x256_1_0_0_1_n_n none xc (transpose S4096x256 [1, 0] (R.v : FVec Ideal S256x4096 .fp8e4m3) transposes_S256x4096_p1_0_S4096x256) (constant S1536x256 .f32 0x00000000#32))
        (broadcastTo S1536x256 xs broadcasts_S1536x1_S1536x256))
        (broadcastTo S1536x256 (shapeCast S1x256 (R.vs : FVec Ideal S1x256 .f32) shapeCasts_S1x256_S1x256) broadcasts_S1x256_S1536x256) (ix2 r k)
      = (∑ l, xc (ix2 r l) * R.v (ix2 k l)) * xs (ix2 r 0) * R.vs (ix2 0 k) := by
    intro xc xs
    pointwise [dot_S1536x4096_S4096x256_S1536x256_1_0_0_1_n_n]
  unfold zVal zval
  rw [e, xScale_apply]
  simp only [xCode_apply]
  rfl

/-- The largest magnitude of a row. -/
theorem rowMax_apply (z : FVec Ideal S1536x256 .f32) (r : Fin 1536) : rowMax z (ix2 r 0) = amax fun k => z (ix2 r k) := by
  pointwise [rowMax]
  rfl

/-- The int8 scale of a row. -/
theorem zScale_apply (R : In Ideal) (r : Fin 1536) : zScale R (ix2 r 0) = iscale (zval R.par (xrow R.x r)) := by
  have e : ∀ p : FVec Ideal S1536x1 .f32, select (cmpf .oeq p (broadcast S1536x1 (Scalar.ofBits .f32 0x00000000#32)))
      (broadcast S1536x1 (Scalar.ofBits .f32 0x3F800000#32)) (divf p (broadcast S1536x1 (Scalar.ofBits .f32 0x42FE0000#32))) (ix2 r 0)
      = if p (ix2 r 0) = 0 then 1 else Ideal.div (p (ix2 r 0)) (K 0x42FE0000#32) := by
    intro p
    pointwise
    try rfl
  unfold zScale iscale
  rw [e, rowMax_apply]
  simp only [zVal_apply]

/-- The int8 codes at an index. -/
theorem zCode_apply (R : In Ideal) (r : Fin 1536) (k : Fin 256) : zCode R (ix2 r k) = icode (zval R.par (xrow R.x r)) k := by
  have e : ∀ (z : FVec Ideal S1536x256 .f32) (p : FVec Ideal S1536x1 .f32),
      fptosi 8 (minimumf (broadcast S1536x256 (Scalar.ofBits .f32 0x42FE0000#32)) (maximumf (broadcast S1536x256 (Scalar.ofBits .f32 0xC2FE0000#32))
        (roundeven (divf z (broadcastTo S1536x256 p broadcasts_S1536x1_S1536x256))))) (ix2 r k)
      = Ideal.fptosi 8 (min (K 0x42FE0000#32) (max (K 0xC2FE0000#32) (Ideal.liftRound Ideal.roundHalfEven (Ideal.div (z (ix2 r k)) (p (ix2 r 0)))))) := by
    intro z p
    pointwise
    try rfl
  unfold zCode icode iquo
  rw [e, zScale_apply, zVal_apply]

/-- One tenant's step at an index. -/
theorem hStep_apply (z : IVec S1536x256 8) (lo hi : BitVec 32) (sg : Vec Ideal S1x256x256 .i8) (acc : FVec Ideal S1536x256 .f32) (r : Fin 1536) (k : Fin 256) :
    hStep z lo hi sg acc (ix2 r k) = acc (ix2 r k) + hterm (rno r) lo hi (fun k j => FloatOps.sitofp (F := Ideal) .bf16 (sg (ix3 0 k j)))
      (fun k => (((z (ix2 r k)).toInt : ℝ) : EReal)) k := by
  pointwise [hStep, mine, dot_S1536x256_S256x256_S1536x256_1_0_0_1_n_n]
  rfl

/-- The tenants' products at an index. -/
theorem hAcc_apply (R : In Ideal) (r : Fin 1536) (k : Fin 256) :
    hAcc R (ix2 r k) = hacc R.par (rno r) (iquo (zval R.par (xrow R.x r))) k := by
  have hz : (fun k => (((zCode R (ix2 r k)).toInt : ℝ) : EReal)) = iquo (zval R.par (xrow R.x r)) := by
    funext k; rw [zCode_apply]; exact Rows.icode_val _ _
  unfold hAcc
  rw [hStep_apply, hStep_apply, hStep_apply, hStep_apply, hStep_apply, hStep_apply, hStep_apply, hz]
  unfold hacc
  have h0 : (broadcast S1536x256 (Scalar.ofBits (F := Ideal) .f32 0x00000000#32)) (ix2 r k) = (0 : EReal) := by pointwise
  rw [h0]
  rfl

/-- One tenant's scales at an index. -/
theorem sStep_apply (lo hi : BitVec 32) (ss : Vec Ideal S1x256 .f32) (acc : FVec Ideal S1536x256 .f32) (r : Fin 1536) (k : Fin 256) :
    sStep lo hi ss acc (ix2 r k) = Scalar.select (isIn (rno r) lo hi) (ss (ix2 0 k)) (acc (ix2 r k)) := by
  pointwise [sStep, mine]
  rfl

/-- The tenants' scales at an index. -/
theorem hSel_apply (R : In Ideal) (r : Fin 1536) (k : Fin 256) : hSel R (ix2 r k) = hsel R.par (rno r) k := by
  unfold hSel
  rw [sStep_apply, sStep_apply, sStep_apply, sStep_apply, sStep_apply, sStep_apply, sStep_apply]
  unfold hsel
  have h0 : (broadcast S1536x256 (Scalar.ofBits (F := Ideal) .f32 0x00000000#32)) (ix2 r k) = (0 : EReal) := by pointwise
  rw [h0]
  rfl

/-- The product with the cores, scaled, at an index. -/
theorem hVal_apply (R : In Ideal) (r : Fin 1536) (k : Fin 256) : hVal R (ix2 r k) = hval R.par (rno r) (xrow R.x r) k := by
  pointwise [hVal, hAcc_apply, hSel_apply, zScale_apply]
  rfl

/-- Its scale of a row. -/
theorem hScale_apply (R : In Ideal) (r : Fin 1536) : hScale R (ix2 r 0) = fscale (hval R.par (rno r) (xrow R.x r)) := by
  unfold hScale fscale
  rw [scaleOf_apply, quot_apply, rowMax_apply]
  simp only [hVal_apply]

/-- Its codes at an index. -/
theorem hCode_apply (R : In Ideal) (r : Fin 1536) (k : Fin 256) : hCode R (ix2 r k) = fcode (hval R.par (rno r) (xrow R.x r)) k := by
  have e : ∀ (z : FVec Ideal S1536x256 .f32) (p : FVec Ideal S1536x1 .f32),
      truncf .fp8e4m3 (minimumf (broadcast S1536x256 (Scalar.ofBits .f32 0x43E00000#32)) (maximumf (broadcast S1536x256 (Scalar.ofBits .f32 0xC3E00000#32))
        (divf z (broadcastTo S1536x256 p broadcasts_S1536x1_S1536x256)))) bitsLt_fp8e4m3_f32 (ix2 r k)
      = min (K 0x43E00000#32) (max (K 0xC3E00000#32) (Ideal.div (z (ix2 r k)) (p (ix2 r 0)))) := by
    intro z p
    pointwise
    try rfl
  unfold hCode fcode
  rw [e, hScale_apply, hVal_apply]

/-- The output at an index. -/
theorem yOut_apply (R : In Ideal) (r : Fin 1536) (j : Fin 14336) :
    yOut R (ix2 r j) = yval R.par (rno r) (xrow R.x r) (fun k => R.w (ix2 k j)) (R.ws (ix2 0 j)) (fun k => R.u (ix2 k j)) (R.us (ix2 0 j)) := by
  have e : ∀ (xc : FVec Ideal S1536x4096 .fp8e4m3) (xs : FVec Ideal S1536x1 .f32) (hc : FVec Ideal S1536x256 .fp8e4m3) (hs : FVec Ideal S1536x1 .f32),
      truncf .bf16 (addf
        (mulf (mulf (matmul (φ₂ := .fp8e4m3) dot_S1536x4096_S4096x14336_S1536x14336_1_0_0_1_n_n none xc (R.w : FVec Ideal S4096x14336 .fp8e4m3) (constant S1536x14336 .f32 0x00000000#32)) (broadcastTo S1536x14336 xs broadcasts_S1536x1_S1536x14336))
          (broadcastTo S1536x14336 (shapeCast S1x14336 (R.ws : FVec Ideal S1x14336 .f32) shapeCasts_S1x14336_S1x14336) broadcasts_S1x14336_S1536x14336))
        (mulf (mulf (matmul (φ₂ := .fp8e4m3) dot_S1536x256_S256x14336_S1536x14336_1_0_0_1_n_n none hc (R.u : FVec Ideal S256x14336 .fp8e4m3) (constant S1536x14336 .f32 0x00000000#32)) (broadcastTo S1536x14336 hs broadcasts_S1536x1_S1536x14336))
          (broadcastTo S1536x14336 (shapeCast S1x14336 (R.us : FVec Ideal S1x14336 .f32) shapeCasts_S1x14336_S1x14336) broadcasts_S1x14336_S1536x14336))) bitsLt_bf16_f32 (ix2 r j)
      = (∑ k, xc (ix2 r k) * R.w (ix2 k j)) * xs (ix2 r 0) * R.ws (ix2 0 j) + (∑ k, hc (ix2 r k) * R.u (ix2 k j)) * hs (ix2 r 0) * R.us (ix2 0 j) := by
    intro xc xs hc hs
    pointwise [dot_S1536x4096_S4096x14336_S1536x14336_1_0_0_1_n_n, dot_S1536x256_S256x14336_S1536x14336_1_0_0_1_n_n]
  unfold yOut yval
  rw [e, xScale_apply, hScale_apply]
  simp only [xCode_apply, hCode_apply]

/-- The three rows of 512 at an index. -/
theorem rows3_apply (p : FVec Ideal S1536x1 .f32) (a : Fin 3) (l : Fin 512) : rows3 p (ix2 a l) = p (ix2 ⟨512 * a.val + l.val, by omega⟩ 0) := by
  pointwise [rows3]
  congr 2
  exact Fin.ext (by show a.val * 512 + l.val = 512 * a.val + l.val; omega)

end Cert.ReferenceIdeal.Hand

end
-- ==== Proof.RefFinal.lean ====
/- The reference's run over the extended reals: its seven results as functions of the arrays. -/
module

public import proofs.«01_k».proof.Proof.RefRows
public import proofs.«01_k».proof.Proof.Results
public import proofs.«01_k».proof.Proof.Gen.ReferenceIdeal.Value

@[expose] public section

set_option maxRecDepth 16384

noncomputable section

namespace Cert.ReferenceIdeal.Hand

open Cert.ReferenceIdeal Cert.ReferenceIdeal.Gen
open Cert.Rows (Par K amax scl fscale fcode zval iscale iquo icode isIn hterm hacc hsel hval yval parOf rowOf yRes xcRes xsRes zcRes zsRes hcRes hsRes)
open Idealize.ShloMosaic Idealize.ShloMosaic.TcCoe Idealize.SL.Sem

/-- A load through a whole buffer reads the box. -/
theorem readAt_box {F : FTy → Type} [FloatOps F] {sp : Space} {s : Shape} {e : EltTy} (M : Memref sig .tc sp s e) (h : M.IsWhole) (x : Vec F s e) (r : Rect s) (y : r.shape.Idx) (i : s.Idx)
    (hi : r.emb y = i) : View.readAt (Elt F) M.view r.toLoadRect (h.unread x) y = x i := by
  subst hi
  exact congrFun (h.read_unread x) (r.emb y)

section Reads

variable (arg0 : Memref sig .tc .smem S7 .i32) (harg0 : arg0.IsWhole) (arg1 : Memref sig .tc .vmem S1536x4096 .bf16) (harg1 : arg1.IsWhole) (arg2 : Memref sig .tc .vmem S4096x14336 .fp8e4m3) (harg2 : arg2.IsWhole) (arg3 : Memref sig .tc .vmem S1x14336 .f32) (harg3 : arg3.IsWhole) (arg4 : Memref sig .tc .vmem S256x4096 .fp8e4m3) (harg4 : arg4.IsWhole) (arg5 : Memref sig .tc .vmem S1x256 .f32) (harg5 : arg5.IsWhole) (arg6 : Memref sig .tc .vmem S7x256x256 .i8) (harg6 : arg6.IsWhole) (arg7 : Memref sig .tc .vmem S7x256 .f32) (harg7 : arg7.IsWhole) (arg8 : Memref sig .tc .vmem S256x14336 .fp8e4m3) (harg8 : arg8.IsWhole) (arg9 : Memref sig .tc .vmem S1x14336 .f32) (harg9 : arg9.IsWhole)
  (x0 : Vec Ideal S7 .i32) (x1 : Vec Ideal S1536x4096 .bf16) (x2 : Vec Ideal S4096x14336 .fp8e4m3) (x3 : Vec Ideal S1x14336 .f32) (x4 : Vec Ideal S256x4096 .fp8e4m3) (x5 : Vec Ideal S1x256 .f32) (x6 : Vec Ideal S7x256x256 .i8) (x7 : Vec Ideal S7x256 .f32) (x8 : Vec Ideal S256x14336 .fp8e4m3) (x9 : Vec Ideal S1x14336 .f32)

set_option maxHeartbeats 1000000 in
/-- The rows' parameters the run reads are those the operands hold. -/
theorem runIn_par : (runIn arg0 harg0 arg1 harg1 arg2 harg2 arg3 harg3 arg4 harg4 arg5 harg5 arg6 harg6 arg7 harg7 arg8 harg8 arg9 harg9 x0 x1 x2 x3 x4 x5 x6 x7 x8 x9).par = parOf x4 x5 x0 x6 x7 := by
  refine Rows.par_ext ?_ ?_ ?_ ?_ ?_
  · intro j k; exact readAt_box _ _ _ _ _ _ (Rows.emb2_whole _ j k)
  · intro j; exact readAt_box _ _ _ _ _ _ (Rows.emb2_whole _ 0 j)
  · intro n
    fin_cases n
    · exact readAt_box _ _ _ _ _ _ (Rows.emb1 _ _ (by decide))
    · exact readAt_box _ _ _ _ _ _ (Rows.emb1 _ _ (by decide))
    · exact readAt_box _ _ _ _ _ _ (Rows.emb1 _ _ (by decide))
    · exact readAt_box _ _ _ _ _ _ (Rows.emb1 _ _ (by decide))
    · exact readAt_box _ _ _ _ _ _ (Rows.emb1 _ _ (by decide))
    · exact readAt_box _ _ _ _ _ _ (Rows.emb1 _ _ (by decide))
    · exact readAt_box _ _ _ _ _ _ (Rows.emb1 _ _ (by decide))
  · intro n k j
    fin_cases n
    · exact congrArg (fun z : BitVec 8 => FloatOps.sitofp (F := Ideal) .bf16 z) (readAt_box arg6 harg6 x6 (Rect.unit (s := S7x256x256) ![0, 0, 0] S1x256x256.size inb_S7x256x256_S1x256x256_0_0_0) (ix3 0 k j) _ (Rows.emb3_row _ k j (by decide)))
    · exact congrArg (fun z : BitVec 8 => FloatOps.sitofp (F := Ideal) .bf16 z) (readAt_box arg6 harg6 x6 (Rect.unit (s := S7x256x256) ![1, 0, 0] S1x256x256.size inb_S7x256x256_S1x256x256_1_0_0) (ix3 0 k j) _ (Rows.emb3_row _ k j (by decide)))
    · exact congrArg (fun z : BitVec 8 => FloatOps.sitofp (F := Ideal) .bf16 z) (readAt_box arg6 harg6 x6 (Rect.unit (s := S7x256x256) ![2, 0, 0] S1x256x256.size inb_S7x256x256_S1x256x256_2_0_0) (ix3 0 k j) _ (Rows.emb3_row _ k j (by decide)))
    · exact congrArg (fun z : BitVec 8 => FloatOps.sitofp (F := Ideal) .bf16 z) (readAt_box arg6 harg6 x6 (Rect.unit (s := S7x256x256) ![3, 0, 0] S1x256x256.size inb_S7x256x256_S1x256x256_3_0_0) (ix3 0 k j) _ (Rows.emb3_row _ k j (by decide)))
    · exact congrArg (fun z : BitVec 8 => FloatOps.sitofp (F := Ideal) .bf16 z) (readAt_box arg6 harg6 x6 (Rect.unit (s := S7x256x256) ![4, 0, 0] S1x256x256.size inb_S7x256x256_S1x256x256_4_0_0) (ix3 0 k j) _ (Rows.emb3_row _ k j (by decide)))
    · exact congrArg (fun z : BitVec 8 => FloatOps.sitofp (F := Ideal) .bf16 z) (readAt_box arg6 harg6 x6 (Rect.unit (s := S7x256x256) ![5, 0, 0] S1x256x256.size inb_S7x256x256_S1x256x256_5_0_0) (ix3 0 k j) _ (Rows.emb3_row _ k j (by decide)))
    · exact congrArg (fun z : BitVec 8 => FloatOps.sitofp (F := Ideal) .bf16 z) (readAt_box arg6 harg6 x6 (Rect.unit (s := S7x256x256) ![6, 0, 0] S1x256x256.size inb_S7x256x256_S1x256x256_6_0_0) (ix3 0 k j) _ (Rows.emb3_row _ k j (by decide)))
  · intro n j
    fin_cases n
    · exact readAt_box _ _ _ _ _ _ (Rows.emb2_row _ j (by decide))
    · exact readAt_box _ _ _ _ _ _ (Rows.emb2_row _ j (by decide))
    · exact readAt_box _ _ _ _ _ _ (Rows.emb2_row _ j (by decide))
    · exact readAt_box _ _ _ _ _ _ (Rows.emb2_row _ j (by decide))
    · exact readAt_box _ _ _ _ _ _ (Rows.emb2_row _ j (by decide))
    · exact readAt_box _ _ _ _ _ _ (Rows.emb2_row _ j (by decide))
    · exact readAt_box _ _ _ _ _ _ (Rows.emb2_row _ j (by decide))

/-- Its rows are the operand's. -/
theorem runIn_row (n : Fin 1536) : xrow (runIn arg0 harg0 arg1 harg1 arg2 harg2 arg3 harg3 arg4 harg4 arg5 harg5 arg6 harg6 arg7 harg7 arg8 harg8 arg9 harg9 x0 x1 x2 x3 x4 x5 x6 x7 x8 x9).x n = rowOf x1 n := by
  funext k; exact readAt_box _ _ _ _ _ _ (Rows.emb2_whole _ n k)

/-- Its output, at an index. -/
theorem runIn_y (n : Fin 1536) (j : Fin 14336) : yOut (runIn arg0 harg0 arg1 harg1 arg2 harg2 arg3 harg3 arg4 harg4 arg5 harg5 arg6 harg6 arg7 harg7 arg8 harg8 arg9 harg9 x0 x1 x2 x3 x4 x5 x6 x7 x8 x9) (ix2 n j) = yRes (parOf x4 x5 x0 x6 x7) x1 x2 x3 x8 x9 (ix2 n j) := by
  rw [yOut_apply, runIn_par, runIn_row]
  have e1 : ∀ k, (runIn arg0 harg0 arg1 harg1 arg2 harg2 arg3 harg3 arg4 harg4 arg5 harg5 arg6 harg6 arg7 harg7 arg8 harg8 arg9 harg9 x0 x1 x2 x3 x4 x5 x6 x7 x8 x9).w (ix2 k j) = x2 (ix2 k j) := fun k => readAt_box _ _ _ _ _ _ (Rows.emb2_whole _ k j)
  have e2 : (runIn arg0 harg0 arg1 harg1 arg2 harg2 arg3 harg3 arg4 harg4 arg5 harg5 arg6 harg6 arg7 harg7 arg8 harg8 arg9 harg9 x0 x1 x2 x3 x4 x5 x6 x7 x8 x9).ws (ix2 0 j) = x3 (ix2 0 j) := readAt_box _ _ _ _ _ _ (Rows.emb2_whole _ 0 j)
  have e3 : ∀ k, (runIn arg0 harg0 arg1 harg1 arg2 harg2 arg3 harg3 arg4 harg4 arg5 harg5 arg6 harg6 arg7 harg7 arg8 harg8 arg9 harg9 x0 x1 x2 x3 x4 x5 x6 x7 x8 x9).u (ix2 k j) = x8 (ix2 k j) := fun k => readAt_box _ _ _ _ _ _ (Rows.emb2_whole _ k j)
  have e4 : (runIn arg0 harg0 arg1 harg1 arg2 harg2 arg3 harg3 arg4 harg4 arg5 harg5 arg6 harg6 arg7 harg7 arg8 harg8 arg9 harg9 x0 x1 x2 x3 x4 x5 x6 x7 x8 x9).us (ix2 0 j) = x9 (ix2 0 j) := readAt_box _ _ _ _ _ _ (Rows.emb2_whole _ 0 j)
  simp only [e1, e2, e3, e4]
  rfl

/-- The activations' codes, at an index. -/
theorem runIn_xc (n : Fin 1536) (k : Fin 4096) : xCode (runIn arg0 harg0 arg1 harg1 arg2 harg2 arg3 harg3 arg4 harg4 arg5 harg5 arg6 harg6 arg7 harg7 arg8 harg8 arg9 harg9 x0 x1 x2 x3 x4 x5 x6 x7 x8 x9).x (ix2 n k) = xcRes x1 (ix2 n k) := by
  rw [xCode_apply, runIn_row]; rfl

/-- The activations' scales, at an index. -/
theorem runIn_xs (a : Fin 3) (l : Fin 512) : rows3 (xScale (runIn arg0 harg0 arg1 harg1 arg2 harg2 arg3 harg3 arg4 harg4 arg5 harg5 arg6 harg6 arg7 harg7 arg8 harg8 arg9 harg9 x0 x1 x2 x3 x4 x5 x6 x7 x8 x9).x) (ix2 a l) = xsRes x1 (ix2 a l) := by
  rw [rows3_apply, xScale_apply, runIn_row]; rfl

/-- The int8 codes, at an index. -/
theorem runIn_zc (n : Fin 1536) (k : Fin 256) : zCode (runIn arg0 harg0 arg1 harg1 arg2 harg2 arg3 harg3 arg4 harg4 arg5 harg5 arg6 harg6 arg7 harg7 arg8 harg8 arg9 harg9 x0 x1 x2 x3 x4 x5 x6 x7 x8 x9) (ix2 n k) = zcRes (parOf x4 x5 x0 x6 x7) x1 (ix2 n k) := by
  rw [zCode_apply, runIn_par, runIn_row]; rfl

/-- The int8 scales, at an index. -/
theorem runIn_zs (a : Fin 3) (l : Fin 512) : rows3 (zScale (runIn arg0 harg0 arg1 harg1 arg2 harg2 arg3 harg3 arg4 harg4 arg5 harg5 arg6 harg6 arg7 harg7 arg8 harg8 arg9 harg9 x0 x1 x2 x3 x4 x5 x6 x7 x8 x9)) (ix2 a l) = zsRes (parOf x4 x5 x0 x6 x7) x1 (ix2 a l) := by
  rw [rows3_apply, zScale_apply, runIn_par, runIn_row]; rfl

/-- The second codes, at an index. -/
theorem runIn_hc (n : Fin 1536) (k : Fin 256) : hCode (runIn arg0 harg0 arg1 harg1 arg2 harg2 arg3 harg3 arg4 harg4 arg5 harg5 arg6 harg6 arg7 harg7 arg8 harg8 arg9 harg9 x0 x1 x2 x3 x4 x5 x6 x7 x8 x9) (ix2 n k) = hcRes (parOf x4 x5 x0 x6 x7) x1 (ix2 n k) := by
  rw [hCode_apply, runIn_par, runIn_row]; rfl

/-- The second scales, at an index. -/
theorem runIn_hs (a : Fin 3) (l : Fin 512) : rows3 (hScale (runIn arg0 harg0 arg1 harg1 arg2 harg2 arg3 harg3 arg4 harg4 arg5 harg5 arg6 harg6 arg7 harg7 arg8 harg8 arg9 harg9 x0 x1 x2 x3 x4 x5 x6 x7 x8 x9)) (ix2 a l) = hsRes (parOf x4 x5 x0 x6 x7) x1 (ix2 a l) := by
  rw [rows3_apply, hScale_apply, runIn_par, runIn_row]; rfl

end Reads

variable (m : (ℓ : Loc nD τ sig) → Buf (Elt Ideal) ℓ) (ρ : Dev nD → PrngReg)

/-- The rows' parameters the arrays hold at the region's start. -/
abbrev pR (c : Dev nD) : Par := parOf (V m c main_arg3) (V m c main_v2) (V m c main_arg9) (V m c main_arg5) (V m c main_arg6)

/-- Window 0's one block is its array. -/
theorem emb_blk0 (t : Fin cfg0.N) (y : S7.Idx) : ((cfg0.win 0).blk t).view.emb y = y := by
  rcases fin_N0 t with rfl
  funext a
  match a with
  | ⟨0, _⟩ => exact Fin.ext (by show 0 * _ + 1 * (y 0).val = (y 0).val; omega)

/-- Window 1's one block is its array. -/
theorem emb_blk1 (t : Fin cfg0.N) (y : S1536x4096.Idx) : ((cfg0.win 1).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 2's one block is its array. -/
theorem emb_blk2 (t : Fin cfg0.N) (y : S4096x14336.Idx) : ((cfg0.win 2).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 3's one block is its array. -/
theorem emb_blk3 (t : Fin cfg0.N) (y : S1x14336.Idx) : ((cfg0.win 3).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 4's one block is its array. -/
theorem emb_blk4 (t : Fin cfg0.N) (y : S256x4096.Idx) : ((cfg0.win 4).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 5's one block is its array. -/
theorem emb_blk5 (t : Fin cfg0.N) (y : S1x256.Idx) : ((cfg0.win 5).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 6's one block is its array. -/
theorem emb_blk6 (t : Fin cfg0.N) (y : S7x256x256.Idx) : ((cfg0.win 6).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)
  | ⟨2, _⟩ => exact Fin.ext (by show 0 * _ + 1 * (y 2).val = (y 2).val; omega)

/-- Window 7's one block is its array. -/
theorem emb_blk7 (t : Fin cfg0.N) (y : S7x256.Idx) : ((cfg0.win 7).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 8's one block is its array. -/
theorem emb_blk8 (t : Fin cfg0.N) (y : S256x14336.Idx) : ((cfg0.win 8).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 9's one block is its array. -/
theorem emb_blk9 (t : Fin cfg0.N) (y : S1x14336.Idx) : ((cfg0.win 9).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 10's one block is its array. -/
theorem emb_blk10 (t : Fin cfg0.N) (y : S1536x14336.Idx) : ((cfg0.win 10).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 11's one block is its array. -/
theorem emb_blk11 (t : Fin cfg0.N) (y : S1536x4096.Idx) : ((cfg0.win 11).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 12's one block is its array. -/
theorem emb_blk12 (t : Fin cfg0.N) (y : S3x512.Idx) : ((cfg0.win 12).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 13's one block is its array. -/
theorem emb_blk13 (t : Fin cfg0.N) (y : S1536x256.Idx) : ((cfg0.win 13).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 14's one block is its array. -/
theorem emb_blk14 (t : Fin cfg0.N) (y : S3x512.Idx) : ((cfg0.win 14).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 15's one block is its array. -/
theorem emb_blk15 (t : Fin cfg0.N) (y : S1536x256.Idx) : ((cfg0.win 15).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- Window 16's one block is its array. -/
theorem emb_blk16 (t : Fin cfg0.N) (y : S3x512.Idx) : ((cfg0.win 16).blk t).view.emb y = y := by
  rcases fin_N0 t with rfl
  funext a
  match a with
  | ⟨0, _⟩ => exact Fin.ext (by show 0 * _ + 1 * (y 0).val = (y 0).val; omega)
  | ⟨1, _⟩ => exact Fin.ext (by show 0 * _ + 1 * (y 1).val = (y 1).val; omega)

/-- What window 0 stages is its array. -/
theorem iblk0 (c : Dev nD) (t : Fin cfg0.N) : iblk m c 0 t = V m c main_arg9 := funext fun y => congrArg (V m c main_arg9) (emb_blk0 t y)

/-- What window 1 stages is its array. -/
theorem iblk1 (c : Dev nD) (t : Fin cfg0.N) : iblk m c 1 t = V m c main_v0 := funext fun y => congrArg (V m c main_v0) (emb_blk1 t y)

/-- What window 2 stages is its array. -/
theorem iblk2 (c : Dev nD) (t : Fin cfg0.N) : iblk m c 2 t = V m c main_arg1 := funext fun y => congrArg (V m c main_arg1) (emb_blk2 t y)

/-- What window 3 stages is its array. -/
theorem iblk3 (c : Dev nD) (t : Fin cfg0.N) : iblk m c 3 t = V m c main_v1 := funext fun y => congrArg (V m c main_v1) (emb_blk3 t y)

/-- What window 4 stages is its array. -/
theorem iblk4 (c : Dev nD) (t : Fin cfg0.N) : iblk m c 4 t = V m c main_arg3 := funext fun y => congrArg (V m c main_arg3) (emb_blk4 t y)

/-- What window 5 stages is its array. -/
theorem iblk5 (c : Dev nD) (t : Fin cfg0.N) : iblk m c 5 t = V m c main_v2 := funext fun y => congrArg (V m c main_v2) (emb_blk5 t y)

/-- What window 6 stages is its array. -/
theorem iblk6 (c : Dev nD) (t : Fin cfg0.N) : iblk m c 6 t = V m c main_arg5 := funext fun y => congrArg (V m c main_arg5) (emb_blk6 t y)

/-- What window 7 stages is its array. -/
theorem iblk7 (c : Dev nD) (t : Fin cfg0.N) : iblk m c 7 t = V m c main_arg6 := funext fun y => congrArg (V m c main_arg6) (emb_blk7 t y)

/-- What window 8 stages is its array. -/
theorem iblk8 (c : Dev nD) (t : Fin cfg0.N) : iblk m c 8 t = V m c main_arg7 := funext fun y => congrArg (V m c main_arg7) (emb_blk8 t y)

/-- What window 9 stages is its array. -/
theorem iblk9 (c : Dev nD) (t : Fin cfg0.N) : iblk m c 9 t = V m c main_v3 := funext fun y => congrArg (V m c main_v3) (emb_blk9 t y)

/-- What the one point writes back to window 10's array. -/
theorem flushed10 (c : Dev nD) (t : Fin cfg0.N) :
    (dats m 0 c).flushed 10 t = ((cfg0.win 10).blk t).view.read (Elt Ideal) (yRes (pR m c) (V m c main_v0) (V m c main_arg1) (V m c main_v1) (V m c main_arg7) (V m c main_v3) : S1536x14336.Idx → _) := by
  rw [Value.flushed10_A, out10]
  funext y
  refine Eq.trans ?_ (congrArg (yRes (pR m c) (V m c main_v0) (V m c main_arg1) (V m c main_v1) (V m c main_arg7) (V m c main_v3) : S1536x14336.Idx → _) (emb_blk10 t y)).symm
  obtain ⟨a, b, rfl⟩ : ∃ a b, y = (ix2 a b : S1536x14336.Idx) := ⟨y 0, y 1, eq_ix2 y⟩
  refine (runIn_y (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _ a b).trans ?_
  rw [iblk0, iblk1, iblk2, iblk3, iblk4, iblk5, iblk6, iblk7, iblk8, iblk9]

/-- So its array ends holding it. -/
theorem final10 (c : Dev nD) : (dats m 0 c).arrAt 10 cfg0.N = (yRes (pR m c) (V m c main_v0) (V m c main_arg1) (V m c main_v1) (V m c main_arg7) (V m c main_v3) : S1536x14336.Idx → _) :=
  (dats m 0 c).arrAt_eq_of_cover 10 _ (fun t _ => flushed10 m c t) fun i => ⟨t0_0, flush0_10 _, Finset.mem_map.mpr ⟨i, Finset.mem_univ _, emb_blk10 t0_0 i⟩⟩

/-- What the one point writes back to window 11's array. -/
theorem flushed11 (c : Dev nD) (t : Fin cfg0.N) :
    (dats m 0 c).flushed 11 t = ((cfg0.win 11).blk t).view.read (Elt Ideal) (xcRes (V m c main_v0) : S1536x4096.Idx → _) := by
  rw [Value.flushed11_A, out11]
  funext y
  refine Eq.trans ?_ (congrArg (xcRes (V m c main_v0) : S1536x4096.Idx → _) (emb_blk11 t y)).symm
  obtain ⟨a, b, rfl⟩ : ∃ a b, y = (ix2 a b : S1536x4096.Idx) := ⟨y 0, y 1, eq_ix2 y⟩
  refine (runIn_xc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _ a b).trans ?_
  rw [iblk1]

/-- So its array ends holding it. -/
theorem final11 (c : Dev nD) : (dats m 0 c).arrAt 11 cfg0.N = (xcRes (V m c main_v0) : S1536x4096.Idx → _) :=
  (dats m 0 c).arrAt_eq_of_cover 11 _ (fun t _ => flushed11 m c t) fun i => ⟨t0_0, flush0_11 _, Finset.mem_map.mpr ⟨i, Finset.mem_univ _, emb_blk11 t0_0 i⟩⟩

/-- What the one point writes back to window 12's array. -/
theorem flushed12 (c : Dev nD) (t : Fin cfg0.N) :
    (dats m 0 c).flushed 12 t = ((cfg0.win 12).blk t).view.read (Elt Ideal) (xsRes (V m c main_v0) : S3x512.Idx → _) := by
  rw [Value.flushed12_A, out12]
  funext y
  refine Eq.trans ?_ (congrArg (xsRes (V m c main_v0) : S3x512.Idx → _) (emb_blk12 t y)).symm
  obtain ⟨a, b, rfl⟩ : ∃ a b, y = (ix2 a b : S3x512.Idx) := ⟨y 0, y 1, eq_ix2 y⟩
  refine (runIn_xs (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _ a b).trans ?_
  rw [iblk1]

/-- So its array ends holding it. -/
theorem final12 (c : Dev nD) : (dats m 0 c).arrAt 12 cfg0.N = (xsRes (V m c main_v0) : S3x512.Idx → _) :=
  (dats m 0 c).arrAt_eq_of_cover 12 _ (fun t _ => flushed12 m c t) fun i => ⟨t0_0, flush0_12 _, Finset.mem_map.mpr ⟨i, Finset.mem_univ _, emb_blk12 t0_0 i⟩⟩

/-- What the one point writes back to window 13's array. -/
theorem flushed13 (c : Dev nD) (t : Fin cfg0.N) :
    (dats m 0 c).flushed 13 t = ((cfg0.win 13).blk t).view.read (Elt Ideal) (zcRes (pR m c) (V m c main_v0) : S1536x256.Idx → _) := by
  rw [Value.flushed13_A, out13]
  funext y
  refine Eq.trans ?_ (congrArg (zcRes (pR m c) (V m c main_v0) : S1536x256.Idx → _) (emb_blk13 t y)).symm
  obtain ⟨a, b, rfl⟩ : ∃ a b, y = (ix2 a b : S1536x256.Idx) := ⟨y 0, y 1, eq_ix2 y⟩
  refine (runIn_zc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _ a b).trans ?_
  rw [iblk0, iblk1, iblk4, iblk5, iblk6, iblk7]

/-- So its array ends holding it. -/
theorem final13 (c : Dev nD) : (dats m 0 c).arrAt 13 cfg0.N = (zcRes (pR m c) (V m c main_v0) : S1536x256.Idx → _) :=
  (dats m 0 c).arrAt_eq_of_cover 13 _ (fun t _ => flushed13 m c t) fun i => ⟨t0_0, flush0_13 _, Finset.mem_map.mpr ⟨i, Finset.mem_univ _, emb_blk13 t0_0 i⟩⟩

/-- What the one point writes back to window 14's array. -/
theorem flushed14 (c : Dev nD) (t : Fin cfg0.N) :
    (dats m 0 c).flushed 14 t = ((cfg0.win 14).blk t).view.read (Elt Ideal) (zsRes (pR m c) (V m c main_v0) : S3x512.Idx → _) := by
  rw [Value.flushed14_A, out14]
  funext y
  refine Eq.trans ?_ (congrArg (zsRes (pR m c) (V m c main_v0) : S3x512.Idx → _) (emb_blk14 t y)).symm
  obtain ⟨a, b, rfl⟩ : ∃ a b, y = (ix2 a b : S3x512.Idx) := ⟨y 0, y 1, eq_ix2 y⟩
  refine (runIn_zs (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _ a b).trans ?_
  rw [iblk0, iblk1, iblk4, iblk5, iblk6, iblk7]

/-- So its array ends holding it. -/
theorem final14 (c : Dev nD) : (dats m 0 c).arrAt 14 cfg0.N = (zsRes (pR m c) (V m c main_v0) : S3x512.Idx → _) :=
  (dats m 0 c).arrAt_eq_of_cover 14 _ (fun t _ => flushed14 m c t) fun i => ⟨t0_0, flush0_14 _, Finset.mem_map.mpr ⟨i, Finset.mem_univ _, emb_blk14 t0_0 i⟩⟩

/-- What the one point writes back to window 15's array. -/
theorem flushed15 (c : Dev nD) (t : Fin cfg0.N) :
    (dats m 0 c).flushed 15 t = ((cfg0.win 15).blk t).view.read (Elt Ideal) (hcRes (pR m c) (V m c main_v0) : S1536x256.Idx → _) := by
  rw [Value.flushed15_A, out15]
  funext y
  refine Eq.trans ?_ (congrArg (hcRes (pR m c) (V m c main_v0) : S1536x256.Idx → _) (emb_blk15 t y)).symm
  obtain ⟨a, b, rfl⟩ : ∃ a b, y = (ix2 a b : S1536x256.Idx) := ⟨y 0, y 1, eq_ix2 y⟩
  refine (runIn_hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _ a b).trans ?_
  rw [iblk0, iblk1, iblk4, iblk5, iblk6, iblk7]

/-- So its array ends holding it. -/
theorem final15 (c : Dev nD) : (dats m 0 c).arrAt 15 cfg0.N = (hcRes (pR m c) (V m c main_v0) : S1536x256.Idx → _) :=
  (dats m 0 c).arrAt_eq_of_cover 15 _ (fun t _ => flushed15 m c t) fun i => ⟨t0_0, flush0_15 _, Finset.mem_map.mpr ⟨i, Finset.mem_univ _, emb_blk15 t0_0 i⟩⟩

/-- What the one point writes back to window 16's array. -/
theorem flushed16 (c : Dev nD) (t : Fin cfg0.N) :
    (dats m 0 c).flushed 16 t = ((cfg0.win 16).blk t).view.read (Elt Ideal) (hsRes (pR m c) (V m c main_v0) : S3x512.Idx → _) := by
  rw [Value.flushed16_A, out16]
  funext y
  refine Eq.trans ?_ (congrArg (hsRes (pR m c) (V m c main_v0) : S3x512.Idx → _) (emb_blk16 t y)).symm
  obtain ⟨a, b, rfl⟩ : ∃ a b, y = (ix2 a b : S3x512.Idx) := ⟨y 0, y 1, eq_ix2 y⟩
  refine (runIn_hs (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _ a b).trans ?_
  rw [iblk0, iblk1, iblk4, iblk5, iblk6, iblk7]

/-- So its array ends holding it. -/
theorem final16 (c : Dev nD) : (dats m 0 c).arrAt 16 cfg0.N = (hsRes (pR m c) (V m c main_v0) : S3x512.Idx → _) :=
  (dats m 0 c).arrAt_eq_of_cover 16 _ (fun t _ => flushed16 m c t) fun i => ⟨t0_0, flush0_16 _, Finset.mem_map.mpr ⟨i, Finset.mem_univ _, emb_blk16 t0_0 i⟩⟩

end Cert.ReferenceIdeal.Hand

end
-- ==== Proof.Algebraic.lean ====
/- The idealized kernel and the idealized reference end with the same seven results. -/
module

public import proofs.«01_k».proof.Defs
public import proofs.«01_k».proof.Proof.KernelFinal
public import proofs.«01_k».proof.Proof.RefFinal
public import proofs.«01_k».proof.Proof.Gen.Kernel
public import proofs.«01_k».proof.Proof.Gen.KernelIdeal
public import proofs.«01_k».proof.Proof.Gen.ReferenceIdeal

@[expose] public section

noncomputable section

namespace Cert.KernelIdeal.Hand

open Cert.KernelIdeal Cert.KernelIdeal.Gen
open Cert.Rows (parOf yRes xcRes xsRes zcRes zsRes hcRes hsRes)
open Idealize.ShloMosaic Idealize.ShloMosaic.TcCoe Idealize.SL.Sem

variable (m : (ℓ : Loc nD τ sig) → Buf (Elt Idealize.ShloMosaic.Ideal) ℓ) (ρ : Dev nD → PrngReg)

/-- The activations as the region finds them: the argument, its rows in one list. -/
theorem V_v0 (c : Dev nD) : V m c main_v0 = shapeCast S1536x4096 (m ((c.tc : Thread nD τ).loc main_arg0)) shapeCasts_S3x512x4096_S1536x4096 := rfl

/-- The weights' scales as the region finds them. -/
theorem V_v1 (c : Dev nD) : V m c main_v1 = shapeCast S1x14336 (m ((c.tc : Thread nD τ).loc main_arg2)) shapeCasts_S14336_S1x14336 := rfl

/-- The down projection's scales as the region finds them. -/
theorem V_v2 (c : Dev nD) : V m c main_v2 = shapeCast S1x256 (m ((c.tc : Thread nD τ).loc main_arg4)) shapeCasts_S256_S1x256 := rfl

/-- The up projection's scales as the region finds them. -/
theorem V_v3 (c : Dev nD) : V m c main_v3 = shapeCast S1x14336 (m ((c.tc : Thread nD τ).loc main_arg8)) shapeCasts_S14336_S1x14336 := rfl

/-- The kernel's run: its seven results and its unchanged arguments. -/
theorem run_results : θ_run defs (onTc (τ := τ) (main (F := Idealize.ShloMosaic.Ideal))) ⟨m, fun _ => 0, ρ⟩ fun r => ∀ c : Dev nD,
      r.2.mem ((c.tc : Thread nD τ).loc main_v4_0) = yK m c
      ∧ r.2.mem ((c.tc : Thread nD τ).loc main_v4_1) = xcRes (V m c main_v0)
      ∧ r.2.mem ((c.tc : Thread nD τ).loc main_v4_2) = xsRes (V m c main_v0)
      ∧ r.2.mem ((c.tc : Thread nD τ).loc main_v4_3) = zcRes (pK m c) (V m c main_v0)
      ∧ r.2.mem ((c.tc : Thread nD τ).loc main_v4_4) = zsRes (pK m c) (V m c main_v0)
      ∧ r.2.mem ((c.tc : Thread nD τ).loc main_v4_5) = hcRes (pK m c) (V m c main_v0)
      ∧ r.2.mem ((c.tc : Thread nD τ).loc main_v4_6) = hsRes (pK m c) (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => by
    have hy : Yend m c main_v4_1 = arr19 (X m c) := by unfold Yend; rw [Function.update_self]
    exact ⟨((h.1 c).1 9).trans (final9 m c), ((h.1 c).2.1 main_v4_1 (by decide)).trans (hy.trans (finalCopy m c)), ((h.1 c).1 10).trans (final10 m c),
      ((h.1 c).1 11).trans (final11 m c), ((h.1 c).1 12).trans (final12 m c), ((h.1 c).1 13).trans (final13 m c), ((h.1 c).1 14).trans (final14 m c),
      args_kept m h.1 c⟩) (run_main m ρ)

end Cert.KernelIdeal.Hand

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Idealize.ShloMosaic.Ideal) ℓ)

/-- The activations as the region finds them: the argument, its rows in one list. -/
theorem V_v0 (c : Dev nD) : V m c main_v0 = shapeCast S1536x4096 (m ((c.tc : Thread nD τ).loc main_arg0)) shapeCasts_S3x512x4096_S1536x4096 := rfl

/-- The weights' scales as the region finds them. -/
theorem V_v1 (c : Dev nD) : V m c main_v1 = shapeCast S1x14336 (m ((c.tc : Thread nD τ).loc main_arg2)) shapeCasts_S14336_S1x14336 := rfl

/-- The down projection's scales as the region finds them. -/
theorem V_v2 (c : Dev nD) : V m c main_v2 = shapeCast S1x256 (m ((c.tc : Thread nD τ).loc main_arg4)) shapeCasts_S256_S1x256 := rfl

/-- The up projection's scales as the region finds them. -/
theorem V_v3 (c : Dev nD) : V m c main_v3 = shapeCast S1x14336 (m ((c.tc : Thread nD τ).loc main_arg8)) shapeCasts_S14336_S1x14336 := rfl

end Cert.ReferenceIdeal.Hand

namespace Cert.Proof

open Cert.Rows (Par parOf yRes xcRes xsRes zcRes zsRes hcRes hsRes)
open Idealize.ShloMosaic Idealize.SL.Sem

/-- Equal arrays give equal parameters. -/
theorem parOf_congr {v v' : Vec Idealize.ShloMosaic.Ideal ⟨2, ![256, 4096]⟩ .fp8e4m3} {vs vs' : Vec Idealize.ShloMosaic.Ideal ⟨2, ![1, 256]⟩ .f32} {g g' : Vec Idealize.ShloMosaic.Ideal ⟨1, ![7]⟩ .i32}
    {sg sg' : Vec Idealize.ShloMosaic.Ideal ⟨3, ![7, 256, 256]⟩ .i8} {ss ss' : Vec Idealize.ShloMosaic.Ideal ⟨2, ![7, 256]⟩ .f32}
    (hv : v = v') (hvs : vs = vs') (hg : g = g') (hsg : sg = sg') (hss : ss = ss') : parOf v vs g sg ss = parOf v' vs' g' sg' ss' := by
  subst hv hvs hg hsg hss; rfl

/-- Equal arrays give an equal output. -/
theorem yRes_congr {P P' : Par} {x x' : Vec Idealize.ShloMosaic.Ideal ⟨2, ![1536, 4096]⟩ .bf16} {w w' : Vec Idealize.ShloMosaic.Ideal ⟨2, ![4096, 14336]⟩ .fp8e4m3}
    {ws ws' : Vec Idealize.ShloMosaic.Ideal ⟨2, ![1, 14336]⟩ .f32} {u u' : Vec Idealize.ShloMosaic.Ideal ⟨2, ![256, 14336]⟩ .fp8e4m3} {us us' : Vec Idealize.ShloMosaic.Ideal ⟨2, ![1, 14336]⟩ .f32}
    (hP : P = P') (hx : x = x') (hw : w = w') (hws : ws = ws') (hu : u = u') (hus : us = us') : yRes P x w ws u us = yRes P' x' w' ws' u' us' := by
  subst hP hx hw hws hu hus; rfl

/-- From equal arguments, over the extended reals, the idealized kernel and the idealized reference end with the same seven results, and both leave their arguments. -/
theorem algebraic : algebraic_KernelIdeal_ReferenceIdeal (hKernelIdeal := Cert.KernelIdeal.Gen.facts) (hReferenceIdeal := Cert.ReferenceIdeal.Gen.facts) := by
  intro m g m' g' _ ha
  refine ⟨fun c => Cert.KernelIdeal.Hand.yK m c, fun c => xcRes (Cert.KernelIdeal.Gen.V m c Cert.KernelIdeal.main_v0), fun c => xsRes (Cert.KernelIdeal.Gen.V m c Cert.KernelIdeal.main_v0),
    fun c => zcRes (Cert.KernelIdeal.Hand.pK m c) (Cert.KernelIdeal.Gen.V m c Cert.KernelIdeal.main_v0), fun c => zsRes (Cert.KernelIdeal.Hand.pK m c) (Cert.KernelIdeal.Gen.V m c Cert.KernelIdeal.main_v0),
    fun c => hcRes (Cert.KernelIdeal.Hand.pK m c) (Cert.KernelIdeal.Gen.V m c Cert.KernelIdeal.main_v0), fun c => hsRes (Cert.KernelIdeal.Hand.pK m c) (Cert.KernelIdeal.Gen.V m c Cert.KernelIdeal.main_v0),
    Cert.KernelIdeal.Hand.run_results m g, ?_⟩
  refine (θ_run Cert.ReferenceIdeal.defs _ _).mono (fun r h c => ?_) (Cert.ReferenceIdeal.Value.run_blocks m' g')
  obtain ⟨e0, e1, e2, e3, e4, e5, e6, e7, e8, e9⟩ := ha c
  obtain ⟨r0, r1, r2, r3, r4, r5, r6, hargs⟩ := h c
  have x0 : (Cert.ReferenceIdeal.Gen.V m' c Cert.ReferenceIdeal.main_v0 : Vec Idealize.ShloMosaic.Ideal ⟨2, ![1536, 4096]⟩ .bf16) = Cert.KernelIdeal.Gen.V m c Cert.KernelIdeal.main_v0 :=
    (Cert.ReferenceIdeal.Hand.V_v0 m' c).trans ((congrArg (fun z => shapeCast _ z Cert.KernelIdeal.Gen.shapeCasts_S3x512x4096_S1536x4096) e0).trans (Cert.KernelIdeal.Hand.V_v0 m c).symm)
  have x1 : (Cert.ReferenceIdeal.Gen.V m' c Cert.ReferenceIdeal.main_v1 : Vec Idealize.ShloMosaic.Ideal ⟨2, ![1, 14336]⟩ .f32) = Cert.KernelIdeal.Gen.V m c Cert.KernelIdeal.main_v1 :=
    (Cert.ReferenceIdeal.Hand.V_v1 m' c).trans ((congrArg (fun z => shapeCast _ z Cert.KernelIdeal.Gen.shapeCasts_S14336_S1x14336) e2).trans (Cert.KernelIdeal.Hand.V_v1 m c).symm)
  have x2 : (Cert.ReferenceIdeal.Gen.V m' c Cert.ReferenceIdeal.main_v2 : Vec Idealize.ShloMosaic.Ideal ⟨2, ![1, 256]⟩ .f32) = Cert.KernelIdeal.Gen.V m c Cert.KernelIdeal.main_v2 :=
    (Cert.ReferenceIdeal.Hand.V_v2 m' c).trans ((congrArg (fun z => shapeCast _ z Cert.KernelIdeal.Gen.shapeCasts_S256_S1x256) e4).trans (Cert.KernelIdeal.Hand.V_v2 m c).symm)
  have x3 : (Cert.ReferenceIdeal.Gen.V m' c Cert.ReferenceIdeal.main_v3 : Vec Idealize.ShloMosaic.Ideal ⟨2, ![1, 14336]⟩ .f32) = Cert.KernelIdeal.Gen.V m c Cert.KernelIdeal.main_v3 :=
    (Cert.ReferenceIdeal.Hand.V_v3 m' c).trans ((congrArg (fun z => shapeCast _ z Cert.KernelIdeal.Gen.shapeCasts_S14336_S1x14336) e8).trans (Cert.KernelIdeal.Hand.V_v3 m c).symm)
  have hP : Cert.ReferenceIdeal.Hand.pR m' c = Cert.KernelIdeal.Hand.pK m c :=
    parOf_congr ((Cert.ReferenceIdeal.Gen.V_main_arg3 m' c).trans (e3.trans (Cert.KernelIdeal.Gen.V_main_arg3 m c).symm)) x2
      ((Cert.ReferenceIdeal.Gen.V_main_arg9 m' c).trans (e9.trans (Cert.KernelIdeal.Gen.V_main_arg9 m c).symm))
      ((Cert.ReferenceIdeal.Gen.V_main_arg5 m' c).trans (e5.trans (Cert.KernelIdeal.Gen.V_main_arg5 m c).symm))
      ((Cert.ReferenceIdeal.Gen.V_main_arg6 m' c).trans (e6.trans (Cert.KernelIdeal.Gen.V_main_arg6 m c).symm))
  refine ⟨r0.trans ((Cert.ReferenceIdeal.Hand.final10 m' c).trans (yRes_congr hP x0 ((Cert.ReferenceIdeal.Gen.V_main_arg1 m' c).trans (e1.trans (Cert.KernelIdeal.Gen.V_main_arg1 m c).symm)) x1
      ((Cert.ReferenceIdeal.Gen.V_main_arg7 m' c).trans (e7.trans (Cert.KernelIdeal.Gen.V_main_arg7 m c).symm)) x3)),
    r1.trans ((Cert.ReferenceIdeal.Hand.final11 m' c).trans (congrArg xcRes x0)), r2.trans ((Cert.ReferenceIdeal.Hand.final12 m' c).trans (congrArg xsRes x0)),
    r3.trans ((Cert.ReferenceIdeal.Hand.final13 m' c).trans (congrArg₂ zcRes hP x0)), r4.trans ((Cert.ReferenceIdeal.Hand.final14 m' c).trans (congrArg₂ zsRes hP x0)),
    r5.trans ((Cert.ReferenceIdeal.Hand.final15 m' c).trans (congrArg₂ hcRes hP x0)), r6.trans ((Cert.ReferenceIdeal.Hand.final16 m' c).trans (congrArg₂ hsRes hP x0)), hargs⟩

end Cert.Proof

end
-- ==== Proof.lean ====
/- The proof of the certificate: the three frames, and that the idealized kernel preserves the printed one, and that
   over the extended reals the idealized kernel and the reference end with the same seven results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Frames
public import proofs.«01_k».proof.Proof.Algebraic

@[expose] public section

noncomputable section

namespace Cert.Proof

/-- Everything the certificate claims. -/
theorem claim : Cert.Claim := ⟨Cert.Kernel.Gen.facts, Cert.KernelIdeal.Gen.facts, Cert.ReferenceIdeal.Gen.facts,
  kernel_frame, kernelIdeal_frame, referenceIdeal_frame, trivial, algebraic⟩

end Cert.Proof

end
